-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "thousandth" .f32 0x3A83126F#32 ((1 / 1000 : ℝ) : EReal)
  ∧ IdealRules.named_const.Statement Cert.KernelIdeal.κ "log_floor" .f32 0xC28A27B5#32 ((Real.log (332307 / 332306998946228968225951765070086144) : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S6400000x2 : Shape := ⟨2, ![6400000, 2]⟩
abbrev S6400000 : Shape := ⟨1, ![6400000]⟩
abbrev S_ : Shape := ⟨0, ![]⟩

class Facts : Prop where
  bcast_S_S6400000x2 : S_.BroadcastsInDim S6400000x2 (![] : Fin 0 → Fin S6400000x2.rank)
  bcast_S_S6400000 : S_.BroadcastsInDim S6400000 (![] : Fin 0 → Fin S6400000.rank)

variable [Facts]

def fn {F : FTy → Type} [FloatOps F] (main_arg0 : FVec F S6400000x2 .f32) (main_arg1 : IVec S6400000 32) (main_arg2 : IVec S6400000 32) : IVec S6400000x2 1 × IVec S6400000 1 × IVec S6400000 1 :=
  let main_cst : FVec F S_ .f32 := constant S_ .f32 0xFF800000#32
  let main_v0 : FVec F S6400000x2 .f32 := broadcastInDim S6400000x2 ![] bcast_S_S6400000x2 main_cst
  let main_v1 : IVec S6400000x2 1 := cmpf .ogt main_arg0 main_v0
  let main_cst_0 : FVec F S_ .f32 := constant S_ .f32 0x7F800000#32
  let main_v2 : FVec F S6400000x2 .f32 := broadcastInDim S6400000x2 ![] bcast_S_S6400000x2 main_cst_0
  let main_v3 : IVec S6400000x2 1 := cmpf .olt main_arg0 main_v2
  let main_v4 : IVec S6400000x2 1 := andi main_v1 main_v3
  let main_c : IVec S_ 32 := constantI S_ 32 0#32
  let main_v5 : IVec S6400000 32 := broadcastInDim S6400000 ![] bcast_S_S6400000 main_c
  let main_v6 : IVec S6400000 1 := cmpi .sge main_arg1 main_v5
  let main_c_1 : IVec S_ 32 := constantI S_ 32 2#32
  let main_v7 : IVec S6400000 32 := broadcastInDim S6400000 ![] bcast_S_S6400000 main_c_1
  let main_v8 : IVec S6400000 1 := cmpi .slt main_arg1 main_v7
  let main_v9 : IVec S6400000 1 := andi main_v6 main_v8
  let main_c_2 : IVec S_ 32 := constantI S_ 32 0#32
  let main_v10 : IVec S6400000 32 := broadcastInDim S6400000 ![] bcast_S_S6400000 main_c_2
  let main_v11 : IVec S6400000 1 := cmpi .sge main_arg2 main_v10
  let main_c_3 : IVec S_ 32 := constantI S_ 32 1000#32
  let main_v12 : IVec S6400000 32 := broadcastInDim S6400000 ![] bcast_S_S6400000 main_c_3
  let main_v13 : IVec S6400000 1 := cmpi .slt main_arg2 main_v12
  let main_v14 : IVec S6400000 1 := andi main_v11 main_v13
  (main_v4, main_v9, main_v14)
-- ==== Kernel.lean ====
abbrev S6400000x2 : Shape := ⟨2, ![6400000, 2]⟩
abbrev S6400000 : Shape := ⟨1, ![6400000]⟩
abbrev S50000x256 : Shape := ⟨2, ![50000, 256]⟩
abbrev S50000x128 : Shape := ⟨2, ![50000, 128]⟩
abbrev S_ : Shape := ⟨0, ![]⟩
abbrev S1 : Shape := ⟨1, ![1]⟩
abbrev S2 : Shape := ⟨1, ![2]⟩
abbrev S1x1 : Shape := ⟨2, ![1, 1]⟩
abbrev S400x256 : Shape := ⟨2, ![400, 256]⟩
abbrev S400x128 : Shape := ⟨2, ![400, 128]⟩
abbrev S128x256 : Shape := ⟨2, ![128, 256]⟩

abbrev nBuf : Space → Nat
  | .hbm => 291
  | .vmem => 12
  | .smem => 0
  | _ => 0

abbrev hbmTy0_0 (i : Nat) : BufTy := match i % 128 with
  | 0 => ⟨S6400000x2, .f32⟩
  | 1 => ⟨S6400000, .i32⟩
  | 2 => ⟨S6400000, .i32⟩
  | 3 => ⟨S50000x256, .f32⟩
  | 4 => ⟨S50000x128, .i32⟩
  | 5 => ⟨S50000x128, .i32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S_, .f32⟩
  | 17 => ⟨S_, .f32⟩
  | 18 => ⟨S_, .f32⟩
  | 19 => ⟨S_, .f32⟩
  | 20 => ⟨S1x1, .f32⟩
  | 21 => ⟨S1x1, .f32⟩
  | 22 => ⟨S1, .i32⟩
  | 23 => ⟨S_, .i32⟩
  | 24 => ⟨S1, .i32⟩
  | 25 => ⟨S_, .i32⟩
  | 26 => ⟨S6400000x2, .i64⟩
  | 27 => ⟨S6400000x2, .i64⟩
  | 28 => ⟨S_, .i64⟩
  | 29 => ⟨S6400000x2, .i64⟩
  | 30 => ⟨S6400000x2, .i64⟩
  | 31 => ⟨S_, .i64⟩
  | 32 => ⟨S6400000x2, .i64⟩
  | 33 => ⟨S6400000x2, .i64⟩
  | 34 => ⟨S6400000x2, .i64⟩
  | 35 => ⟨S_, .i64⟩
  | 36 => ⟨S6400000x2, .i64⟩
  | 37 => ⟨S6400000x2, .i64⟩
  | 38 => ⟨S6400000x2, .i32⟩
  | 39 => ⟨S6400000x2, .i32⟩
  | 40 => ⟨S_, .i32⟩
  | 41 => ⟨S_, .i32⟩
  | 42 => ⟨S_, .i32⟩
  | 43 => ⟨S6400000x2, .i32⟩
  | 44 => ⟨S6400000x2, .i32⟩
  | 45 => ⟨S6400000x2, .i32⟩
  | 46 => ⟨S6400000x2, .i32⟩
  | 47 => ⟨S6400000x2, .i32⟩
  | 48 => ⟨S_, .i32⟩
  | 49 => ⟨S6400000x2, .i32⟩
  | 50 => ⟨S6400000x2, .i32⟩
  | 51 => ⟨S_, .i32⟩
  | 52 => ⟨S6400000x2, .i32⟩
  | 53 => ⟨S6400000x2, .i32⟩
  | 54 => ⟨S6400000x2, .i32⟩
  | 55 => ⟨S6400000x2, .i32⟩
  | 56 => ⟨S6400000x2, .i32⟩
  | 57 => ⟨S_, .i32⟩
  | 58 => ⟨S6400000x2, .i32⟩
  | 59 => ⟨S6400000x2, .i32⟩
  | 60 => ⟨S_, .i32⟩
  | 61 => ⟨S6400000x2, .i32⟩
  | 62 => ⟨S6400000x2, .i32⟩
  | 63 => ⟨S6400000x2, .i32⟩
  | 64 => ⟨S6400000x2, .i32⟩
  | 65 => ⟨S6400000x2, .i32⟩
  | 66 => ⟨S_, .i32⟩
  | 67 => ⟨S6400000x2, .i32⟩
  | 68 => ⟨S6400000x2, .i32⟩
  | 69 => ⟨S_, .i32⟩
  | 70 => ⟨S6400000x2, .i32⟩
  | 71 => ⟨S6400000x2, .i32⟩
  | 72 => ⟨S6400000x2, .i32⟩
  | 73 => ⟨S6400000x2, .i32⟩
  | 74 => ⟨S6400000x2, .i32⟩
  | 75 => ⟨S_, .i32⟩
  | 76 => ⟨S6400000x2, .i32⟩
  | 77 => ⟨S6400000x2, .i32⟩
  | 78 => ⟨S_, .i32⟩
  | 79 => ⟨S6400000x2, .i32⟩
  | 80 => ⟨S6400000x2, .i32⟩
  | 81 => ⟨S6400000x2, .i32⟩
  | 82 => ⟨S6400000x2, .i32⟩
  | 83 => ⟨S6400000x2, .i32⟩
  | 84 => ⟨S6400000x2, .i32⟩
  | 85 => ⟨S6400000x2, .i32⟩
  | 86 => ⟨S6400000x2, .i32⟩
  | 87 => ⟨S_, .i32⟩
  | 88 => ⟨S6400000x2, .i32⟩
  | 89 => ⟨S6400000x2, .i32⟩
  | 90 => ⟨S6400000x2, .i32⟩
  | 91 => ⟨S_, .i32⟩
  | 92 => ⟨S6400000x2, .i32⟩
  | 93 => ⟨S6400000x2, .i32⟩
  | 94 => ⟨S_, .i32⟩
  | 95 => ⟨S6400000x2, .i32⟩
  | 96 => ⟨S6400000x2, .i32⟩
  | 97 => ⟨S6400000x2, .i32⟩
  | 98 => ⟨S6400000x2, .i32⟩
  | 99 => ⟨S6400000x2, .i32⟩
  | 100 => ⟨S_, .i32⟩
  | 101 => ⟨S6400000x2, .i32⟩
  | 102 => ⟨S6400000x2, .i32⟩
  | 103 => ⟨S_, .i32⟩
  | 104 => ⟨S6400000x2, .i32⟩
  | 105 => ⟨S6400000x2, .i32⟩
  | 106 => ⟨S6400000x2, .i32⟩
  | 107 => ⟨S6400000x2, .i32⟩
  | 108 => ⟨S6400000x2, .i32⟩
  | 109 => ⟨S_, .i32⟩
  | 110 => ⟨S6400000x2, .i32⟩
  | 111 => ⟨S6400000x2, .i32⟩
  | 112 => ⟨S_, .i32⟩
  | 113 => ⟨S6400000x2, .i32⟩
  | 114 => ⟨S6400000x2, .i32⟩
  | 115 => ⟨S6400000x2, .i32⟩
  | 116 => ⟨S6400000x2, .i32⟩
  | 117 => ⟨S6400000x2, .i32⟩
  | 118 => ⟨S_, .i32⟩
  | 119 => ⟨S6400000x2, .i32⟩
  | 120 => ⟨S6400000x2, .i32⟩
  | 121 => ⟨S_, .i32⟩
  | 122 => ⟨S6400000x2, .i32⟩
  | 123 => ⟨S6400000x2, .i32⟩
  | 124 => ⟨S6400000x2, .i32⟩
  | 125 => ⟨S6400000x2, .i32⟩
  | 126 => ⟨S6400000x2, .i32⟩
  | 127 => ⟨S6400000x2, .i32⟩
  | _ => ⟨S6400000x2, .f32⟩

abbrev hbmTy0_1 (i : Nat) : BufTy := match i % 128 with
  | 0 => ⟨S6400000x2, .i32⟩
  | 1 => ⟨S6400000x2, .i32⟩
  | 2 => ⟨S_, .i32⟩
  | 3 => ⟨S6400000x2, .i32⟩
  | 4 => ⟨S6400000x2, .i32⟩
  | 5 => ⟨S6400000x2, .i32⟩
  | 6 => ⟨S_, .i32⟩
  | 7 => ⟨S6400000x2, .i32⟩
  | 8 => ⟨S6400000x2, .i32⟩
  | 9 => ⟨S_, .i32⟩
  | 10 => ⟨S6400000x2, .i32⟩
  | 11 => ⟨S6400000x2, .i32⟩
  | 12 => ⟨S6400000x2, .i32⟩
  | 13 => ⟨S6400000x2, .i32⟩
  | 14 => ⟨S6400000x2, .i32⟩
  | 15 => ⟨S_, .i32⟩
  | 16 => ⟨S6400000x2, .i32⟩
  | 17 => ⟨S6400000x2, .i32⟩
  | 18 => ⟨S_, .i32⟩
  | 19 => ⟨S6400000x2, .i32⟩
  | 20 => ⟨S6400000x2, .i32⟩
  | 21 => ⟨S6400000x2, .i32⟩
  | 22 => ⟨S6400000x2, .i32⟩
  | 23 => ⟨S6400000x2, .i32⟩
  | 24 => ⟨S_, .i32⟩
  | 25 => ⟨S6400000x2, .i32⟩
  | 26 => ⟨S6400000x2, .i32⟩
  | 27 => ⟨S_, .i32⟩
  | 28 => ⟨S6400000x2, .i32⟩
  | 29 => ⟨S6400000x2, .i32⟩
  | 30 => ⟨S6400000x2, .i32⟩
  | 31 => ⟨S6400000x2, .i32⟩
  | 32 => ⟨S6400000x2, .i32⟩
  | 33 => ⟨S_, .i32⟩
  | 34 => ⟨S6400000x2, .i32⟩
  | 35 => ⟨S6400000x2, .i32⟩
  | 36 => ⟨S_, .i32⟩
  | 37 => ⟨S6400000x2, .i32⟩
  | 38 => ⟨S6400000x2, .i32⟩
  | 39 => ⟨S6400000x2, .i32⟩
  | 40 => ⟨S6400000x2, .i32⟩
  | 41 => ⟨S6400000x2, .i32⟩
  | 42 => ⟨S6400000x2, .i32⟩
  | 43 => ⟨S6400000x2, .i32⟩
  | 44 => ⟨S6400000x2, .i32⟩
  | 45 => ⟨S_, .i32⟩
  | 46 => ⟨S6400000x2, .i32⟩
  | 47 => ⟨S6400000x2, .i32⟩
  | 48 => ⟨S6400000x2, .i32⟩
  | 49 => ⟨S_, .i32⟩
  | 50 => ⟨S6400000x2, .i32⟩
  | 51 => ⟨S6400000x2, .i32⟩
  | 52 => ⟨S_, .i32⟩
  | 53 => ⟨S6400000x2, .i32⟩
  | 54 => ⟨S6400000x2, .i32⟩
  | 55 => ⟨S6400000x2, .i32⟩
  | 56 => ⟨S6400000x2, .i32⟩
  | 57 => ⟨S6400000x2, .i32⟩
  | 58 => ⟨S_, .i32⟩
  | 59 => ⟨S6400000x2, .i32⟩
  | 60 => ⟨S6400000x2, .i32⟩
  | 61 => ⟨S_, .i32⟩
  | 62 => ⟨S6400000x2, .i32⟩
  | 63 => ⟨S6400000x2, .i32⟩
  | 64 => ⟨S6400000x2, .i32⟩
  | 65 => ⟨S6400000x2, .i32⟩
  | 66 => ⟨S6400000x2, .i32⟩
  | 67 => ⟨S_, .i32⟩
  | 68 => ⟨S6400000x2, .i32⟩
  | 69 => ⟨S6400000x2, .i32⟩
  | 70 => ⟨S_, .i32⟩
  | 71 => ⟨S6400000x2, .i32⟩
  | 72 => ⟨S6400000x2, .i32⟩
  | 73 => ⟨S6400000x2, .i32⟩
  | 74 => ⟨S6400000x2, .i32⟩
  | 75 => ⟨S6400000x2, .i32⟩
  | 76 => ⟨S_, .i32⟩
  | 77 => ⟨S6400000x2, .i32⟩
  | 78 => ⟨S6400000x2, .i32⟩
  | 79 => ⟨S_, .i32⟩
  | 80 => ⟨S6400000x2, .i32⟩
  | 81 => ⟨S6400000x2, .i32⟩
  | 82 => ⟨S6400000x2, .i32⟩
  | 83 => ⟨S6400000x2, .i32⟩
  | 84 => ⟨S6400000x2, .i32⟩
  | 85 => ⟨S6400000x2, .i32⟩
  | 86 => ⟨S6400000x2, .i32⟩
  | 87 => ⟨S6400000x2, .i32⟩
  | 88 => ⟨S_, .i32⟩
  | 89 => ⟨S6400000x2, .i32⟩
  | 90 => ⟨S6400000x2, .i32⟩
  | 91 => ⟨S6400000x2, .i32⟩
  | 92 => ⟨S_, .i32⟩
  | 93 => ⟨S6400000x2, .i32⟩
  | 94 => ⟨S6400000x2, .i32⟩
  | 95 => ⟨S_, .i32⟩
  | 96 => ⟨S6400000x2, .i32⟩
  | 97 => ⟨S6400000x2, .i32⟩
  | 98 => ⟨S6400000x2, .i32⟩
  | 99 => ⟨S6400000x2, .i32⟩
  | 100 => ⟨S6400000x2, .i32⟩
  | 101 => ⟨S_, .i32⟩
  | 102 => ⟨S6400000x2, .i32⟩
  | 103 => ⟨S6400000x2, .i32⟩
  | 104 => ⟨S_, .i32⟩
  | 105 => ⟨S6400000x2, .i32⟩
  | 106 => ⟨S6400000x2, .i32⟩
  | 107 => ⟨S6400000x2, .i32⟩
  | 108 => ⟨S6400000x2, .i32⟩
  | 109 => ⟨S6400000x2, .i32⟩
  | 110 => ⟨S_, .i32⟩
  | 111 => ⟨S6400000x2, .i32⟩
  | 112 => ⟨S6400000x2, .i32⟩
  | 113 => ⟨S_, .i32⟩
  | 114 => ⟨S6400000x2, .i32⟩
  | 115 => ⟨S6400000x2, .i32⟩
  | 116 => ⟨S6400000x2, .i32⟩
  | 117 => ⟨S6400000x2, .i32⟩
  | 118 => ⟨S6400000x2, .i32⟩
  | 119 => ⟨S_, .i32⟩
  | 120 => ⟨S6400000x2, .i32⟩
  | 121 => ⟨S6400000x2, .i32⟩
  | 122 => ⟨S_, .i32⟩
  | 123 => ⟨S6400000x2, .i32⟩
  | 124 => ⟨S6400000x2, .i32⟩
  | 125 => ⟨S6400000x2, .i32⟩
  | 126 => ⟨S6400000x2, .i32⟩
  | 127 => ⟨S6400000x2, .i32⟩
  | _ => ⟨S6400000x2, .f32⟩

abbrev hbmTy0_2 (i : Nat) : BufTy := match i % 128 with
  | 0 => ⟨S6400000x2, .i32⟩
  | 1 => ⟨S6400000x2, .i32⟩
  | 2 => ⟨S6400000x2, .i32⟩
  | 3 => ⟨S_, .i32⟩
  | 4 => ⟨S6400000x2, .i32⟩
  | 5 => ⟨S6400000x2, .i32⟩
  | 6 => ⟨S6400000x2, .i32⟩
  | 7 => ⟨S_, .i32⟩
  | 8 => ⟨S6400000x2, .i32⟩
  | 9 => ⟨S6400000x2, .i32⟩
  | 10 => ⟨S_, .i32⟩
  | 11 => ⟨S6400000x2, .i32⟩
  | 12 => ⟨S6400000x2, .i32⟩
  | 13 => ⟨S6400000x2, .f32⟩
  | 14 => ⟨S_, .f32⟩
  | 15 => ⟨S6400000x2, .f32⟩
  | 16 => ⟨S6400000x2, .f32⟩
  | 17 => ⟨S1x1, .f32⟩
  | 18 => ⟨S6400000x2, .f32⟩
  | 19 => ⟨S6400000x2, .f32⟩
  | 20 => ⟨S6400000x2, .f32⟩
  | 21 => ⟨S6400000x2, .f32⟩
  | 22 => ⟨S6400000x2, .f32⟩
  | 23 => ⟨S6400000x2, .f32⟩
  | 24 => ⟨S_, .f32⟩
  | 25 => ⟨S6400000x2, .f32⟩
  | 26 => ⟨S6400000x2, .f32⟩
  | 27 => ⟨S6400000x2, .f32⟩
  | 28 => ⟨S6400000x2, .f32⟩
  | 29 => ⟨S_, .f32⟩
  | 30 => ⟨S6400000x2, .f32⟩
  | 31 => ⟨S6400000x2, .f32⟩
  | 32 => ⟨S50000x256, .f32⟩
  | 33 => ⟨S50000x256, .f32⟩
  | 34 => ⟨S50000x256, .f32⟩
  | _ => ⟨S6400000x2, .f32⟩

abbrev hbmTy (i : Nat) : BufTy := match i / 128 with
  | 0 => hbmTy0_0 i
  | 1 => hbmTy0_1 i
  | 2 => hbmTy0_2 i
  | _ => ⟨S6400000x2, .f32⟩

abbrev bufTy : (tb : Table) → Fin (tcTables nBuf tb) → BufTy
  | .hbm, ⟨i, _⟩ => hbmTy i
  | .local _ .vmem, ⟨0, _⟩ => ⟨S400x256, .f32⟩
  | .local _ .vmem, ⟨1, _⟩ => ⟨S400x256, .f32⟩
  | .local _ .vmem, ⟨2, _⟩ => ⟨S400x256, .f32⟩
  | .local _ .vmem, ⟨3, _⟩ => ⟨S400x256, .f32⟩
  | .local _ .vmem, ⟨4, _⟩ => ⟨S400x128, .i32⟩
  | .local _ .vmem, ⟨5, _⟩ => ⟨S400x128, .i32⟩
  | .local _ .vmem, ⟨6, _⟩ => ⟨S400x128, .i32⟩
  | .local _ .vmem, ⟨7, _⟩ => ⟨S400x128, .i32⟩
  | .local _ .vmem, ⟨8, _⟩ => ⟨S400x256, .f32⟩
  | .local _ .vmem, ⟨9, _⟩ => ⟨S400x256, .f32⟩
  | .local _ .vmem, ⟨10, _⟩ => ⟨S400x256, .f32⟩
  | .local _ .vmem, ⟨11, _⟩ => ⟨S400x256, .f32⟩
  | _, _ => ⟨S6400000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_c : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_c_1 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v19_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v19_1 : Ref sig .tc := ⟨.hbm, 261, rfl⟩
abbrev main_call0_v20 : Ref sig .tc := ⟨.hbm, 262, rfl⟩
abbrev main_call0_c_2 : Ref sig .tc := ⟨.hbm, 263, rfl⟩
abbrev main_call0_v21 : Ref sig .tc := ⟨.hbm, 264, rfl⟩
abbrev main_call0_v22 : Ref sig .tc := ⟨.hbm, 265, rfl⟩
abbrev main_call0_c_3 : Ref sig .tc := ⟨.hbm, 266, rfl⟩
abbrev main_call0_v23 : Ref sig .tc := ⟨.hbm, 267, rfl⟩
abbrev main_call0_v24 : Ref sig .tc := ⟨.hbm, 268, rfl⟩
abbrev main_call0_v25 : Ref sig .tc := ⟨.hbm, 269, rfl⟩
abbrev main_call0_cst : Ref sig .tc := ⟨.hbm, 270, rfl⟩
abbrev main_call0_v26 : Ref sig .tc := ⟨.hbm, 271, rfl⟩
abbrev main_call0_v27 : Ref sig .tc := ⟨.hbm, 272, rfl⟩
abbrev main_call0_v28 : Ref sig .tc := ⟨.hbm, 273, rfl⟩
abbrev main_call0_v29 : Ref sig .tc := ⟨.hbm, 274, rfl⟩
abbrev main_call0_v30 : Ref sig .tc := ⟨.hbm, 275, rfl⟩
abbrev main_call0_v31 : Ref sig .tc := ⟨.hbm, 276, rfl⟩
abbrev main_call0_v32 : Ref sig .tc := ⟨.hbm, 277, rfl⟩
abbrev main_call0_v33 : Ref sig .tc := ⟨.hbm, 278, rfl⟩
abbrev main_v10 : Ref sig .tc := ⟨.hbm, 279, rfl⟩
abbrev main_cst_3 : Ref sig .tc := ⟨.hbm, 280, rfl⟩
abbrev main_v11 : Ref sig .tc := ⟨.hbm, 281, rfl⟩
abbrev main_v12 : Ref sig .tc := ⟨.hbm, 282, rfl⟩
abbrev main_v13 : Ref sig .tc := ⟨.hbm, 283, rfl⟩
abbrev main_v14 : Ref sig .tc := ⟨.hbm, 284, rfl⟩
abbrev main_cst_4 : Ref sig .tc := ⟨.hbm, 285, rfl⟩
abbrev main_v15 : Ref sig .tc := ⟨.hbm, 286, rfl⟩
abbrev main_v16 : Ref sig .tc := ⟨.hbm, 287, rfl⟩
abbrev main_v17 : Ref sig .tc := ⟨.hbm, 288, rfl⟩
abbrev main_v18_0 : Ref sig .tc := ⟨.hbm, 289, rfl⟩
abbrev main_v18_1 : Ref sig .tc := ⟨.hbm, 290, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "log_floor" => some ((Real.log (332307 / 332306998946228968225951765070086144) : ℝ) : EReal)
  | "thousandth" => some ((1 / 1000 : ℝ) : EReal)
  | _ => none
-- ==== ReferenceIdeal.lean ====
abbrev S6400000x2 : Shape := ⟨2, ![6400000, 2]⟩
abbrev S6400000 : Shape := ⟨1, ![6400000]⟩
abbrev S6400000x1 : Shape := ⟨2, ![6400000, 1]⟩
abbrev S1x2 : Shape := ⟨2, ![1, 2]⟩
abbrev S_ : Shape := ⟨0, ![]⟩
abbrev S1000 : Shape := ⟨1, ![1000]⟩
abbrev S1 : Shape := ⟨1, ![1]⟩
abbrev S2 : Shape := ⟨1, ![2]⟩
abbrev S1x1 : Shape := ⟨2, ![1, 1]⟩
abbrev S50000x256 : Shape := ⟨2, ![50000, 256]⟩

abbrev nBuf : Space → Nat
  | .hbm => 518
  | .vmem => 0
  | .smem => 0
  | _ => 0

abbrev hbmTy0_0 (i : Nat) : BufTy := match i % 128 with
  | 0 => ⟨S6400000x2, .f32⟩
  | 1 => ⟨S6400000, .i32⟩
  | 2 => ⟨S6400000, .i32⟩
  | 3 => ⟨S6400000x1, .i32⟩
  | 4 => ⟨S1x2, .i32⟩
  | 5 => ⟨S6400000x2, .i32⟩
  | 6 => ⟨S6400000x2, .i32⟩
  | 7 => ⟨S6400000x2, .i1⟩
  | 8 => ⟨S6400000x2, .f32⟩
  | 9 => ⟨S_, .f32⟩
  | 10 => ⟨S_, .f32⟩
  | 11 => ⟨S_, .f32⟩
  | 12 => ⟨S6400000x2, .f32⟩
  | 13 => ⟨S6400000x2, .f32⟩
  | 14 => ⟨S_, .f32⟩
  | 15 => ⟨S6400000x2, .f32⟩
  | 16 => ⟨S6400000x2, .f32⟩
  | 17 => ⟨S6400000x2, .f32⟩
  | 18 => ⟨S_, .f32⟩
  | 19 => ⟨S6400000, .f32⟩
  | 20 => ⟨S_, .f32⟩
  | 21 => ⟨S6400000, .f32⟩
  | 22 => ⟨S6400000, .f32⟩
  | 23 => ⟨S6400000x1, .f32⟩
  | 24 => ⟨S6400000x2, .f32⟩
  | 25 => ⟨S6400000x2, .f32⟩
  | 26 => ⟨S6400000x2, .f32⟩
  | 27 => ⟨S_, .f32⟩
  | 28 => ⟨S6400000, .f32⟩
  | 29 => ⟨S6400000x1, .f32⟩
  | 30 => ⟨S6400000x1, .f32⟩
  | 31 => ⟨S6400000x2, .f32⟩
  | 32 => ⟨S6400000x2, .f32⟩
  | 33 => ⟨S1000, .i32⟩
  | 34 => ⟨S_, .i32⟩
  | 35 => ⟨S1000, .i32⟩
  | 36 => ⟨S1000, .i32⟩
  | 37 => ⟨S1000, .f32⟩
  | 38 => ⟨S_, .f32⟩
  | 39 => ⟨S1000, .f32⟩
  | 40 => ⟨S1000, .f32⟩
  | 41 => ⟨S_, .f32⟩
  | 42 => ⟨S1000, .f32⟩
  | 43 => ⟨S1000, .f32⟩
  | 44 => ⟨S_, .f32⟩
  | 45 => ⟨S1000, .f32⟩
  | 46 => ⟨S1000, .f32⟩
  | 47 => ⟨S_, .f32⟩
  | 48 => ⟨S1000, .f32⟩
  | 49 => ⟨S1000, .f32⟩
  | 50 => ⟨S_, .f32⟩
  | 51 => ⟨S_, .f32⟩
  | 52 => ⟨S_, .f32⟩
  | 53 => ⟨S1000, .f32⟩
  | 54 => ⟨S1000, .f32⟩
  | 55 => ⟨S_, .f32⟩
  | 56 => ⟨S1000, .f32⟩
  | 57 => ⟨S1000, .f32⟩
  | 58 => ⟨S1000, .f32⟩
  | 59 => ⟨S_, .f32⟩
  | 60 => ⟨S_, .f32⟩
  | 61 => ⟨S1000, .f32⟩
  | 62 => ⟨S_, .f32⟩
  | 63 => ⟨S_, .f32⟩
  | 64 => ⟨S_, .f32⟩
  | 65 => ⟨S1000, .f32⟩
  | 66 => ⟨S1000, .f32⟩
  | 67 => ⟨S1000, .f32⟩
  | 68 => ⟨S1000, .f32⟩
  | 69 => ⟨S1000, .f32⟩
  | 70 => ⟨S1000, .f32⟩
  | 71 => ⟨S1000, .f32⟩
  | 72 => ⟨S_, .i32⟩
  | 73 => ⟨S6400000, .i32⟩
  | 74 => ⟨S6400000, .i32⟩
  | 75 => ⟨S_, .i32⟩
  | 76 => ⟨S6400000, .i32⟩
  | 77 => ⟨S6400000, .i1⟩
  | 78 => ⟨S_, .i32⟩
  | 79 => ⟨S6400000, .i32⟩
  | 80 => ⟨S_, .i32⟩
  | 81 => ⟨S6400000, .i32⟩
  | 82 => ⟨S6400000, .i32⟩
  | 83 => ⟨S6400000, .i32⟩
  | 84 => ⟨S6400000x1, .f32⟩
  | 85 => ⟨S6400000, .f32⟩
  | 86 => ⟨S6400000x1, .f32⟩
  | 87 => ⟨S6400000, .f32⟩
  | 88 => ⟨S6400000x1, .f32⟩
  | 89 => ⟨S6400000, .f32⟩
  | 90 => ⟨S6400000x1, .f32⟩
  | 91 => ⟨S6400000, .f32⟩
  | 92 => ⟨S_, .i32⟩
  | 93 => ⟨S6400000, .i32⟩
  | 94 => ⟨S6400000, .i1⟩
  | 95 => ⟨S_, .i32⟩
  | 96 => ⟨S6400000, .i32⟩
  | 97 => ⟨S6400000, .i32⟩
  | 98 => ⟨S6400000, .i32⟩
  | 99 => ⟨S6400000x1, .i32⟩
  | 100 => ⟨S6400000, .f32⟩
  | 101 => ⟨S_, .i32⟩
  | 102 => ⟨S6400000, .i32⟩
  | 103 => ⟨S6400000, .i1⟩
  | 104 => ⟨S_, .i32⟩
  | 105 => ⟨S6400000, .i32⟩
  | 106 => ⟨S6400000, .i32⟩
  | 107 => ⟨S6400000, .i32⟩
  | 108 => ⟨S6400000x1, .i32⟩
  | 109 => ⟨S6400000, .f32⟩
  | 110 => ⟨S_, .i32⟩
  | 111 => ⟨S6400000, .i32⟩
  | 112 => ⟨S6400000, .i1⟩
  | 113 => ⟨S_, .i32⟩
  | 114 => ⟨S6400000, .i32⟩
  | 115 => ⟨S6400000, .i32⟩
  | 116 => ⟨S6400000, .i32⟩
  | 117 => ⟨S6400000x1, .i32⟩
  | 118 => ⟨S6400000, .f32⟩
  | 119 => ⟨S_, .i32⟩
  | 120 => ⟨S6400000, .i32⟩
  | 121 => ⟨S6400000, .i1⟩
  | 122 => ⟨S_, .i32⟩
  | 123 => ⟨S6400000, .i32⟩
  | 124 => ⟨S6400000, .i32⟩
  | 125 => ⟨S6400000, .i32⟩
  | 126 => ⟨S6400000x1, .i32⟩
  | 127 => ⟨S6400000, .f32⟩
  | _ => ⟨S6400000x2, .f32⟩

abbrev hbmTy0_1 (i : Nat) : BufTy := match i % 128 with
  | 0 => ⟨S_, .f32⟩
  | 1 => ⟨S_, .f32⟩
  | 2 => ⟨S6400000, .f32⟩
  | 3 => ⟨S6400000, .f32⟩
  | 4 => ⟨S6400000, .f32⟩
  | 5 => ⟨S6400000, .f32⟩
  | 6 => ⟨S6400000, .f32⟩
  | 7 => ⟨S6400000, .i1⟩
  | 8 => ⟨S6400000, .f32⟩
  | 9 => ⟨S6400000, .f32⟩
  | 10 => ⟨S6400000, .f32⟩
  | 11 => ⟨S6400000, .f32⟩
  | 12 => ⟨S6400000, .f32⟩
  | 13 => ⟨S6400000, .f32⟩
  | 14 => ⟨S6400000, .f32⟩
  | 15 => ⟨S6400000, .f32⟩
  | 16 => ⟨S6400000, .f32⟩
  | 17 => ⟨S6400000, .f32⟩
  | 18 => ⟨S6400000, .f32⟩
  | 19 => ⟨S6400000, .i1⟩
  | 20 => ⟨S6400000, .f32⟩
  | 21 => ⟨S6400000, .f32⟩
  | 22 => ⟨S6400000, .f32⟩
  | 23 => ⟨S6400000, .f32⟩
  | 24 => ⟨S6400000, .f32⟩
  | 25 => ⟨S6400000, .f32⟩
  | 26 => ⟨S6400000, .f32⟩
  | 27 => ⟨S6400000, .f32⟩
  | 28 => ⟨S6400000, .f32⟩
  | 29 => ⟨S6400000, .f32⟩
  | 30 => ⟨S6400000, .f32⟩
  | 31 => ⟨S6400000, .i1⟩
  | 32 => ⟨S6400000, .f32⟩
  | 33 => ⟨S6400000, .f32⟩
  | 34 => ⟨S6400000, .f32⟩
  | 35 => ⟨S6400000, .f32⟩
  | 36 => ⟨S6400000, .f32⟩
  | 37 => ⟨S6400000, .f32⟩
  | 38 => ⟨S6400000, .f32⟩
  | 39 => ⟨S6400000, .f32⟩
  | 40 => ⟨S6400000, .f32⟩
  | 41 => ⟨S6400000, .f32⟩
  | 42 => ⟨S6400000, .i1⟩
  | 43 => ⟨S6400000, .f32⟩
  | 44 => ⟨S6400000, .f32⟩
  | 45 => ⟨S6400000, .f32⟩
  | 46 => ⟨S6400000, .f32⟩
  | 47 => ⟨S6400000, .f32⟩
  | 48 => ⟨S6400000, .f32⟩
  | 49 => ⟨S6400000, .f32⟩
  | 50 => ⟨S6400000, .f32⟩
  | 51 => ⟨S6400000, .f32⟩
  | 52 => ⟨S6400000, .f32⟩
  | 53 => ⟨S6400000, .f32⟩
  | 54 => ⟨S6400000, .f32⟩
  | 55 => ⟨S6400000, .i1⟩
  | 56 => ⟨S6400000, .f32⟩
  | 57 => ⟨S6400000, .f32⟩
  | 58 => ⟨S6400000, .f32⟩
  | 59 => ⟨S6400000, .f32⟩
  | 60 => ⟨S6400000, .f32⟩
  | 61 => ⟨S6400000, .f32⟩
  | 62 => ⟨S6400000, .f32⟩
  | 63 => ⟨S6400000, .f32⟩
  | 64 => ⟨S6400000, .f32⟩
  | 65 => ⟨S6400000x1, .f32⟩
  | 66 => ⟨S6400000x1, .f32⟩
  | 67 => ⟨S6400000x2, .f32⟩
  | 68 => ⟨S_, .f32⟩
  | 69 => ⟨S6400000, .f32⟩
  | 70 => ⟨S_, .f32⟩
  | 71 => ⟨S6400000, .f32⟩
  | 72 => ⟨S6400000, .f32⟩
  | 73 => ⟨S6400000x1, .f32⟩
  | 74 => ⟨S6400000x2, .f32⟩
  | 75 => ⟨S6400000x2, .f32⟩
  | 76 => ⟨S6400000x2, .f32⟩
  | 77 => ⟨S_, .f32⟩
  | 78 => ⟨S6400000, .f32⟩
  | 79 => ⟨S6400000x1, .f32⟩
  | 80 => ⟨S6400000x1, .f32⟩
  | 81 => ⟨S6400000x2, .f32⟩
  | 82 => ⟨S6400000x2, .f32⟩
  | 83 => ⟨S_, .i32⟩
  | 84 => ⟨S_, .i32⟩
  | 85 => ⟨S_, .i32⟩
  | 86 => ⟨S_, .i32⟩
  | 87 => ⟨S1, .i32⟩
  | 88 => ⟨S_, .i32⟩
  | 89 => ⟨S_, .i32⟩
  | 90 => ⟨S_, .i32⟩
  | 91 => ⟨S1, .i32⟩
  | 92 => ⟨S2, .i32⟩
  | 93 => ⟨S_, .f32⟩
  | 94 => ⟨S_, .f32⟩
  | 95 => ⟨S_, .f32⟩
  | 96 => ⟨S_, .f32⟩
  | 97 => ⟨S1x1, .f32⟩
  | 98 => ⟨S1x1, .f32⟩
  | 99 => ⟨S1, .i32⟩
  | 100 => ⟨S_, .i32⟩
  | 101 => ⟨S1, .i32⟩
  | 102 => ⟨S_, .i32⟩
  | 103 => ⟨S6400000x2, .i64⟩
  | 104 => ⟨S6400000x2, .i64⟩
  | 105 => ⟨S_, .i64⟩
  | 106 => ⟨S6400000x2, .i64⟩
  | 107 => ⟨S6400000x2, .i64⟩
  | 108 => ⟨S_, .i64⟩
  | 109 => ⟨S6400000x2, .i64⟩
  | 110 => ⟨S6400000x2, .i64⟩
  | 111 => ⟨S6400000x2, .i64⟩
  | 112 => ⟨S_, .i64⟩
  | 113 => ⟨S6400000x2, .i64⟩
  | 114 => ⟨S6400000x2, .i64⟩
  | 115 => ⟨S6400000x2, .i32⟩
  | 116 => ⟨S6400000x2, .i32⟩
  | 117 => ⟨S_, .i32⟩
  | 118 => ⟨S_, .i32⟩
  | 119 => ⟨S_, .i32⟩
  | 120 => ⟨S6400000x2, .i32⟩
  | 121 => ⟨S6400000x2, .i32⟩
  | 122 => ⟨S6400000x2, .i32⟩
  | 123 => ⟨S6400000x2, .i32⟩
  | 124 => ⟨S6400000x2, .i32⟩
  | 125 => ⟨S_, .i32⟩
  | 126 => ⟨S6400000x2, .i32⟩
  | 127 => ⟨S6400000x2, .i32⟩
  | _ => ⟨S6400000x2, .f32⟩

abbrev hbmTy0_2 (i : Nat) : BufTy := match i % 128 with
  | 0 => ⟨S_, .i32⟩
  | 1 => ⟨S6400000x2, .i32⟩
  | 2 => ⟨S6400000x2, .i32⟩
  | 3 => ⟨S6400000x2, .i32⟩
  | 4 => ⟨S6400000x2, .i32⟩
  | 5 => ⟨S6400000x2, .i32⟩
  | 6 => ⟨S_, .i32⟩
  | 7 => ⟨S6400000x2, .i32⟩
  | 8 => ⟨S6400000x2, .i32⟩
  | 9 => ⟨S_, .i32⟩
  | 10 => ⟨S6400000x2, .i32⟩
  | 11 => ⟨S6400000x2, .i32⟩
  | 12 => ⟨S6400000x2, .i32⟩
  | 13 => ⟨S6400000x2, .i32⟩
  | 14 => ⟨S6400000x2, .i32⟩
  | 15 => ⟨S_, .i32⟩
  | 16 => ⟨S6400000x2, .i32⟩
  | 17 => ⟨S6400000x2, .i32⟩
  | 18 => ⟨S_, .i32⟩
  | 19 => ⟨S6400000x2, .i32⟩
  | 20 => ⟨S6400000x2, .i32⟩
  | 21 => ⟨S6400000x2, .i32⟩
  | 22 => ⟨S6400000x2, .i32⟩
  | 23 => ⟨S6400000x2, .i32⟩
  | 24 => ⟨S_, .i32⟩
  | 25 => ⟨S6400000x2, .i32⟩
  | 26 => ⟨S6400000x2, .i32⟩
  | 27 => ⟨S_, .i32⟩
  | 28 => ⟨S6400000x2, .i32⟩
  | 29 => ⟨S6400000x2, .i32⟩
  | 30 => ⟨S6400000x2, .i32⟩
  | 31 => ⟨S6400000x2, .i32⟩
  | 32 => ⟨S6400000x2, .i32⟩
  | 33 => ⟨S6400000x2, .i32⟩
  | 34 => ⟨S6400000x2, .i32⟩
  | 35 => ⟨S6400000x2, .i32⟩
  | 36 => ⟨S_, .i32⟩
  | 37 => ⟨S6400000x2, .i32⟩
  | 38 => ⟨S6400000x2, .i32⟩
  | 39 => ⟨S6400000x2, .i32⟩
  | 40 => ⟨S_, .i32⟩
  | 41 => ⟨S6400000x2, .i32⟩
  | 42 => ⟨S6400000x2, .i32⟩
  | 43 => ⟨S_, .i32⟩
  | 44 => ⟨S6400000x2, .i32⟩
  | 45 => ⟨S6400000x2, .i32⟩
  | 46 => ⟨S6400000x2, .i32⟩
  | 47 => ⟨S6400000x2, .i32⟩
  | 48 => ⟨S6400000x2, .i32⟩
  | 49 => ⟨S_, .i32⟩
  | 50 => ⟨S6400000x2, .i32⟩
  | 51 => ⟨S6400000x2, .i32⟩
  | 52 => ⟨S_, .i32⟩
  | 53 => ⟨S6400000x2, .i32⟩
  | 54 => ⟨S6400000x2, .i32⟩
  | 55 => ⟨S6400000x2, .i32⟩
  | 56 => ⟨S6400000x2, .i32⟩
  | 57 => ⟨S6400000x2, .i32⟩
  | 58 => ⟨S_, .i32⟩
  | 59 => ⟨S6400000x2, .i32⟩
  | 60 => ⟨S6400000x2, .i32⟩
  | 61 => ⟨S_, .i32⟩
  | 62 => ⟨S6400000x2, .i32⟩
  | 63 => ⟨S6400000x2, .i32⟩
  | 64 => ⟨S6400000x2, .i32⟩
  | 65 => ⟨S6400000x2, .i32⟩
  | 66 => ⟨S6400000x2, .i32⟩
  | 67 => ⟨S_, .i32⟩
  | 68 => ⟨S6400000x2, .i32⟩
  | 69 => ⟨S6400000x2, .i32⟩
  | 70 => ⟨S_, .i32⟩
  | 71 => ⟨S6400000x2, .i32⟩
  | 72 => ⟨S6400000x2, .i32⟩
  | 73 => ⟨S6400000x2, .i32⟩
  | 74 => ⟨S6400000x2, .i32⟩
  | 75 => ⟨S6400000x2, .i32⟩
  | 76 => ⟨S6400000x2, .i32⟩
  | 77 => ⟨S6400000x2, .i32⟩
  | 78 => ⟨S6400000x2, .i32⟩
  | 79 => ⟨S_, .i32⟩
  | 80 => ⟨S6400000x2, .i32⟩
  | 81 => ⟨S6400000x2, .i32⟩
  | 82 => ⟨S6400000x2, .i32⟩
  | 83 => ⟨S_, .i32⟩
  | 84 => ⟨S6400000x2, .i32⟩
  | 85 => ⟨S6400000x2, .i32⟩
  | 86 => ⟨S_, .i32⟩
  | 87 => ⟨S6400000x2, .i32⟩
  | 88 => ⟨S6400000x2, .i32⟩
  | 89 => ⟨S6400000x2, .i32⟩
  | 90 => ⟨S6400000x2, .i32⟩
  | 91 => ⟨S6400000x2, .i32⟩
  | 92 => ⟨S_, .i32⟩
  | 93 => ⟨S6400000x2, .i32⟩
  | 94 => ⟨S6400000x2, .i32⟩
  | 95 => ⟨S_, .i32⟩
  | 96 => ⟨S6400000x2, .i32⟩
  | 97 => ⟨S6400000x2, .i32⟩
  | 98 => ⟨S6400000x2, .i32⟩
  | 99 => ⟨S6400000x2, .i32⟩
  | 100 => ⟨S6400000x2, .i32⟩
  | 101 => ⟨S_, .i32⟩
  | 102 => ⟨S6400000x2, .i32⟩
  | 103 => ⟨S6400000x2, .i32⟩
  | 104 => ⟨S_, .i32⟩
  | 105 => ⟨S6400000x2, .i32⟩
  | 106 => ⟨S6400000x2, .i32⟩
  | 107 => ⟨S6400000x2, .i32⟩
  | 108 => ⟨S6400000x2, .i32⟩
  | 109 => ⟨S6400000x2, .i32⟩
  | 110 => ⟨S_, .i32⟩
  | 111 => ⟨S6400000x2, .i32⟩
  | 112 => ⟨S6400000x2, .i32⟩
  | 113 => ⟨S_, .i32⟩
  | 114 => ⟨S6400000x2, .i32⟩
  | 115 => ⟨S6400000x2, .i32⟩
  | 116 => ⟨S6400000x2, .i32⟩
  | 117 => ⟨S6400000x2, .i32⟩
  | 118 => ⟨S6400000x2, .i32⟩
  | 119 => ⟨S6400000x2, .i32⟩
  | 120 => ⟨S6400000x2, .i32⟩
  | 121 => ⟨S6400000x2, .i32⟩
  | 122 => ⟨S_, .i32⟩
  | 123 => ⟨S6400000x2, .i32⟩
  | 124 => ⟨S6400000x2, .i32⟩
  | 125 => ⟨S6400000x2, .i32⟩
  | 126 => ⟨S_, .i32⟩
  | 127 => ⟨S6400000x2, .i32⟩
  | _ => ⟨S6400000x2, .f32⟩

abbrev hbmTy0_3 (i : Nat) : BufTy := match i % 128 with
  | 0 => ⟨S6400000x2, .i32⟩
  | 1 => ⟨S_, .i32⟩
  | 2 => ⟨S6400000x2, .i32⟩
  | 3 => ⟨S6400000x2, .i32⟩
  | 4 => ⟨S6400000x2, .i32⟩
  | 5 => ⟨S6400000x2, .i32⟩
  | 6 => ⟨S6400000x2, .i32⟩
  | 7 => ⟨S_, .i32⟩
  | 8 => ⟨S6400000x2, .i32⟩
  | 9 => ⟨S6400000x2, .i32⟩
  | 10 => ⟨S_, .i32⟩
  | 11 => ⟨S6400000x2, .i32⟩
  | 12 => ⟨S6400000x2, .i32⟩
  | 13 => ⟨S6400000x2, .i32⟩
  | 14 => ⟨S6400000x2, .i32⟩
  | 15 => ⟨S6400000x2, .i32⟩
  | 16 => ⟨S_, .i32⟩
  | 17 => ⟨S6400000x2, .i32⟩
  | 18 => ⟨S6400000x2, .i32⟩
  | 19 => ⟨S_, .i32⟩
  | 20 => ⟨S6400000x2, .i32⟩
  | 21 => ⟨S6400000x2, .i32⟩
  | 22 => ⟨S6400000x2, .i32⟩
  | 23 => ⟨S6400000x2, .i32⟩
  | 24 => ⟨S6400000x2, .i32⟩
  | 25 => ⟨S_, .i32⟩
  | 26 => ⟨S6400000x2, .i32⟩
  | 27 => ⟨S6400000x2, .i32⟩
  | 28 => ⟨S_, .i32⟩
  | 29 => ⟨S6400000x2, .i32⟩
  | 30 => ⟨S6400000x2, .i32⟩
  | 31 => ⟨S6400000x2, .i32⟩
  | 32 => ⟨S6400000x2, .i32⟩
  | 33 => ⟨S6400000x2, .i32⟩
  | 34 => ⟨S6400000x2, .i32⟩
  | 35 => ⟨S6400000x2, .i32⟩
  | 36 => ⟨S6400000x2, .i32⟩
  | 37 => ⟨S_, .i32⟩
  | 38 => ⟨S6400000x2, .i32⟩
  | 39 => ⟨S6400000x2, .i32⟩
  | 40 => ⟨S6400000x2, .i32⟩
  | 41 => ⟨S_, .i32⟩
  | 42 => ⟨S6400000x2, .i32⟩
  | 43 => ⟨S6400000x2, .i32⟩
  | 44 => ⟨S_, .i32⟩
  | 45 => ⟨S6400000x2, .i32⟩
  | 46 => ⟨S6400000x2, .i32⟩
  | 47 => ⟨S6400000x2, .i32⟩
  | 48 => ⟨S6400000x2, .i32⟩
  | 49 => ⟨S6400000x2, .i32⟩
  | 50 => ⟨S_, .i32⟩
  | 51 => ⟨S6400000x2, .i32⟩
  | 52 => ⟨S6400000x2, .i32⟩
  | 53 => ⟨S_, .i32⟩
  | 54 => ⟨S6400000x2, .i32⟩
  | 55 => ⟨S6400000x2, .i32⟩
  | 56 => ⟨S6400000x2, .i32⟩
  | 57 => ⟨S6400000x2, .i32⟩
  | 58 => ⟨S6400000x2, .i32⟩
  | 59 => ⟨S_, .i32⟩
  | 60 => ⟨S6400000x2, .i32⟩
  | 61 => ⟨S6400000x2, .i32⟩
  | 62 => ⟨S_, .i32⟩
  | 63 => ⟨S6400000x2, .i32⟩
  | 64 => ⟨S6400000x2, .i32⟩
  | 65 => ⟨S6400000x2, .i32⟩
  | 66 => ⟨S6400000x2, .i32⟩
  | 67 => ⟨S6400000x2, .i32⟩
  | 68 => ⟨S_, .i32⟩
  | 69 => ⟨S6400000x2, .i32⟩
  | 70 => ⟨S6400000x2, .i32⟩
  | 71 => ⟨S_, .i32⟩
  | 72 => ⟨S6400000x2, .i32⟩
  | 73 => ⟨S6400000x2, .i32⟩
  | 74 => ⟨S6400000x2, .i32⟩
  | 75 => ⟨S6400000x2, .i32⟩
  | 76 => ⟨S6400000x2, .i32⟩
  | 77 => ⟨S6400000x2, .i32⟩
  | 78 => ⟨S6400000x2, .i32⟩
  | 79 => ⟨S6400000x2, .i32⟩
  | 80 => ⟨S_, .i32⟩
  | 81 => ⟨S6400000x2, .i32⟩
  | 82 => ⟨S6400000x2, .i32⟩
  | 83 => ⟨S6400000x2, .i32⟩
  | 84 => ⟨S_, .i32⟩
  | 85 => ⟨S6400000x2, .i32⟩
  | 86 => ⟨S6400000x2, .i32⟩
  | 87 => ⟨S_, .i32⟩
  | 88 => ⟨S6400000x2, .i32⟩
  | 89 => ⟨S6400000x2, .i32⟩
  | 90 => ⟨S6400000x2, .f32⟩
  | 91 => ⟨S_, .f32⟩
  | 92 => ⟨S6400000x2, .f32⟩
  | 93 => ⟨S6400000x2, .f32⟩
  | 94 => ⟨S1x1, .f32⟩
  | 95 => ⟨S6400000x2, .f32⟩
  | 96 => ⟨S6400000x2, .f32⟩
  | 97 => ⟨S6400000x2, .f32⟩
  | 98 => ⟨S6400000x2, .f32⟩
  | 99 => ⟨S6400000x2, .f32⟩
  | 100 => ⟨S6400000x2, .f32⟩
  | 101 => ⟨S_, .f32⟩
  | 102 => ⟨S6400000x2, .f32⟩
  | 103 => ⟨S6400000x2, .f32⟩
  | 104 => ⟨S6400000x2, .f32⟩
  | 105 => ⟨S6400000x2, .f32⟩
  | 106 => ⟨S_, .f32⟩
  | 107 => ⟨S6400000x2, .f32⟩
  | 108 => ⟨S6400000x2, .f32⟩
  | 109 => ⟨S6400000x2, .f32⟩
  | 110 => ⟨S6400000x2, .f32⟩
  | 111 => ⟨S6400000x2, .f32⟩
  | 112 => ⟨S6400000x2, .i32⟩
  | 113 => ⟨S_, .f32⟩
  | 114 => ⟨S_, .i32⟩
  | 115 => ⟨S6400000, .f32⟩
  | 116 => ⟨S6400000, .i32⟩
  | 117 => ⟨S6400000x1, .i32⟩
  | 118 => ⟨S1x2, .i32⟩
  | 119 => ⟨S6400000x2, .i32⟩
  | 120 => ⟨S6400000x2, .i32⟩
  | 121 => ⟨S6400000x2, .i1⟩
  | 122 => ⟨S6400000x2, .f32⟩
  | 123 => ⟨S_, .f32⟩
  | 124 => ⟨S_, .f32⟩
  | 125 => ⟨S_, .f32⟩
  | 126 => ⟨S6400000x2, .f32⟩
  | 127 => ⟨S6400000x2, .f32⟩
  | _ => ⟨S6400000x2, .f32⟩

abbrev hbmTy0_4 (i : Nat) : BufTy := match i % 128 with
  | 0 => ⟨S_, .f32⟩
  | 1 => ⟨S6400000x2, .f32⟩
  | 2 => ⟨S6400000x2, .f32⟩
  | 3 => ⟨S6400000x2, .f32⟩
  | 4 => ⟨S50000x256, .f32⟩
  | 5 => ⟨S50000x256, .f32⟩
  | _ => ⟨S6400000x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S6400000x2, .f32⟩

abbrev bufTy : (tb : Table) → Fin (tcTables nBuf tb) → BufTy
  | .hbm, ⟨i, _⟩ => hbmTy i
  | _, _ => ⟨S6400000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst : Ref sig .tc := ⟨.hbm, 9, rfl⟩
abbrev main_cst_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_v2 : Ref sig .tc := ⟨.hbm, 17, rfl⟩
abbrev main_call2_cst : Ref sig .tc := ⟨.hbm, 18, rfl⟩
abbrev main_call2_v0 : Ref sig .tc := ⟨.hbm, 19, rfl⟩
abbrev main_call2_cst_0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_v6 : Ref sig .tc := ⟨.hbm, 26, rfl⟩
abbrev main_call2_cst_1 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_v3 : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_v11 : Ref sig .tc := ⟨.hbm, 43, rfl⟩
abbrev main_cst_3 : Ref sig .tc := ⟨.hbm, 44, rfl⟩
abbrev main_v12 : Ref sig .tc := ⟨.hbm, 45, rfl⟩
abbrev main_v13 : Ref sig .tc := ⟨.hbm, 46, rfl⟩
abbrev main_cst_4 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_cst_6 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v16 : Ref sig .tc := ⟨.hbm, 57, rfl⟩
abbrev main_v17 : Ref sig .tc := ⟨.hbm, 58, rfl⟩
abbrev main_call4_call0_cst : Ref sig .tc := ⟨.hbm, 59, rfl⟩
abbrev main_call4_call0_v0 : Ref sig .tc := ⟨.hbm, 60, rfl⟩
abbrev main_v18 : Ref sig .tc := ⟨.hbm, 61, rfl⟩
abbrev main_cst_7 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_c_8 : Ref sig .tc := ⟨.hbm, 72, rfl⟩
abbrev main_v28 : Ref sig .tc := ⟨.hbm, 73, rfl⟩
abbrev main_v29 : Ref sig .tc := ⟨.hbm, 74, rfl⟩
abbrev main_c_9 : Ref sig .tc := ⟨.hbm, 75, rfl⟩
abbrev main_v30 : Ref sig .tc := ⟨.hbm, 76, rfl⟩
abbrev main_v31 : Ref sig .tc := ⟨.hbm, 77, rfl⟩
abbrev main_c_10 : Ref sig .tc := ⟨.hbm, 78, rfl⟩
abbrev main_v32 : Ref sig .tc := ⟨.hbm, 79, rfl⟩
abbrev main_c_11 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_c_12 : Ref sig .tc := ⟨.hbm, 92, rfl⟩
abbrev main_v44 : Ref sig .tc := ⟨.hbm, 93, rfl⟩
abbrev main_v45 : Ref sig .tc := ⟨.hbm, 94, rfl⟩
abbrev main_c_13 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_c_14 : Ref sig .tc := ⟨.hbm, 101, rfl⟩
abbrev main_v51 : Ref sig .tc := ⟨.hbm, 102, rfl⟩
abbrev main_v52 : Ref sig .tc := ⟨.hbm, 103, rfl⟩
abbrev main_c_15 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_c_16 : Ref sig .tc := ⟨.hbm, 110, rfl⟩
abbrev main_v58 : Ref sig .tc := ⟨.hbm, 111, rfl⟩
abbrev main_v59 : Ref sig .tc := ⟨.hbm, 112, rfl⟩
abbrev main_c_17 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_c_18 : Ref sig .tc := ⟨.hbm, 119, rfl⟩
abbrev main_v65 : Ref sig .tc := ⟨.hbm, 120, rfl⟩
abbrev main_v66 : Ref sig .tc := ⟨.hbm, 121, rfl⟩
abbrev main_c_19 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_20 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_call6_cst : Ref sig .tc := ⟨.hbm, 196, rfl⟩
abbrev main_call6_v0 : Ref sig .tc := ⟨.hbm, 197, rfl⟩
abbrev main_call6_cst_0 : Ref sig .tc := ⟨.hbm, 198, rfl⟩
abbrev main_call6_v1 : Ref sig .tc := ⟨.hbm, 199, rfl⟩
abbrev main_call6_v2 : Ref sig .tc := ⟨.hbm, 200, rfl⟩
abbrev main_call6_v3 : Ref sig .tc := ⟨.hbm, 201, rfl⟩
abbrev main_call6_v4 : Ref sig .tc := ⟨.hbm, 202, rfl⟩
abbrev main_call6_v5 : Ref sig .tc := ⟨.hbm, 203, rfl⟩
abbrev main_call6_v6 : Ref sig .tc := ⟨.hbm, 204, rfl⟩
abbrev main_call6_cst_1 : Ref sig .tc := ⟨.hbm, 205, rfl⟩
abbrev main_call6_v7 : Ref sig .tc := ⟨.hbm, 206, rfl⟩
abbrev main_call6_v8 : Ref sig .tc := ⟨.hbm, 207, rfl⟩
abbrev main_call6_v9 : Ref sig .tc := ⟨.hbm, 208, rfl⟩
abbrev main_call6_v10 : Ref sig .tc := ⟨.hbm, 209, rfl⟩
abbrev main_v139 : Ref sig .tc := ⟨.hbm, 210, rfl⟩
abbrev main_c_21 : Ref sig .tc := ⟨.hbm, 211, rfl⟩
abbrev main_c_22 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_c_23 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_cst_24 : Ref sig .tc := ⟨.hbm, 221, rfl⟩
abbrev main_cst_25 : Ref sig .tc := ⟨.hbm, 222, rfl⟩
abbrev main_call7_v0 : Ref sig .tc := ⟨.hbm, 223, rfl⟩
abbrev main_call7_v1 : Ref sig .tc := ⟨.hbm, 224, rfl⟩
abbrev main_call7_v2 : Ref sig .tc := ⟨.hbm, 225, rfl⟩
abbrev main_call7_v3 : Ref sig .tc := ⟨.hbm, 226, rfl⟩
abbrev main_call7_v4 : Ref sig .tc := ⟨.hbm, 227, rfl⟩
abbrev main_call7_v5 : Ref sig .tc := ⟨.hbm, 228, rfl⟩
abbrev main_call7_v6 : Ref sig .tc := ⟨.hbm, 229, rfl⟩
abbrev main_call7_v7 : Ref sig .tc := ⟨.hbm, 230, rfl⟩
abbrev main_call7_v8 : Ref sig .tc := ⟨.hbm, 231, rfl⟩
abbrev main_call7_v9 : Ref sig .tc := ⟨.hbm, 232, rfl⟩
abbrev main_call7_c : Ref sig .tc := ⟨.hbm, 233, rfl⟩
abbrev main_call7_v10 : Ref sig .tc := ⟨.hbm, 234, rfl⟩
abbrev main_call7_v11 : Ref sig .tc := ⟨.hbm, 235, rfl⟩
abbrev main_call7_c_0 : Ref sig .tc := ⟨.hbm, 236, rfl⟩
abbrev main_call7_v12 : Ref sig .tc := ⟨.hbm, 237, rfl⟩
abbrev main_call7_v13 : Ref sig .tc := ⟨.hbm, 238, rfl⟩
abbrev main_call7_v14 : Ref sig .tc := ⟨.hbm, 239, rfl⟩
abbrev main_call7_c_1 : Ref sig .tc := ⟨.hbm, 240, rfl⟩
abbrev main_call7_v15 : Ref sig .tc := ⟨.hbm, 241, rfl⟩
abbrev main_call7_v16 : Ref sig .tc := ⟨.hbm, 242, rfl⟩
abbrev main_call7_v17 : Ref sig .tc := ⟨.hbm, 243, rfl⟩
abbrev main_call7_v18 : Ref sig .tc := ⟨.hbm, 244, rfl⟩
abbrev main_call7_call0_v0 : Ref sig .tc := ⟨.hbm, 245, rfl⟩
abbrev main_call7_call0_c : Ref sig .tc := ⟨.hbm, 246, rfl⟩
abbrev main_call7_call0_v1 : Ref sig .tc := ⟨.hbm, 247, rfl⟩
abbrev main_call7_call0_v2 : Ref sig .tc := ⟨.hbm, 248, rfl⟩
abbrev main_call7_call0_v3 : Ref sig .tc := ⟨.hbm, 249, rfl⟩
abbrev main_call7_call0_v4 : Ref sig .tc := ⟨.hbm, 250, rfl⟩
abbrev main_call7_call0_v5 : Ref sig .tc := ⟨.hbm, 251, rfl⟩
abbrev main_call7_call0_v6 : Ref sig .tc := ⟨.hbm, 252, rfl⟩
abbrev main_call7_call0_c_0 : Ref sig .tc := ⟨.hbm, 253, rfl⟩
abbrev main_call7_call0_v7 : Ref sig .tc := ⟨.hbm, 254, rfl⟩
abbrev main_call7_call0_v8 : Ref sig .tc := ⟨.hbm, 255, rfl⟩
abbrev main_call7_call0_c_1 : Ref sig .tc := ⟨.hbm, 256, rfl⟩
abbrev main_call7_call0_v9 : Ref sig .tc := ⟨.hbm, 257, rfl⟩
abbrev main_call7_call0_v10 : Ref sig .tc := ⟨.hbm, 258, rfl⟩
abbrev main_call7_call0_v11 : Ref sig .tc := ⟨.hbm, 259, rfl⟩
abbrev main_call7_call0_v12 : Ref sig .tc := ⟨.hbm, 260, rfl⟩
abbrev main_call7_call0_v13 : Ref sig .tc := ⟨.hbm, 261, rfl⟩
abbrev main_call7_call0_c_2 : Ref sig .tc := ⟨.hbm, 262, rfl⟩
abbrev main_call7_call0_v14 : Ref sig .tc := ⟨.hbm, 263, rfl⟩
abbrev main_call7_call0_v15 : Ref sig .tc := ⟨.hbm, 264, rfl⟩
abbrev main_call7_call0_c_3 : Ref sig .tc := ⟨.hbm, 265, rfl⟩
abbrev main_call7_call0_v16 : Ref sig .tc := ⟨.hbm, 266, rfl⟩
abbrev main_call7_call0_v17 : Ref sig .tc := ⟨.hbm, 267, rfl⟩
abbrev main_call7_call0_v18 : Ref sig .tc := ⟨.hbm, 268, rfl⟩
abbrev main_call7_call0_v19 : Ref sig .tc := ⟨.hbm, 269, rfl⟩
abbrev main_call7_call0_v20 : Ref sig .tc := ⟨.hbm, 270, rfl⟩
abbrev main_call7_call0_c_4 : Ref sig .tc := ⟨.hbm, 271, rfl⟩
abbrev main_call7_call0_v21 : Ref sig .tc := ⟨.hbm, 272, rfl⟩
abbrev main_call7_call0_v22 : Ref sig .tc := ⟨.hbm, 273, rfl⟩
abbrev main_call7_call0_c_5 : Ref sig .tc := ⟨.hbm, 274, rfl⟩
abbrev main_call7_call0_v23 : Ref sig .tc := ⟨.hbm, 275, rfl⟩
abbrev main_call7_call0_v24 : Ref sig .tc := ⟨.hbm, 276, rfl⟩
abbrev main_call7_call0_v25 : Ref sig .tc := ⟨.hbm, 277, rfl⟩
abbrev main_call7_call0_v26 : Ref sig .tc := ⟨.hbm, 278, rfl⟩
abbrev main_call7_call0_v27 : Ref sig .tc := ⟨.hbm, 279, rfl⟩
abbrev main_call7_call0_c_6 : Ref sig .tc := ⟨.hbm, 280, rfl⟩
abbrev main_call7_call0_v28 : Ref sig .tc := ⟨.hbm, 281, rfl⟩
abbrev main_call7_call0_v29 : Ref sig .tc := ⟨.hbm, 282, rfl⟩
abbrev main_call7_call0_c_7 : Ref sig .tc := ⟨.hbm, 283, rfl⟩
abbrev main_call7_call0_v30 : Ref sig .tc := ⟨.hbm, 284, rfl⟩
abbrev main_call7_call0_v31 : Ref sig .tc := ⟨.hbm, 285, rfl⟩
abbrev main_call7_call0_v32 : Ref sig .tc := ⟨.hbm, 286, rfl⟩
abbrev main_call7_call0_v33 : Ref sig .tc := ⟨.hbm, 287, rfl⟩
abbrev main_call7_call0_v34 : Ref sig .tc := ⟨.hbm, 288, rfl⟩
abbrev main_call7_call0_v35 : Ref sig .tc := ⟨.hbm, 289, rfl⟩
abbrev main_call7_call0_v36 : Ref sig .tc := ⟨.hbm, 290, rfl⟩
abbrev main_call7_call0_v37 : Ref sig .tc := ⟨.hbm, 291, rfl⟩
abbrev main_call7_call0_c_8 : Ref sig .tc := ⟨.hbm, 292, rfl⟩
abbrev main_call7_call0_v38 : Ref sig .tc := ⟨.hbm, 293, rfl⟩
abbrev main_call7_call0_v39 : Ref sig .tc := ⟨.hbm, 294, rfl⟩
abbrev main_call7_call0_v40 : Ref sig .tc := ⟨.hbm, 295, rfl⟩
abbrev main_call7_call0_c_9 : Ref sig .tc := ⟨.hbm, 296, rfl⟩
abbrev main_call7_call0_v41 : Ref sig .tc := ⟨.hbm, 297, rfl⟩
abbrev main_call7_call0_v42 : Ref sig .tc := ⟨.hbm, 298, rfl⟩
abbrev main_call7_call0_c_10 : Ref sig .tc := ⟨.hbm, 299, rfl⟩
abbrev main_call7_call0_v43 : Ref sig .tc := ⟨.hbm, 300, rfl⟩
abbrev main_call7_call0_v44 : Ref sig .tc := ⟨.hbm, 301, rfl⟩
abbrev main_call7_call0_v45 : Ref sig .tc := ⟨.hbm, 302, rfl⟩
abbrev main_call7_call0_v46 : Ref sig .tc := ⟨.hbm, 303, rfl⟩
abbrev main_call7_call0_v47 : Ref sig .tc := ⟨.hbm, 304, rfl⟩
abbrev main_call7_call0_c_11 : Ref sig .tc := ⟨.hbm, 305, rfl⟩
abbrev main_call7_call0_v48 : Ref sig .tc := ⟨.hbm, 306, rfl⟩
abbrev main_call7_call0_v49 : Ref sig .tc := ⟨.hbm, 307, rfl⟩
abbrev main_call7_call0_c_12 : Ref sig .tc := ⟨.hbm, 308, rfl⟩
abbrev main_call7_call0_v50 : Ref sig .tc := ⟨.hbm, 309, rfl⟩
abbrev main_call7_call0_v51 : Ref sig .tc := ⟨.hbm, 310, rfl⟩
abbrev main_call7_call0_v52 : Ref sig .tc := ⟨.hbm, 311, rfl⟩
abbrev main_call7_call0_v53 : Ref sig .tc := ⟨.hbm, 312, rfl⟩
abbrev main_call7_call0_v54 : Ref sig .tc := ⟨.hbm, 313, rfl⟩
abbrev main_call7_call0_c_13 : Ref sig .tc := ⟨.hbm, 314, rfl⟩
abbrev main_call7_call0_v55 : Ref sig .tc := ⟨.hbm, 315, rfl⟩
abbrev main_call7_call0_v56 : Ref sig .tc := ⟨.hbm, 316, rfl⟩
abbrev main_call7_call0_c_14 : Ref sig .tc := ⟨.hbm, 317, rfl⟩
abbrev main_call7_call0_v57 : Ref sig .tc := ⟨.hbm, 318, rfl⟩
abbrev main_call7_call0_v58 : Ref sig .tc := ⟨.hbm, 319, rfl⟩
abbrev main_call7_call0_v59 : Ref sig .tc := ⟨.hbm, 320, rfl⟩
abbrev main_call7_call0_v60 : Ref sig .tc := ⟨.hbm, 321, rfl⟩
abbrev main_call7_call0_v61 : Ref sig .tc := ⟨.hbm, 322, rfl⟩
abbrev main_call7_call0_c_15 : Ref sig .tc := ⟨.hbm, 323, rfl⟩
abbrev main_call7_call0_v62 : Ref sig .tc := ⟨.hbm, 324, rfl⟩
abbrev main_call7_call0_v63 : Ref sig .tc := ⟨.hbm, 325, rfl⟩
abbrev main_call7_call0_c_16 : Ref sig .tc := ⟨.hbm, 326, rfl⟩
abbrev main_call7_call0_v64 : Ref sig .tc := ⟨.hbm, 327, rfl⟩
abbrev main_call7_call0_v65 : Ref sig .tc := ⟨.hbm, 328, rfl⟩
abbrev main_call7_call0_v66 : Ref sig .tc := ⟨.hbm, 329, rfl⟩
abbrev main_call7_call0_v67 : Ref sig .tc := ⟨.hbm, 330, rfl⟩
abbrev main_call7_call0_v68 : Ref sig .tc := ⟨.hbm, 331, rfl⟩
abbrev main_call7_call0_v69 : Ref sig .tc := ⟨.hbm, 332, rfl⟩
abbrev main_call7_call0_v70 : Ref sig .tc := ⟨.hbm, 333, rfl⟩
abbrev main_call7_call0_v71 : Ref sig .tc := ⟨.hbm, 334, rfl⟩
abbrev main_call7_call0_c_17 : Ref sig .tc := ⟨.hbm, 335, rfl⟩
abbrev main_call7_call0_v72 : Ref sig .tc := ⟨.hbm, 336, rfl⟩
abbrev main_call7_call0_v73 : Ref sig .tc := ⟨.hbm, 337, rfl⟩
abbrev main_call7_call0_v74 : Ref sig .tc := ⟨.hbm, 338, rfl⟩
abbrev main_call7_call0_c_18 : Ref sig .tc := ⟨.hbm, 339, rfl⟩
abbrev main_call7_call0_v75 : Ref sig .tc := ⟨.hbm, 340, rfl⟩
abbrev main_call7_call0_v76 : Ref sig .tc := ⟨.hbm, 341, rfl⟩
abbrev main_call7_call0_c_19 : Ref sig .tc := ⟨.hbm, 342, rfl⟩
abbrev main_call7_call0_v77 : Ref sig .tc := ⟨.hbm, 343, rfl⟩
abbrev main_call7_call0_v78 : Ref sig .tc := ⟨.hbm, 344, rfl⟩
abbrev main_call7_call0_v79 : Ref sig .tc := ⟨.hbm, 345, rfl⟩
abbrev main_call7_call0_v80 : Ref sig .tc := ⟨.hbm, 346, rfl⟩
abbrev main_call7_call0_v81 : Ref sig .tc := ⟨.hbm, 347, rfl⟩
abbrev main_call7_call0_c_20 : Ref sig .tc := ⟨.hbm, 348, rfl⟩
abbrev main_call7_call0_v82 : Ref sig .tc := ⟨.hbm, 349, rfl⟩
abbrev main_call7_call0_v83 : Ref sig .tc := ⟨.hbm, 350, rfl⟩
abbrev main_call7_call0_c_21 : Ref sig .tc := ⟨.hbm, 351, rfl⟩
abbrev main_call7_call0_v84 : Ref sig .tc := ⟨.hbm, 352, rfl⟩
abbrev main_call7_call0_v85 : Ref sig .tc := ⟨.hbm, 353, rfl⟩
abbrev main_call7_call0_v86 : Ref sig .tc := ⟨.hbm, 354, rfl⟩
abbrev main_call7_call0_v87 : Ref sig .tc := ⟨.hbm, 355, rfl⟩
abbrev main_call7_call0_v88 : Ref sig .tc := ⟨.hbm, 356, rfl⟩
abbrev main_call7_call0_c_22 : Ref sig .tc := ⟨.hbm, 357, rfl⟩
abbrev main_call7_call0_v89 : Ref sig .tc := ⟨.hbm, 358, rfl⟩
abbrev main_call7_call0_v90 : Ref sig .tc := ⟨.hbm, 359, rfl⟩
abbrev main_call7_call0_c_23 : Ref sig .tc := ⟨.hbm, 360, rfl⟩
abbrev main_call7_call0_v91 : Ref sig .tc := ⟨.hbm, 361, rfl⟩
abbrev main_call7_call0_v92 : Ref sig .tc := ⟨.hbm, 362, rfl⟩
abbrev main_call7_call0_v93 : Ref sig .tc := ⟨.hbm, 363, rfl⟩
abbrev main_call7_call0_v94 : Ref sig .tc := ⟨.hbm, 364, rfl⟩
abbrev main_call7_call0_v95 : Ref sig .tc := ⟨.hbm, 365, rfl⟩
abbrev main_call7_call0_c_24 : Ref sig .tc := ⟨.hbm, 366, rfl⟩
abbrev main_call7_call0_v96 : Ref sig .tc := ⟨.hbm, 367, rfl⟩
abbrev main_call7_call0_v97 : Ref sig .tc := ⟨.hbm, 368, rfl⟩
abbrev main_call7_call0_c_25 : Ref sig .tc := ⟨.hbm, 369, rfl⟩
abbrev main_call7_call0_v98 : Ref sig .tc := ⟨.hbm, 370, rfl⟩
abbrev main_call7_call0_v99 : Ref sig .tc := ⟨.hbm, 371, rfl⟩
abbrev main_call7_call0_v100 : Ref sig .tc := ⟨.hbm, 372, rfl⟩
abbrev main_call7_call0_v101 : Ref sig .tc := ⟨.hbm, 373, rfl⟩
abbrev main_call7_call0_v102 : Ref sig .tc := ⟨.hbm, 374, rfl⟩
abbrev main_call7_call0_v103 : Ref sig .tc := ⟨.hbm, 375, rfl⟩
abbrev main_call7_call0_v104 : Ref sig .tc := ⟨.hbm, 376, rfl⟩
abbrev main_call7_call0_v105 : Ref sig .tc := ⟨.hbm, 377, rfl⟩
abbrev main_call7_call0_c_26 : Ref sig .tc := ⟨.hbm, 378, rfl⟩
abbrev main_call7_call0_v106 : Ref sig .tc := ⟨.hbm, 379, rfl⟩
abbrev main_call7_call0_v107 : Ref sig .tc := ⟨.hbm, 380, rfl⟩
abbrev main_call7_call0_v108 : Ref sig .tc := ⟨.hbm, 381, rfl⟩
abbrev main_call7_call0_c_27 : Ref sig .tc := ⟨.hbm, 382, rfl⟩
abbrev main_call7_call0_v109 : Ref sig .tc := ⟨.hbm, 383, rfl⟩
abbrev main_call7_call0_v110 : Ref sig .tc := ⟨.hbm, 384, rfl⟩
abbrev main_call7_call0_c_28 : Ref sig .tc := ⟨.hbm, 385, rfl⟩
abbrev main_call7_call0_v111 : Ref sig .tc := ⟨.hbm, 386, rfl⟩
abbrev main_call7_call0_v112 : Ref sig .tc := ⟨.hbm, 387, rfl⟩
abbrev main_call7_call0_v113 : Ref sig .tc := ⟨.hbm, 388, rfl⟩
abbrev main_call7_call0_v114 : Ref sig .tc := ⟨.hbm, 389, rfl⟩
abbrev main_call7_call0_v115 : Ref sig .tc := ⟨.hbm, 390, rfl⟩
abbrev main_call7_call0_c_29 : Ref sig .tc := ⟨.hbm, 391, rfl⟩
abbrev main_call7_call0_v116 : Ref sig .tc := ⟨.hbm, 392, rfl⟩
abbrev main_call7_call0_v117 : Ref sig .tc := ⟨.hbm, 393, rfl⟩
abbrev main_call7_call0_c_30 : Ref sig .tc := ⟨.hbm, 394, rfl⟩
abbrev main_call7_call0_v118 : Ref sig .tc := ⟨.hbm, 395, rfl⟩
abbrev main_call7_call0_v119 : Ref sig .tc := ⟨.hbm, 396, rfl⟩
abbrev main_call7_call0_v120 : Ref sig .tc := ⟨.hbm, 397, rfl⟩
abbrev main_call7_call0_v121 : Ref sig .tc := ⟨.hbm, 398, rfl⟩
abbrev main_call7_call0_v122 : Ref sig .tc := ⟨.hbm, 399, rfl⟩
abbrev main_call7_call0_c_31 : Ref sig .tc := ⟨.hbm, 400, rfl⟩
abbrev main_call7_call0_v123 : Ref sig .tc := ⟨.hbm, 401, rfl⟩
abbrev main_call7_call0_v124 : Ref sig .tc := ⟨.hbm, 402, rfl⟩
abbrev main_call7_call0_c_32 : Ref sig .tc := ⟨.hbm, 403, rfl⟩
abbrev main_call7_call0_v125 : Ref sig .tc := ⟨.hbm, 404, rfl⟩
abbrev main_call7_call0_v126 : Ref sig .tc := ⟨.hbm, 405, rfl⟩
abbrev main_call7_call0_v127 : Ref sig .tc := ⟨.hbm, 406, rfl⟩
abbrev main_call7_call0_v128 : Ref sig .tc := ⟨.hbm, 407, rfl⟩
abbrev main_call7_call0_v129 : Ref sig .tc := ⟨.hbm, 408, rfl⟩
abbrev main_call7_call0_c_33 : Ref sig .tc := ⟨.hbm, 409, rfl⟩
abbrev main_call7_call0_v130 : Ref sig .tc := ⟨.hbm, 410, rfl⟩
abbrev main_call7_call0_v131 : Ref sig .tc := ⟨.hbm, 411, rfl⟩
abbrev main_call7_call0_c_34 : Ref sig .tc := ⟨.hbm, 412, rfl⟩
abbrev main_call7_call0_v132 : Ref sig .tc := ⟨.hbm, 413, rfl⟩
abbrev main_call7_call0_v133 : Ref sig .tc := ⟨.hbm, 414, rfl⟩
abbrev main_call7_call0_v134 : Ref sig .tc := ⟨.hbm, 415, rfl⟩
abbrev main_call7_call0_v135 : Ref sig .tc := ⟨.hbm, 416, rfl⟩
abbrev main_call7_call0_v136 : Ref sig .tc := ⟨.hbm, 417, rfl⟩
abbrev main_call7_call0_v137 : Ref sig .tc := ⟨.hbm, 418, rfl⟩
abbrev main_call7_call0_v138 : Ref sig .tc := ⟨.hbm, 419, rfl⟩
abbrev main_call7_call0_v139 : Ref sig .tc := ⟨.hbm, 420, rfl⟩
abbrev main_call7_call0_c_35 : Ref sig .tc := ⟨.hbm, 421, rfl⟩
abbrev main_call7_call0_v140 : Ref sig .tc := ⟨.hbm, 422, rfl⟩
abbrev main_call7_call0_v141 : Ref sig .tc := ⟨.hbm, 423, rfl⟩
abbrev main_call7_call0_v142 : Ref sig .tc := ⟨.hbm, 424, rfl⟩
abbrev main_call7_call0_c_36 : Ref sig .tc := ⟨.hbm, 425, rfl⟩
abbrev main_call7_call0_v143 : Ref sig .tc := ⟨.hbm, 426, rfl⟩
abbrev main_call7_call0_v144 : Ref sig .tc := ⟨.hbm, 427, rfl⟩
abbrev main_call7_call0_c_37 : Ref sig .tc := ⟨.hbm, 428, rfl⟩
abbrev main_call7_call0_v145 : Ref sig .tc := ⟨.hbm, 429, rfl⟩
abbrev main_call7_call0_v146 : Ref sig .tc := ⟨.hbm, 430, rfl⟩
abbrev main_call7_call0_v147 : Ref sig .tc := ⟨.hbm, 431, rfl⟩
abbrev main_call7_call0_v148 : Ref sig .tc := ⟨.hbm, 432, rfl⟩
abbrev main_call7_call0_v149 : Ref sig .tc := ⟨.hbm, 433, rfl⟩
abbrev main_call7_call0_c_38 : Ref sig .tc := ⟨.hbm, 434, rfl⟩
abbrev main_call7_call0_v150 : Ref sig .tc := ⟨.hbm, 435, rfl⟩
abbrev main_call7_call0_v151 : Ref sig .tc := ⟨.hbm, 436, rfl⟩
abbrev main_call7_call0_c_39 : Ref sig .tc := ⟨.hbm, 437, rfl⟩
abbrev main_call7_call0_v152 : Ref sig .tc := ⟨.hbm, 438, rfl⟩
abbrev main_call7_call0_v153 : Ref sig .tc := ⟨.hbm, 439, rfl⟩
abbrev main_call7_call0_v154 : Ref sig .tc := ⟨.hbm, 440, rfl⟩
abbrev main_call7_call0_v155 : Ref sig .tc := ⟨.hbm, 441, rfl⟩
abbrev main_call7_call0_v156 : Ref sig .tc := ⟨.hbm, 442, rfl⟩
abbrev main_call7_call0_c_40 : Ref sig .tc := ⟨.hbm, 443, rfl⟩
abbrev main_call7_call0_v157 : Ref sig .tc := ⟨.hbm, 444, rfl⟩
abbrev main_call7_call0_v158 : Ref sig .tc := ⟨.hbm, 445, rfl⟩
abbrev main_call7_call0_c_41 : Ref sig .tc := ⟨.hbm, 446, rfl⟩
abbrev main_call7_call0_v159 : Ref sig .tc := ⟨.hbm, 447, rfl⟩
abbrev main_call7_call0_v160 : Ref sig .tc := ⟨.hbm, 448, rfl⟩
abbrev main_call7_call0_v161 : Ref sig .tc := ⟨.hbm, 449, rfl⟩
abbrev main_call7_call0_v162 : Ref sig .tc := ⟨.hbm, 450, rfl⟩
abbrev main_call7_call0_v163 : Ref sig .tc := ⟨.hbm, 451, rfl⟩
abbrev main_call7_call0_c_42 : Ref sig .tc := ⟨.hbm, 452, rfl⟩
abbrev main_call7_call0_v164 : Ref sig .tc := ⟨.hbm, 453, rfl⟩
abbrev main_call7_call0_v165 : Ref sig .tc := ⟨.hbm, 454, rfl⟩
abbrev main_call7_call0_c_43 : Ref sig .tc := ⟨.hbm, 455, rfl⟩
abbrev main_call7_call0_v166 : Ref sig .tc := ⟨.hbm, 456, rfl⟩
abbrev main_call7_call0_v167 : Ref sig .tc := ⟨.hbm, 457, rfl⟩
abbrev main_call7_call0_v168 : Ref sig .tc := ⟨.hbm, 458, rfl⟩
abbrev main_call7_call0_v169 : Ref sig .tc := ⟨.hbm, 459, rfl⟩
abbrev main_call7_call0_v170 : Ref sig .tc := ⟨.hbm, 460, rfl⟩
abbrev main_call7_v19_0 : Ref sig .tc := ⟨.hbm, 461, rfl⟩
abbrev main_call7_call0_v172 : Ref sig .tc := ⟨.hbm, 462, rfl⟩
abbrev main_call7_call0_v173 : Ref sig .tc := ⟨.hbm, 463, rfl⟩
abbrev main_call7_call0_c_44 : Ref sig .tc := ⟨.hbm, 464, rfl⟩
abbrev main_call7_call0_v174 : Ref sig .tc := ⟨.hbm, 465, rfl⟩
abbrev main_call7_v19_1 : Ref sig .tc := ⟨.hbm, 466, rfl⟩
abbrev main_call7_v20 : Ref sig .tc := ⟨.hbm, 467, rfl⟩
abbrev main_call7_c_2 : Ref sig .tc := ⟨.hbm, 468, rfl⟩
abbrev main_call7_v21 : Ref sig .tc := ⟨.hbm, 469, rfl⟩
abbrev main_call7_v22 : Ref sig .tc := ⟨.hbm, 470, rfl⟩
abbrev main_call7_c_3 : Ref sig .tc := ⟨.hbm, 471, rfl⟩
abbrev main_call7_v23 : Ref sig .tc := ⟨.hbm, 472, rfl⟩
abbrev main_call7_v24 : Ref sig .tc := ⟨.hbm, 473, rfl⟩
abbrev main_call7_v25 : Ref sig .tc := ⟨.hbm, 474, rfl⟩
abbrev main_call7_cst : Ref sig .tc := ⟨.hbm, 475, rfl⟩
abbrev main_call7_v26 : Ref sig .tc := ⟨.hbm, 476, rfl⟩
abbrev main_call7_v27 : Ref sig .tc := ⟨.hbm, 477, rfl⟩
abbrev main_call7_v28 : Ref sig .tc := ⟨.hbm, 478, rfl⟩
abbrev main_call7_v29 : Ref sig .tc := ⟨.hbm, 479, rfl⟩
abbrev main_call7_v30 : Ref sig .tc := ⟨.hbm, 480, rfl⟩
abbrev main_call7_v31 : Ref sig .tc := ⟨.hbm, 481, rfl⟩
abbrev main_call7_v32 : Ref sig .tc := ⟨.hbm, 482, rfl⟩
abbrev main_call7_v33 : Ref sig .tc := ⟨.hbm, 483, rfl⟩
abbrev main_v147 : Ref sig .tc := ⟨.hbm, 484, rfl⟩
abbrev main_cst_26 : Ref sig .tc := ⟨.hbm, 485, rfl⟩
abbrev main_v148 : Ref sig .tc := ⟨.hbm, 486, rfl⟩
abbrev main_v149 : Ref sig .tc := ⟨.hbm, 487, rfl⟩
abbrev main_v150 : Ref sig .tc := ⟨.hbm, 488, rfl⟩
abbrev main_v151 : Ref sig .tc := ⟨.hbm, 489, rfl⟩
abbrev main_cst_27 : Ref sig .tc := ⟨.hbm, 490, rfl⟩
abbrev main_v152 : Ref sig .tc := ⟨.hbm, 491, rfl⟩
abbrev main_v153 : Ref sig .tc := ⟨.hbm, 492, rfl⟩
abbrev main_v154 : Ref sig .tc := ⟨.hbm, 493, rfl⟩
abbrev main_v155 : Ref sig .tc := ⟨.hbm, 494, rfl⟩
abbrev main_v156 : Ref sig .tc := ⟨.hbm, 495, rfl⟩
abbrev main_call8_v0 : Ref sig .tc := ⟨.hbm, 496, rfl⟩
abbrev main_call8_cst : Ref sig .tc := ⟨.hbm, 497, rfl⟩
abbrev main_call8_c : Ref sig .tc := ⟨.hbm, 498, rfl⟩
abbrev main_call8_v1_0 : Ref sig .tc := ⟨.hbm, 499, rfl⟩
abbrev main_v157 : Ref sig .tc := ⟨.hbm, 500, rfl⟩
abbrev main_call9_v0 : Ref sig .tc := ⟨.hbm, 501, rfl⟩
abbrev main_call9_v1 : Ref sig .tc := ⟨.hbm, 502, rfl⟩
abbrev main_call9_v2 : Ref sig .tc := ⟨.hbm, 503, rfl⟩
abbrev main_call9_v3 : Ref sig .tc := ⟨.hbm, 504, rfl⟩
abbrev main_call9_v4 : Ref sig .tc := ⟨.hbm, 505, rfl⟩
abbrev main_v158 : Ref sig .tc := ⟨.hbm, 506, rfl⟩
abbrev main_cst_28 : Ref sig .tc := ⟨.hbm, 507, rfl⟩
abbrev main_cst_29 : Ref sig .tc := ⟨.hbm, 508, rfl⟩
abbrev main_call10_v0 : Ref sig .tc := ⟨.hbm, 509, rfl⟩
abbrev main_call10_v1 : Ref sig .tc := ⟨.hbm, 510, rfl⟩
abbrev main_call10_v2 : Ref sig .tc := ⟨.hbm, 511, rfl⟩
abbrev main_call10_v3 : Ref sig .tc := ⟨.hbm, 512, rfl⟩
abbrev main_call10_v4 : Ref sig .tc := ⟨.hbm, 513, rfl⟩
abbrev main_v159 : Ref sig .tc := ⟨.hbm, 514, rfl⟩
abbrev main_v160 : Ref sig .tc := ⟨.hbm, 515, rfl⟩
abbrev main_v161 : Ref sig .tc := ⟨.hbm, 516, rfl⟩
abbrev main_v162 : Ref sig .tc := ⟨.hbm, 517, rfl⟩

abbrev nD : Nat := 1
abbrev τ : Topo := Topo.v7x

variable {F : FTy → Type} [FloatOps F]
-- ==== Proof.Posterior.lean ====
module

public import Idealize.ShloMosaic.PureOps.Ideal.Laws
public import Idealize.ShloMosaic.Lib.IdealHost

/-! The posterior of one edge as real numbers, and the reference's logarithmic arithmetic read on them. -/

@[expose] public section

noncomputable section

namespace Cert.Posterior

open Idealize.ShloMosaic

/-! ## The constants -/

/-- The floor of a probability, the value of the single-precision number next to `1e-30`. -/
def eps : ℝ := 332307 / 332306998946228968225951765070086144

/-- The probability that the noise turns an edge on, the single-precision number next to `1e-12`. -/
def p1 : ℝ := 9223372 / 9223372036854775808

/-- The floor's bits. -/
theorem ofBits_eps : Ideal.ofBits .f32 0x0DA24260#32 = ((eps : ℝ) : EReal) := by
  simp [Ideal.ofBits, Ideal.ieee, -EReal.coe_mul, eps]; norm_num

/-- The noise probability's bits. -/
theorem ofBits_p1 : Ideal.ofBits .f32 0x2B8CBCCC#32 = ((p1 : ℝ) : EReal) := by
  simp [Ideal.ofBits, Ideal.ieee, -EReal.coe_mul, p1]; norm_num

/-- The bits of a thousand. -/
theorem ofBits_1000 : Ideal.ofBits .f32 0x447A0000#32 = ((1000 : ℝ) : EReal) := by
  simp [Ideal.ofBits, Ideal.ieee, -EReal.coe_mul]; norm_num

/-- The bits of 999. -/
theorem ofBits_999 : Ideal.ofBits .f32 0x4479C000#32 = ((999 : ℝ) : EReal) := by
  simp [Ideal.ofBits, Ideal.ieee, -EReal.coe_mul]; norm_num

/-- The bits of minus infinity. -/
theorem ofBits_neg_inf : Ideal.ofBits .f32 0xFF800000#32 = ⊥ := by
  simp [Ideal.ofBits, Ideal.ieee]

/-- The floor is positive. -/
theorem eps_pos : 0 < eps := by norm_num [eps]
/-- The floor is less than one. -/
theorem eps_lt_one : eps < 1 := by norm_num [eps]
/-- The noise probability is positive. -/
theorem p1_pos : 0 < p1 := by norm_num [p1]

/-! ## Extended reals that are logarithms of positive reals -/

/-- The logarithm of a positive real. -/
theorem log_pos {p : ℝ} (h : 0 < p) : Ideal.log (p : EReal) = (Real.log p : EReal) := by
  rw [Ideal.log_coe, if_neg (not_le.mpr h)]

/-- `x` is the logarithm of the positive real `p`. -/
structure IsLog (x : EReal) (p : ℝ) : Prop where
  pos : 0 < p
  eq : x = (Real.log p : EReal)

namespace IsLog

variable {x y : EReal} {p q : ℝ}

/-- The logarithm of a positive real is one. -/
theorem of_log (h : 0 < p) : IsLog (Ideal.log (p : EReal)) p := ⟨h, log_pos h⟩

/-- A real is the logarithm of its exponential. -/
theorem of_real (a : ℝ) : IsLog (a : EReal) (Real.exp a) := ⟨Real.exp_pos a, by rw [Real.log_exp]⟩

/-- A sum of logarithms is the product's. -/
theorem add (hx : IsLog x p) (hy : IsLog y q) : IsLog (x + y) (p * q) :=
  ⟨mul_pos hx.pos hy.pos, by rw [hx.eq, hy.eq, Real.log_mul hx.pos.ne' hy.pos.ne', EReal.coe_add]⟩

/-- A difference of logarithms is the quotient's. -/
theorem sub (hx : IsLog x p) (hy : IsLog y q) : IsLog (x - y) (p / q) :=
  ⟨div_pos hx.pos hy.pos, by rw [hx.eq, hy.eq, Real.log_div hx.pos.ne' hy.pos.ne', EReal.coe_sub]⟩

/-- The greater logarithm is the greater number's. -/
theorem max (hx : IsLog x p) (hy : IsLog y q) : IsLog (Max.max x y) (Max.max p q) := by
  refine ⟨lt_max_of_lt_left hx.pos, ?_⟩
  rw [hx.eq, hy.eq]
  rcases le_total p q with h | h
  · rw [max_eq_right h, max_eq_right (EReal.coe_le_coe_iff.2 (Real.log_le_log hx.pos h))]
  · rw [max_eq_left h, max_eq_left (EReal.coe_le_coe_iff.2 (Real.log_le_log hy.pos h))]

/-- The exponential takes the logarithm back. -/
theorem exp (hx : IsLog x p) : Ideal.exp x = (p : EReal) := by
  rw [hx.eq, Ideal.exp_coe, Real.exp_log hx.pos]

/-- `max x y + log1p (exp (-|x - y|))` is the logarithm of the sum. -/
theorem logaddexp (hx : IsLog x p) (hy : IsLog y q) :
    IsLog (Max.max x y + Ideal.log1p (Ideal.exp (-(Max.max (x - y) (-(x - y)))))) (p + q) := by
  have hp := hx.pos
  have hq := hy.pos
  have key : ∀ {p q : ℝ}, 0 < p → 0 < q → p ≤ q → Real.log q + Real.log (1 + p / q) = Real.log (p + q) := by
    intro p q hp hq _
    rw [← Real.log_mul hq.ne' (by positivity)]
    congr 1; field_simp; ring
  have hd := hx.sub hy
  have hn : -(x - y) = ((Real.log (q / p) : ℝ) : EReal) := by
    rw [hd.eq, ← EReal.coe_neg, ← Real.log_inv, inv_div]
  refine ⟨add_pos hp hq, ?_⟩
  rw [hn, hd.eq, hx.eq, hy.eq]
  rcases le_total p q with h | h
  · have h1 : Real.log (p / q) ≤ Real.log (q / p) := Real.log_le_log (div_pos hp hq) (by
      rw [div_le_div_iff₀ hq hp]; nlinarith)
    rw [max_eq_right (EReal.coe_le_coe_iff.2 (Real.log_le_log hp h)), max_eq_right (EReal.coe_le_coe_iff.2 h1), ← EReal.coe_neg,
      Ideal.exp_coe, ← Real.log_inv, inv_div, Real.exp_log (div_pos hp hq), Ideal.log1p, ← EReal.coe_one, ← EReal.coe_add,
      log_pos (by positivity), ← EReal.coe_add, key hp hq h]
  · have h1 : Real.log (q / p) ≤ Real.log (p / q) := Real.log_le_log (div_pos hq hp) (by
      rw [div_le_div_iff₀ hp hq]; nlinarith)
    rw [max_eq_left (EReal.coe_le_coe_iff.2 (Real.log_le_log hq h)), max_eq_left (EReal.coe_le_coe_iff.2 h1), ← EReal.coe_neg,
      Ideal.exp_coe, ← Real.log_inv, inv_div, Real.exp_log (div_pos hq hp), Ideal.log1p, ← EReal.coe_one, ← EReal.coe_add,
      log_pos (by positivity), ← EReal.coe_add, key hq hp h, add_comm q p]

/-- The logarithm of a softmax, the greatest entry taken off first. -/
theorem log_softmax {z m : EReal} {r c : ℝ} (hx : IsLog x p) (hy : IsLog y q) (hz : IsLog z r) (hm : IsLog m c) :
    IsLog ((z - m) - Ideal.log (Ideal.exp (x - m) + Ideal.exp (y - m))) (r / (p + q)) := by
  have h1 : Ideal.exp (x - m) + Ideal.exp (y - m) = (((p + q) / c : ℝ) : EReal) := by
    rw [(hx.sub hm).exp, (hy.sub hm).exp, ← EReal.coe_add, add_div]
  have hpq := add_pos hx.pos hy.pos
  have hc := hm.pos
  have h2 := (hz.sub hm).sub (of_log (div_pos hpq hc))
  rw [h1]
  refine ⟨div_pos hz.pos hpq, h2.eq.trans ?_⟩
  congr 2
  field_simp

end IsLog

/-! ## The schedule -/

/-- The chance `β` that step `t` replaces a bit. -/
def beta (t : ℕ) : ℝ := 1 / (1000 - t)

/-- The chance that step `t` keeps a bit, floored. -/
def alpha (t : ℕ) : ℝ := max (1 - beta t) eps

/-- The step before `t`. -/
def prev (t : ℕ) : ℕ := t - 1

/-- The chance that no step up to `k` replaces a bit. -/
def cum (k : ℕ) : ℝ := (999 - k) / 1000

/-- The chance that some step up to `k` replaces a bit. -/
def cumn (k : ℕ) : ℝ := (k + 1) / 1000

/-- The number of steps that remain is positive. -/
theorem den_pos {t : ℕ} (h : t < 1000) : (0 : ℝ) < 1000 - t := by
  have : (t : ℝ) < 1000 := by exact_mod_cast h
  linarith

/-- The chance of a replacement is positive. -/
theorem beta_pos {t : ℕ} (h : t < 1000) : 0 < beta t := div_pos one_pos (den_pos h)
/-- The floored chance of keeping a bit is positive. -/
theorem alpha_pos (t : ℕ) : 0 < alpha t := lt_max_of_lt_right eps_pos

/-- The floored chance of keeping a bit is at most one. -/
theorem alpha_le_one {t : ℕ} (h : t < 1000) : alpha t ≤ 1 :=
  max_le (by have := beta_pos h; linarith) eps_lt_one.le

/-- The chance that a bit is kept through all steps before `t` is positive. -/
theorem cum_pos {k : ℕ} (h : k < 999) : 0 < cum k := by
  have : (k : ℝ) < 999 := by exact_mod_cast h
  exact div_pos (by linarith) (by norm_num)

/-- The chance that some step has replaced the bit is positive. -/
theorem cumn_pos (k : ℕ) : 0 < cumn k := div_pos (by positivity) (by norm_num)

/-- The two chances sum to one. -/
theorem cum_add (k : ℕ) : 1 - cum k = cumn k := by rw [cum, cumn]; ring

/-- Below the last step the floor is never met. -/
theorem alpha_eq {t : ℕ} (h : t < 999) : alpha t = (999 - t) / (1000 - t) := by
  have h0 : (0 : ℝ) < 1000 - t := den_pos (by omega)
  have h1 : (t : ℝ) + 1 ≤ 999 := by exact_mod_cast h
  have e : (1 : ℝ) - beta t = (999 - t) / (1000 - t) := by rw [beta]; field_simp; ring
  rw [alpha, e, max_eq_left]
  rw [le_div_iff₀ h0]
  have h2 : (1000 : ℝ) - t ≤ 1000 := by have : (0 : ℝ) ≤ t := Nat.cast_nonneg t; linarith
  have h3 : eps * (1000 - t) ≤ eps * 1000 := mul_le_mul_of_nonneg_left h2 eps_pos.le
  have h4 : eps * 1000 ≤ 1 := by norm_num [eps]
  linarith

/-- The product of the chances telescopes. -/
theorem prod_alpha : ∀ k : ℕ, k < 999 → ∏ j ∈ Finset.range (k + 1), alpha j = cum k
  | 0, _ => by rw [Finset.prod_range_one, alpha_eq (by norm_num), cum]; norm_num
  | k + 1, h => by
    rw [Finset.prod_range_succ, prod_alpha k (by omega), alpha_eq h, cum, cum]
    have : ((k + 1 : ℕ) : ℝ) < 999 := by exact_mod_cast h
    push_cast at *
    have h1 : (1000 : ℝ) - (k + 1) ≠ 0 := by linarith
    field_simp
    ring

/-- A sum of logarithms over a range is the logarithm of the product. -/
theorem isLog_sum (f : ℕ → EReal) (g : ℕ → ℝ) : ∀ n : ℕ, (∀ j < n, IsLog (f j) (g j)) →
    IsLog (∑ j ∈ Finset.range n, f j) (∏ j ∈ Finset.range n, g j)
  | 0, _ => by simpa using (⟨one_pos, by simp⟩ : IsLog 0 1)
  | n + 1, h => by
    rw [Finset.sum_range_succ, Finset.prod_range_succ]
    exact (isLog_sum f g n fun j hj => h j (by omega)).add (h n (by omega))

/-! ## The posterior -/

/-- The two unnormalized weights: the bit `x` of the edge gives `x1` and `x0`, `s` is the predicted chance of the class. -/
def w0 (t : ℕ) (x1 x0 s0 : ℝ) : ℝ := (beta t * p1 * x1 + x0) * (cumn (prev t) + cum (prev t) * s0)

/-- The weight of the other class. -/
def w1 (t : ℕ) (x1 x0 s1 : ℝ) : ℝ := ((alpha t + beta t * p1) * x1 + beta t * x0) * (cum (prev t) * s1 + cumn (prev t) * p1)

/-- The step before one of the thousand steps is numbered below 999. -/
theorem prev_lt {t : ℕ} (h : t < 1000) : prev t < 999 := by unfold prev; omega

/-- The weight of class 0 is positive. -/
theorem w0_pos {t : ℕ} (h : t < 1000) {x1 x0 s0 : ℝ} (h1 : 0 < x1) (h0 : 0 < x0) (hs : 0 < s0) : 0 < w0 t x1 x0 s0 := by
  have := beta_pos h; have := p1_pos; have := cum_pos (prev_lt h); have := cumn_pos (prev t)
  unfold w0; positivity

/-- The weight of class 1 is positive. -/
theorem w1_pos {t : ℕ} (h : t < 1000) {x1 x0 s1 : ℝ} (h1 : 0 < x1) (h0 : 0 < x0) (hs : 0 < s1) : 0 < w1 t x1 x0 s1 := by
  have := beta_pos h; have := p1_pos; have := cum_pos (prev_lt h); have := cumn_pos (prev t); have := alpha_pos t
  unfold w1; positivity

/-! ## The draw -/

/-- The class with the greater perturbed logarithm, in products. -/
theorem draw_iff {r0 r1 v0 v1 : ℝ} (hr0 : 0 < r0) (hr1 : 0 < r1) (hv0 : 0 < v0) (hv1 : 0 < v1) :
    -Real.log v0 + Real.log (r0 / (r0 + r1)) < -Real.log v1 + Real.log (r1 / (r0 + r1)) ↔ 0 < r1 * v0 - r0 * v1 := by
  have h := add_pos hr0 hr1
  rw [Real.log_div hr0.ne' h.ne', Real.log_div hr1.ne' h.ne']
  have e : 0 < r1 * v0 - r0 * v1 ↔ Real.log (r0 * v1) < Real.log (r1 * v0) := by
    rw [Real.log_lt_log_iff (mul_pos hr0 hv1) (mul_pos hr1 hv0), sub_pos]
  rw [e, Real.log_mul hr0.ne' hv1.ne', Real.log_mul hr1.ne' hv0.ne']
  constructor <;> intro h <;> linarith

/-- The exponential variable of a uniform draw below one is a positive real. -/
theorem draw_pos {u : ℝ} (h0 : 0 ≤ u) (h1 : u < 1) :
    ∃ v : ℝ, 0 < v ∧ -(Ideal.log ((u : EReal) + (eps : EReal))) + (eps : EReal) = (v : EReal) := by
  have he := eps_pos
  have hu : 0 < u + eps := by linarith
  refine ⟨-Real.log (u + eps) + eps, ?_, ?_⟩
  · have h2 : Real.log (u + eps) < eps := by
      have h3 : Real.log (u + eps) ≤ u + eps - 1 := Real.log_le_sub_one_of_pos hu
      linarith
    linarith
  · rw [← EReal.coe_add, log_pos hu, ← EReal.coe_neg, ← EReal.coe_add]

end Cert.Posterior

end
-- ==== Proof.Pieces.lean ====
module

public import proofs.«01_k».proof.Proof.Posterior
public import Idealize.ShloMosaic.Lib.Routing.Ops
public import Idealize.ShloMosaic.Lib.Routing.OpsSearch
public import Idealize.ShloMosaic.Lib.Routing.OpsPair
public import Idealize.ShloMosaic.Lib.ValueIdx

/-! Host operations on arrays of any length, read at an index: the two entries of a row reduced, and a running sum of
logarithms. -/

@[expose] public section

noncomputable section

namespace Cert.Pieces

open Idealize.ShloMosaic Idealize.ShloMosaic.ValueIdx Idealize.ShloMosaic.Routing Cert.Posterior

variable {n : ℕ}

/-- An index of a two-column array lies in the row it drops to. -/
theorem drop_iff (h : (shape2 n 2).ReducesTo [1] (shape1 n)) (j : Fin n) (i : (shape2 n 2).Idx) :
    h.drop i = ix1 j ↔ i = ix2 j 0 ∨ i = ix2 j 1 := by
  have hv : (h.drop i 0 : ℕ) = i 0 := Shape.ReducesTo.drop_apply_val h i 0
  have hb := i 1 |>.isLt
  constructor
  · intro e
    have h0 : (i 0 : ℕ) = j.val := by rw [← hv, e]; rfl
    have h0' : i 0 = j := Fin.ext h0
    have h1 : i 1 = (0 : Fin 2) ∨ i 1 = (1 : Fin 2) := by
      have : ∀ k : Fin 2, k = 0 ∨ k = 1 := by decide
      exact this (i 1)
    rcases h1 with h1 | h1
    · left; rw [eq_ix2 i, h0', h1]; rfl
    · right; rw [eq_ix2 i, h0', h1]; rfl
  · rintro (rfl | rfl)
    all_goals
      funext b
      match b with
      | ⟨0, _⟩ => exact Fin.ext hv

/-- The positions of row `j`, in order. -/
theorem row_positions (h : (shape2 n 2).ReducesTo [1] (shape1 n)) (j : Fin n) :
    ((List.finRange (shape2 n 2).numel).filter fun k => h.drop ((shape2 n 2).rowMajor.symm k) = ix1 j)
      = [(shape2 n 2).rowMajor (ix2 j 0), (shape2 n 2).rowMajor (ix2 j 1)] := by
  have hlt : (shape2 n 2).rowMajor (ix2 j 0) < (shape2 n 2).rowMajor (ix2 j 1) := by
    rw [Fin.lt_def, Shape.rowMajor_val_two, Shape.rowMajor_val_two]
    show j.val * 2 + 0 < j.val * 2 + 1
    omega
  refine List.Perm.eq_of_pairwise (le := (· < ·)) (fun a b _ _ h1 h2 => absurd h1 (not_lt.mpr h2.le)) ?_ ?_ ?_
  · exact (List.pairwise_lt_finRange _).filter _
  · exact List.pairwise_pair.mpr hlt
  · refine (List.perm_ext_iff_of_nodup ((List.nodup_finRange _).filter _) (by simpa using hlt.ne)).mpr fun k => ?_
    simp only [List.mem_filter, List.mem_finRange, true_and, decide_eq_true_eq, List.mem_cons, List.not_mem_nil, or_false]
    rw [drop_iff h j, Equiv.symm_apply_eq, Equiv.symm_apply_eq]

/-- The greatest entry of a row. -/
theorem reduce_row {α : Type} (f : α → α → α) (x : (shape2 n 2).Idx → α) (v : shape0.Idx → α)
    (h : (shape2 n 2).ReducesTo [1] (shape1 n)) (hu : 0 < shape0.numel) (j : Fin n) :
    Host.reduce f x v h hu (ix1 j) = f (f (v ix0) (x (ix2 j 0))) (x (ix2 j 1)) := by
  have hv : v (Shape.Idx.first hu) = v ix0 := congrArg v (eq_ix0 _)
  unfold Host.reduce
  rw [row_positions h j]
  simp only [List.foldl_cons, List.foldl_nil, Equiv.symm_apply_apply, hv]

/-- The sum of a row. -/
theorem reduceAdd_row (x : FVec Ideal (shape2 n 2) .f32) (v : FVec Ideal shape0 .f32)
    (h : (shape2 n 2).ReducesTo [1] (shape1 n)) (hu : 0 < shape0.numel) (hv : v ix0 = 0) (j : Fin n) :
    Host.reduceAdd x v h hu (ix1 j) = x (ix2 j 0) + x (ix2 j 1) := by
  have hv' : v (Shape.Idx.first hu) = 0 := (congrArg v (eq_ix0 _)).trans hv
  show Ideal.hostReduceAdd h x (v (Shape.Idx.first hu)) (ix1 j) = _
  have e : (Finset.univ.filter fun i => h.drop i = ix1 j) = {ix2 j (0 : Fin 2), ix2 j (1 : Fin 2)} := by
    ext i
    simp only [Finset.mem_filter, Finset.mem_univ, true_and, Finset.mem_insert, Finset.mem_singleton]
    exact drop_iff h j i
  rw [hv', Ideal.hostReduceAdd, zero_add, e]
  exact Finset.sum_pair fun e => absurd (congrFun e 1) (show ¬ ((0 : Fin 2) = 1) by decide)

/-- An arg-max over a row folds its body over the row's two entries. -/
theorem argReduce_row (f : EReal × BitVec 32 → EReal × BitVec 32 → EReal × BitVec 32) (x : FVec Ideal (shape2 n 2) .f32)
    (y : (shape2 n 2).Idx → BitVec 32) (ix : FVec Ideal shape0 .f32) (iy : shape0.Idx → BitVec 32)
    (h : (shape2 n 2).ReducesTo [1] (shape1 n)) (hu : 0 < shape0.numel) (j : Fin n) :
    Host.argReduce (F := Ideal) (φ := .f32) f x y ix iy h hu (ix1 j)
      = f (f (ix ix0, iy ix0) (x (ix2 j 0), y (ix2 j 0))) (x (ix2 j 1), y (ix2 j 1)) := by
  have hv : ix (Shape.Idx.first hu) = ix ix0 := congrArg ix (eq_ix0 _)
  have hw : iy (Shape.Idx.first hu) = iy ix0 := congrArg iy (eq_ix0 _)
  rw [Ideal.argReduce_eq_reduce2]
  unfold Host.reduce2
  rw [row_positions h j]
  simp only [List.foldl_cons, List.foldl_nil, Equiv.symm_apply_apply, hv, hw]

/-- A left fold of addition is the sum of the list. -/
theorem foldl_add {ι : Type} (l : List ι) (g : ι → EReal) (z : EReal) : l.foldl (fun r a => r + g a) z = z + (l.map g).sum := by
  induction l generalizing z with
  | nil => simp
  | cons a l ih => rw [List.foldl_cons, ih, List.map_cons, List.sum_cons, add_assoc]

/-- The part of a padded window that lies in the array. -/
theorem window_sum (f : ℕ → EReal) {M j : ℕ} (hj : j < M + 1) :
    ∑ w ∈ Finset.range (M + 1), (if M ≤ j + w then f (j + w - M) else 0) = ∑ i ∈ Finset.range (j + 1), f i := by
  obtain ⟨d, rfl⟩ : ∃ d, M = j + d := ⟨M - j, by omega⟩
  rw [show j + d + 1 = d + (j + 1) by omega, Finset.sum_range_add, Finset.sum_eq_zero, zero_add]
  · refine Finset.sum_congr rfl fun i _ => ?_
    rw [if_pos (by omega)]
    congr 1; omega
  · intro w hw
    rw [if_neg (by have := Finset.mem_range.1 hw; omega)]

/-- A running sum, as `cumsum` spells it: entry `j` is the sum of the entries up to `j`. -/
theorem running_sum {M : ℕ} (x : FVec Ideal (shape1 (M + 1)) .f32) (f : ℕ → EReal) (hx : ∀ i : Fin (M + 1), x (ix1 i) = f i.val)
    (init : FVec Ideal shape0 .f32) (hinit : init ix0 = 0)
    (h : (shape1 (M + 1)).ReduceWindows (![M + 1] : Fin 1 → ℕ) ![1] ![M] ![0] (shape1 (M + 1))) (hu : 0 < shape0.numel) (j : Fin (M + 1)) :
    Host.reduceWindowAdd ![M + 1] ![1] ![M] ![0] x init h hu (ix1 j) = ∑ i ∈ Finset.range (j.val + 1), f i := by
  have hv : init (Shape.Idx.first hu) = 0 := (congrArg init (eq_ix0 _)).trans hinit
  have hj := j.isLt
  show Ideal.hostReduceWindowAdd ![M + 1] ![1] ![M] ![0] h x (init (Shape.Idx.first hu)) (ix1 j) = _
  rw [hv]
  unfold Ideal.hostReduceWindowAdd Host.reduceWindow
  dsimp only
  rw [foldl_add, zero_add]
  refine (congrArg List.sum (List.map_congr_left (g := fun k => (fun w : ℕ => if M ≤ j.val + w then f (j.val + w - M) else 0) k.val) fun k _ => ?_)).trans ?_
  · show _ = (if M ≤ j.val + k.val then f (j.val + k.val - M) else 0)
    have hw : ((shape1 (M + 1)).rowMajor.symm k 0).val = k.val := by rw [symm1]; rfl
    have hk : k.val < M + 1 := (k.cast (numel1 _)).isLt
    split
    · next hin =>
      have h0 := hin 0
      change M ≤ j.val * 1 + ((shape1 (M + 1)).rowMajor.symm k 0).val ∧ _ at h0
      rw [hw] at h0
      rw [if_pos (by omega)]
      refine (congrArg x (funext fun a => Fin.ext ?_)).trans (hx ⟨j.val + k.val - M, by omega⟩)
      match a with
      | ⟨0, _⟩ =>
        show j.val * 1 + ((shape1 (M + 1)).rowMajor.symm k 0).val - M = j.val + k.val - M
        rw [hw, Nat.mul_one]
    · next hin =>
      rw [if_neg fun hle => hin fun a => by
        match a with
        | ⟨0, _⟩ =>
          show M ≤ j.val * 1 + ((shape1 (M + 1)).rowMajor.symm k 0).val
            ∧ j.val * 1 + ((shape1 (M + 1)).rowMajor.symm k 0).val - M < M + 1
          rw [hw]
          omega]
  rw [map_finRange_val _ (fun w : ℕ => if M ≤ j.val + w then f (j.val + w - M) else 0), numel1]
  exact window_sum f hj

end Cert.Pieces

end
-- ==== Proof.Groups.lean ====
module

public import proofs.«01_k».proof.Proof.Pieces

/-! The recurring stretches of the reference, each read at one edge: an array is what its operation makes of the arrays
before it, and the entry of the last array follows from the entries of the first ones. -/

@[expose] public section

noncomputable section

namespace Cert.Groups

open Idealize.ShloMosaic Idealize.ShloMosaic.ValueIdx Idealize.ShloMosaic.Routing Cert.Posterior Cert.Pieces

variable {n : ℕ}

/-! ## Broadcasts -/

/-- `[n, 1] → [n, 2]`: constant along each row. -/
theorem bcWide {α : Type} (h : (shape2 n 1).BroadcastsInDim (shape2 n 2) (![0, 1] : Fin 2 → Fin (shape2 n 2).rank))
    (v : (shape2 n 1).Idx → α) (p : Fin n) (q : Fin 2) : broadcastInDim (shape2 n 2) ![0, 1] h v (ix2 p q) = v (ix2 p 0) := by
  refine broadcastInDim_apply _ h _ _ (ix2 p (0 : Fin 1)) fun a => ?_
  match a with
  | ⟨0, _⟩ =>
    show p.val = if n = 1 then 0 else p.val
    have := p.isLt
    split <;> omega
  | ⟨1, _⟩ => rfl

/-- `[1, 2] → [n, 2]`: constant down each column. -/
theorem bcTall {α : Type} (h : (shape2 1 2).BroadcastsInDim (shape2 n 2) (![0, 1] : Fin 2 → Fin (shape2 n 2).rank))
    (v : (shape2 1 2).Idx → α) (p : Fin n) (q : Fin 2) : broadcastInDim (shape2 n 2) ![0, 1] h v (ix2 p q) = v (ix2 0 q) := by
  refine broadcastInDim_apply _ h _ _ (ix2 (0 : Fin 1) q) fun a => ?_
  match a with
  | ⟨0, _⟩ => rfl
  | ⟨1, _⟩ =>
    show q.val = if (2 : ℕ) = 1 then 0 else q.val
    rw [if_neg (by decide)]

/-! ## Logarithms of sums -/

/-- `logaddexp` of two arrays. -/
theorem logaddexp {s : Shape} {a b m d e x g y l z r : FVec Ideal s .f32} {c : IVec s 1}
    (hm : m = maximumf a b) (hd : d = subf a b) (hc : c = cmpf .une d d) (he : e = addf a b) (hx : x = Host.absf d)
    (hg : g = Host.negf x) (hy : y = Host.exp g) (hl : l = Host.log1p y) (hz : z = addf m l) (hr : r = select c e z)
    {i : s.Idx} {p q : ℝ} (ha : IsLog (a i) p) (hb : IsLog (b i) q) : IsLog (r i) (p + q) := by
  subst hm hd hc he hx hg hy hl hz hr
  have h := ha.logaddexp hb
  have e : Ideal.cmp .une (a i - b i) (a i - b i) = 0#1 := by simp [Ideal.cmp]
  show IsLog (Scalar.select (Ideal.cmp .une (a i - b i) (a i - b i)) _ _) _
  rw [e]
  exact h

/-- A sum of logarithms. -/
theorem product {s : Shape} {a b r : FVec Ideal s .f32} (hr : r = addf a b) {i : s.Idx} {p q : ℝ} (ha : IsLog (a i) p) (hb : IsLog (b i) q) :
    IsLog (r i) (p * q) := by
  subst hr
  exact ha.add hb

/-- The logarithm of the noise probability, at every entry. -/
theorem noise {s : Shape} {c d : FVec Ideal shape0 .f32} {r : FVec Ideal s .f32} {hb : shape0.BroadcastsInDim s (![] : Fin 0 → Fin s.rank)}
    (hc : c = constant shape0 .f32 0x2B8CBCCC#32) (hd : d = Host.log c) (hr : r = broadcastInDim s ![] hb d) (i : s.Idx) :
    IsLog (r i) p1 := by
  rw [hr, broadcastInDim_apply _ hb _ _ ix0 (fun a => a.elim0), hd, hc]
  show IsLog (Ideal.log (Ideal.ofBits .f32 0x2B8CBCCC#32)) p1
  rw [ofBits_p1]
  exact IsLog.of_log p1_pos

/-- A row's `log_softmax`. -/
theorem log_softmax {x : FVec Ideal (shape2 n 2) .f32} {c₀ c₁ c₂ : FVec Ideal shape0 .f32} {m₀ m₁ m₂ t : FVec Ideal (shape1 n) .f32}
    {k l g : FVec Ideal (shape2 n 1) .f32} {b d e f r : FVec Ideal (shape2 n 2) .f32}
    {hr hr' : (shape2 n 2).ReducesTo [1] (shape1 n)} {hu hu' : 0 < shape0.numel}
    {hb₁ : shape0.BroadcastsInDim (shape1 n) (![] : Fin 0 → Fin (shape1 n).rank)}
    {hb₂ hb₃ : (shape1 n).BroadcastsInDim (shape2 n 1) (![0] : Fin 1 → Fin (shape2 n 1).rank)}
    {hb₄ hb₅ : (shape2 n 1).BroadcastsInDim (shape2 n 2) (![0, 1] : Fin 2 → Fin (shape2 n 2).rank)}
    (hc₀ : c₀ = constant shape0 .f32 0xFF800000#32) (hm₀ : m₀ = Host.reduce FloatOps.maximumf x c₀ hr hu)
    (hc₁ : c₁ = constant shape0 .f32 0xFF800000#32) (hm₁ : m₁ = broadcastInDim (shape1 n) ![] hb₁ c₁) (hm₂ : m₂ = maximumf m₁ m₀)
    (hk : k = broadcastInDim (shape2 n 1) ![0] hb₂ m₂) (hb : b = broadcastInDim (shape2 n 2) ![0, 1] hb₄ k) (hd : d = subf x b)
    (he : e = Host.exp d) (hc₂ : c₂ = constant shape0 .f32 0x00000000#32) (ht : t = Host.reduceAdd e c₂ hr' hu')
    (hl : l = broadcastInDim (shape2 n 1) ![0] hb₃ t) (hg : g = Host.log l) (hf : f = broadcastInDim (shape2 n 2) ![0, 1] hb₅ g)
    (hrr : r = subf d f) {i : Fin n} {p q : ℝ} (hp : IsLog (x (ix2 i 0)) p) (hq : IsLog (x (ix2 i 1)) q) :
    IsLog (r (ix2 i 0)) (p / (p + q)) ∧ IsLog (r (ix2 i 1)) (q / (p + q)) := by
  have hmax : m₂ (ix1 i) = max (x (ix2 i 0)) (x (ix2 i 1)) := by
    subst hm₂ hm₁ hm₀ hc₀ hc₁
    rw [ValueIdx.maximumf_apply, bc0, reduce_row]
    show max (Ideal.ofBits .f32 0xFF800000#32) (max (max (Ideal.ofBits .f32 0xFF800000#32) _) _) = _
    rw [ofBits_neg_inf, bot_sup_eq, bot_sup_eq]
  have hd' : ∀ c : Fin 2, d (ix2 i c) = x (ix2 i c) - max (x (ix2 i 0)) (x (ix2 i 1)) := by
    intro c
    rw [hd]
    show x (ix2 i c) - b (ix2 i c) = _
    rw [hb, bcWide, hk, bcCol, hmax]
  have hr' : ∀ c : Fin 2, r (ix2 i c) = (x (ix2 i c) - max (x (ix2 i 0)) (x (ix2 i 1)))
      - Ideal.log (Ideal.exp (x (ix2 i 0) - max (x (ix2 i 0)) (x (ix2 i 1))) + Ideal.exp (x (ix2 i 1) - max (x (ix2 i 0)) (x (ix2 i 1)))) := by
    intro c
    rw [hrr]
    show d (ix2 i c) - f (ix2 i c) = _
    rw [hf, bcWide, hg]
    show d (ix2 i c) - Ideal.log (l (ix2 i 0)) = _
    rw [hl, bcCol, ht, reduceAdd_row _ _ _ _ (by rw [hc₂]; exact Ideal.ofBits_zero_f32), he]
    show d (ix2 i c) - Ideal.log (Ideal.exp (d (ix2 i 0)) + Ideal.exp (d (ix2 i 1))) = _
    rw [hd', hd', hd']
  rw [hr', hr']
  exact ⟨IsLog.log_softmax hp hq hp (hp.max hq), IsLog.log_softmax hp hq hq (hp.max hq)⟩

/-! ## The one-hot logarithm -/

/-- The floored one-hot row of a class, in logarithms. -/
theorem log_one_hot {t : IVec (shape1 n) 32} {a : IVec (shape2 n 1) 32} {b : IVec (shape2 1 2) 32} {c d : IVec (shape2 n 2) 32}
    {e : IVec (shape2 n 2) 1} {o l₁ l₂ h₁ h₂ r : FVec Ideal (shape2 n 2) .f32} {u₀ u₁ u₂ u₃ : FVec Ideal shape0 .f32}
    {hb₁ : (shape1 n).BroadcastsInDim (shape2 n 1) (![0] : Fin 1 → Fin (shape2 n 1).rank)}
    {hb₂ : (shape2 n 1).BroadcastsInDim (shape2 n 2) (![0, 1] : Fin 2 → Fin (shape2 n 2).rank)}
    {hb₃ : (shape2 1 2).BroadcastsInDim (shape2 n 2) (![0, 1] : Fin 2 → Fin (shape2 n 2).rank)}
    {hb₄ hb₅ : shape0.BroadcastsInDim (shape2 n 2) (![] : Fin 0 → Fin (shape2 n 2).rank)}
    (ha : a = broadcastInDim (shape2 n 1) ![0] hb₁ t) (hb : b = iotaInDim (shape2 1 2) 32 1)
    (hc : c = broadcastInDim (shape2 n 2) ![0, 1] hb₂ a) (hd : d = broadcastInDim (shape2 n 2) ![0, 1] hb₃ b)
    (he : e = cmpi .eq c d) (ho : o = uitofp .f32 e) (hu₀ : u₀ = constant shape0 .f32 0x0DA24260#32)
    (hu₁ : u₁ = constant shape0 .f32 0x3F800000#32) (hu₂ : u₂ = u₀) (hl₁ : l₁ = broadcastInDim (shape2 n 2) ![] hb₄ u₂)
    (hl₂ : l₂ = maximumf l₁ o) (hu₃ : u₃ = u₁) (hh₁ : h₁ = broadcastInDim (shape2 n 2) ![] hb₅ u₃) (hh₂ : h₂ = minimumf h₁ l₂)
    (hr : r = Host.log h₂) (i : Fin n) (k : Fin 2) :
    IsLog (r (ix2 i k)) (if t (ix1 i) = BitVec.ofNat 32 k.val then 1 else eps) := by
  have hc' : c (ix2 i k) = t (ix1 i) := by rw [hc, bcWide, ha, bcCol]
  have hd' : d (ix2 i k) = BitVec.ofNat 32 k.val := by rw [hd, bcTall, hb]; rfl
  have ho' : o (ix2 i k) = (((BitVec.ofBool (c (ix2 i k) == d (ix2 i k))).toNat : ℝ) : EReal) := by rw [ho, he]; rfl
  have hl' : l₁ (ix2 i k) = ((eps : ℝ) : EReal) := by rw [hl₁, bc0, hu₂, hu₀]; exact ofBits_eps
  have hh' : h₁ (ix2 i k) = 1 := by rw [hh₁, bc0, hu₃, hu₁]; exact Ideal.ofBits_one_f32
  have hr' : r (ix2 i k) = Ideal.log (min (h₁ (ix2 i k)) (max (l₁ (ix2 i k)) (o (ix2 i k)))) := by rw [hr, hh₂, hl₂]; rfl
  rw [hr', hh', hl', ho', hc', hd']
  have e1 := eps_pos
  have e2 := eps_lt_one
  by_cases h : t (ix1 i) = BitVec.ofNat 32 k.val
  · rw [if_pos h, h, beq_self_eq_true]
    show IsLog (Ideal.log (min 1 (max (eps : EReal) (((1 : ℕ) : ℝ) : EReal)))) 1
    rw [Nat.cast_one, max_eq_right (EReal.coe_le_coe_iff.2 e2.le), EReal.coe_one, min_self, ← EReal.coe_one]
    exact IsLog.of_log one_pos
  · rw [if_neg h, beq_eq_false_iff_ne.mpr h]
    show IsLog (Ideal.log (min 1 (max (eps : EReal) (((0 : ℕ) : ℝ) : EReal)))) eps
    rw [Nat.cast_zero, max_eq_left (EReal.coe_le_coe_iff.2 e1.le), ← EReal.coe_one, min_eq_right (EReal.coe_le_coe_iff.2 e2.le)]
    exact IsLog.of_log e1

/-! ## Table entries -/

/-- A table of a thousand entries read at an index that needs no wrapping. -/
theorem take {x : FVec Ideal (shape1 1000) .f32} {t a c d s : IVec (shape1 n) 32} {e : IVec (shape1 n) 1} {z w : IVec shape0 32}
    {g : IVec (shape2 n 1) 32} {r : FVec Ideal (shape1 n) .f32} {D : GatherDims (shape1 1000) (shape2 n 1) (shape1 n)}
    {hb₁ hb₂ : shape0.BroadcastsInDim (shape1 n) (![] : Fin 0 → Fin (shape1 n).rank)}
    {hb₃ : (shape1 n).BroadcastsInDim (shape2 n 1) (![0] : Fin 1 → Fin (shape2 n 1).rank)}
    (hcoll : D.collapsedSliceDims = [0]) (hob : D.operandBatchingDims = []) (hsim : D.startIndexMap = [0]) (hivd : D.indexVectorDim = 1)
    (hz : z = constantI shape0 32 0#32) (ha : a = broadcastInDim (shape1 n) ![] hb₁ z) (he : e = cmpi .slt t a)
    (hw : w = constantI shape0 32 1000#32) (hc : c = broadcastInDim (shape1 n) ![] hb₂ w) (hd : d = addi t c) (hs : s = select e d t)
    (hg : g = broadcastInDim (shape2 n 1) ![0] hb₃ s) (hr : r = Host.gather D x g) {i : Fin n} {k : ℕ} (hk : k < 1000)
    (ht : t (ix1 i) = BitVec.ofNat 32 k) : r (ix1 i) = x (ix1 ⟨k, hk⟩) := by
  have ha' : a (ix1 i) = 0#32 := by rw [ha, bc0, hz]; rfl
  have he' : e (ix1 i) = 0#1 := by
    rw [he]
    show IntOp.cmpi .slt (t (ix1 i)) (a (ix1 i)) = 0#1
    rw [ha', ht]
    have : ¬ IntOp.cmpi .slt (BitVec.ofNat 32 k) 0#32 = 1#1 := fun h =>
      absurd ((StableHlo.Predicate.slt_ofNat_iff k 0 (by omega) (by omega)).1 h) (Nat.not_lt_zero k)
    exact eq_zero_of_ne_one this
  have hs' : s (ix1 i) = BitVec.ofNat 32 k := by
    rw [hs]
    show Scalar.select (e (ix1 i)) _ (t (ix1 i)) = _
    rw [he', select_zero, ht]
  rw [hr]
  exact take_ap D hcoll hob hsim hivd x g i hk (by omega) (by rw [hg, bcCol, hs'])

/-- The step before, zero at the first. -/
theorem step_before {t a b c d f r : IVec (shape1 n) 32} {e : IVec (shape1 n) 1} {u v w y : IVec shape0 32}
    {hb₁ hb₂ hb₃ hb₄ : shape0.BroadcastsInDim (shape1 n) (![] : Fin 0 → Fin (shape1 n).rank)}
    (hu : u = constantI shape0 32 1#32) (ha : a = broadcastInDim (shape1 n) ![] hb₁ u) (hb : b = subi t a)
    (hv : v = constantI shape0 32 0#32) (hc : c = broadcastInDim (shape1 n) ![] hb₂ v) (he : e = cmpi .slt b c)
    (hw : w = constantI shape0 32 0#32) (hd : d = broadcastInDim (shape1 n) ![] hb₃ w) (hy : y = constantI shape0 32 1#32)
    {g : IVec (shape1 n) 32} (hg : g = broadcastInDim (shape1 n) ![] hb₄ y) (hf : f = subi t g) (hr : r = select e d f)
    {i : Fin n} {k : ℕ} (hk : k < 1000) (ht : t (ix1 i) = BitVec.ofNat 32 k) : r (ix1 i) = BitVec.ofNat 32 (prev k) := by
  have hr' : r (ix1 i) = Scalar.select (IntOp.cmpi .slt (BitVec.ofNat 32 k - 1#32) 0#32) 0#32 (BitVec.ofNat 32 k - 1#32) := by
    have h1 : a (ix1 i) = 1#32 := by rw [ha, bc0, hu]; rfl
    have h2 : c (ix1 i) = 0#32 := by rw [hc, bc0, hv]; rfl
    have h3 : d (ix1 i) = 0#32 := by rw [hd, bc0, hw]; rfl
    have h4 : g (ix1 i) = 1#32 := by rw [hg, bc0, hy]; rfl
    rw [hr, he, hf, hb]
    show Scalar.select (IntOp.cmpi .slt (t (ix1 i) - a (ix1 i)) (c (ix1 i))) (d (ix1 i)) (t (ix1 i) - g (ix1 i)) = _
    rw [h1, h2, h3, h4, ht]
  rw [hr']
  rcases k with _ | k
  · decide
  · have e : BitVec.ofNat 32 (k + 1) - 1#32 = BitVec.ofNat 32 k := by
      rw [BitVec.ofNat_add, show BitVec.ofNat 32 1 = 1#32 from rfl, BitVec.add_sub_cancel]
    rw [e]
    have : ¬ IntOp.cmpi .slt (BitVec.ofNat 32 k) 0#32 = 1#1 := fun h =>
      absurd ((StableHlo.Predicate.slt_ofNat_iff k 0 (by omega) (by omega)).1 h) (Nat.not_lt_zero k)
    rw [eq_zero_of_ne_one this, select_zero]
    rfl

/-! ## Columns -/

/-- One column of a two-column array as a vector. -/
theorem column {x : FVec Ideal (shape2 n 2) .f32} {y : FVec Ideal (shape2 n 1) .f32} {r : FVec Ideal (shape1 n) .f32} {k : Fin 2}
    {hs : (shape2 n 2).Slices ![0, k.val] (shape2 n 1)} {hc : (shape2 n 1).ShapeCasts (shape1 n)}
    (hy : y = extractStridedSlice (shape2 n 1) ![0, k.val] x hs) (hr : r = shapeCast (shape1 n) y hc) (i : Fin n) :
    r (ix1 i) = x (ix2 i k) := by
  rw [hr, cast21 y hc i 0 i (by simp), hy]
  unfold extractStridedSlice
  refine congrArg x (funext fun a' => Fin.ext ?_)
  match a' with
  | ⟨0, _⟩ => exact Nat.zero_add _
  | ⟨1, _⟩ => exact Nat.add_zero _

/-- Two vectors as the columns of an array. -/
theorem stack {a b : FVec Ideal (shape1 n) .f32} {c d : FVec Ideal (shape2 n 1) .f32} {r : FVec Ideal (shape2 n 2) .f32}
    {hb₁ hb₂ : (shape1 n).BroadcastsInDim (shape2 n 1) (![0] : Fin 1 → Fin (shape2 n 1).rank)}
    {h : Shape.Concatenates [shape2 n 1, shape2 n 1] (shape2 n 2) 1}
    (hc : c = broadcastInDim (shape2 n 1) ![0] hb₁ a) (hd : d = broadcastInDim (shape2 n 1) ![0] hb₂ b)
    (hr : r = concatenate (shape2 n 2) 1 [⟨shape2 n 1, c⟩, ⟨shape2 n 1, d⟩] h) (i : Fin n) :
    r (ix2 i 0) = a (ix1 i) ∧ r (ix2 i 1) = b (ix1 i) := by
  rw [hr]
  constructor
  · rw [concatenate_pair_apply_left (1 : Fin (shape2 n 2).rank) c d h (ix2 i 0) rfl (ix2 i 0) (fun b => match b with | ⟨0, _⟩ => rfl | ⟨1, _⟩ => rfl), hc, bcCol]
  · rw [concatenate_pair_apply_right (1 : Fin (shape2 n 2).rank) c d h (ix2 i 1) rfl rfl (ix2 i 0)
      (fun b hb => match b, hb with | ⟨0, _⟩, _ => rfl | ⟨1, _⟩, hb => absurd rfl hb) rfl, hd, bcCol]

/-! ## The schedule -/

/-- The schedule's four tables: the logarithms of `α`, `β`, `∏ α` and `1 - ∏ α`. -/
theorem schedule {i₀ o b : IVec (shape1 1000) 32} {u : IVec shape0 32} {c₁ c₂ c₃ c₄ c₅ c₆ c₇ c₈ d₁ d₂ d₃ d₄ d₅ : FVec Ideal shape0 .f32}
    {f e g h j k l m n p q r s t v w x y z a₁ a₂ a₃ : FVec Ideal (shape1 1000) .f32}
    {hb : shape0.BroadcastsInDim (shape1 1000) (![] : Fin 0 → Fin (shape1 1000).rank)}
    {hb' : shape0.BroadcastsInDim shape0 (![] : Fin 0 → Fin shape0.rank)}
    {hw : (shape1 1000).ReduceWindows (![1000] : Fin 1 → ℕ) ![1] ![999] ![0] (shape1 1000)} {hu : 0 < shape0.numel}
    (h4 : i₀ = iotaInDim (shape1 1000) 32 0) (hc : u = constantI shape0 32 1#32) (h5 : o = broadcastInDim (shape1 1000) ![] hb u)
    (h6 : b = addi o i₀) (h7 : f = sitofp .f32 b) (hc1 : c₁ = constant shape0 .f32 0x447A0000#32)
    (h8 : e = broadcastInDim (shape1 1000) ![] hb c₁) (h9 : g = subf e f) (hc2 : c₂ = constant shape0 .f32 0x3F800000#32)
    (h10 : h = broadcastInDim (shape1 1000) ![] hb c₂) (h11 : j = addf g h) (hc3 : c₃ = constant shape0 .f32 0x3F800000#32)
    (h12 : k = broadcastInDim (shape1 1000) ![] hb c₃) (h13 : l = Host.divf k j) (hc4 : c₄ = constant shape0 .f32 0x3F800000#32)
    (h14 : m = broadcastInDim (shape1 1000) ![] hb c₄) (h15 : n = subf m l) (hc5 : c₅ = constant shape0 .f32 0x0DA24260#32)
    (hc6 : c₆ = constant shape0 .f32 0x3F800000#32) (hd1 : d₁ = c₅) (hp : p = broadcastInDim (shape1 1000) ![] hb d₁)
    (hq : q = maximumf p n) (hd2 : d₂ = c₆) (hr : r = broadcastInDim (shape1 1000) ![] hb d₂) (h16 : s = minimumf r q)
    (h17 : t = Host.log s) (hc7 : c₇ = constant shape0 .f32 0x00000000#32) (hd3 : d₃ = broadcastInDim shape0 ![] hb' c₇)
    (h18 : v = Host.reduceWindowAdd ![1000] ![1] ![999] ![0] t d₃ hw hu) (hc8 : c₈ = constant shape0 .f32 0x0DA24260#32)
    (h19 : d₄ = Host.log c₈) (h20 : d₅ = d₄) (h21 : w = broadcastInDim (shape1 1000) ![] hb d₅) (h22 : x = maximumf v w)
    (h23 : y = Host.negf n) (h24 : z = Host.log1p y) (h25 : a₁ = Host.exp x) (h26 : a₂ = Host.negf a₁) (h27 : a₃ = Host.log1p a₂) :
    (∀ i : Fin 1000, IsLog (t (ix1 i)) (alpha i.val)) ∧ (∀ i : Fin 1000, IsLog (z (ix1 i)) (beta i.val)) ∧
    (∀ i : Fin 1000, i.val < 999 → IsLog (x (ix1 i)) (cum i.val)) ∧ ∀ i : Fin 1000, i.val < 999 → IsLog (a₃ (ix1 i)) (cumn i.val) := by
  have hn : ∀ i : Fin 1000, n (ix1 i) = ((1 - beta i.val : ℝ) : EReal) := by
    intro i
    have hi := i.isLt
    have ho : b (ix1 i) = BitVec.ofNat 32 (1 + i.val) := by
      rw [h6, addi_apply, h5, bc0, hc, h4, BitVec.ofNat_add]; rfl
    have hf : f (ix1 i) = ((1 + i.val : ℝ) : EReal) := by
      rw [h7]
      show (((b (ix1 i)).toInt : ℝ) : EReal) = _
      rw [ho, StableHlo.Predicate.toInt_ofNat_small _ (by omega)]
      push_cast; rfl
    have hj : j (ix1 i) = ((1000 - i.val : ℝ) : EReal) := by
      rw [h11, ValueIdx.addf_apply, h9, ValueIdx.subf_apply, hf, h8, bc0, hc1, h10, bc0, hc2]
      show (Ideal.ofBits .f32 0x447A0000#32 - _) + Ideal.ofBits .f32 0x3F800000#32 = _
      rw [ofBits_1000, Ideal.ofBits_one_f32, ← EReal.coe_sub, ← EReal.coe_one, ← EReal.coe_add]
      congr 1; ring
    have hl : l (ix1 i) = ((beta i.val : ℝ) : EReal) := by
      rw [h13]
      show Ideal.div (k (ix1 i)) (j (ix1 i)) = _
      rw [hj, h12, bc0, hc3]
      show Ideal.div (Ideal.ofBits .f32 0x3F800000#32) _ = _
      rw [Ideal.ofBits_one_f32, ← EReal.coe_one, Ideal.div_coe (den_pos hi).ne', ← EReal.coe_mul, one_mul, beta]
    rw [h15, ValueIdx.subf_apply, hl, h14, bc0, hc4]
    show Ideal.ofBits .f32 0x3F800000#32 - _ = _
    rw [Ideal.ofBits_one_f32, ← EReal.coe_one, ← EReal.coe_sub]
  have ht : ∀ i : Fin 1000, IsLog (t (ix1 i)) (alpha i.val) := by
    intro i
    rw [h17]
    show IsLog (Ideal.log (s (ix1 i))) _
    rw [h16, ValueIdx.minimumf_apply, hr, bc0, hd2, hc6, hq, ValueIdx.maximumf_apply, hp, bc0, hd1, hc5, hn]
    show IsLog (Ideal.log (min (Ideal.ofBits .f32 0x3F800000#32) (max (Ideal.ofBits .f32 0x0DA24260#32) _))) _
    rw [Ideal.ofBits_one_f32, ofBits_eps, max_comm, ← EReal.coe_strictMono.monotone.map_max, ← EReal.coe_one,
      min_eq_right (show ((max (1 - beta i.val) eps : ℝ) : EReal) ≤ ((1 : ℝ) : EReal) from EReal.coe_le_coe_iff.2 (alpha_le_one i.isLt))]
    exact IsLog.of_log (alpha_pos _)
  have hz : ∀ i : Fin 1000, IsLog (z (ix1 i)) (beta i.val) := by
    intro i
    rw [h24]
    show IsLog (Ideal.log1p (y (ix1 i))) _
    rw [h23]
    show IsLog (Ideal.log1p (-(n (ix1 i)))) _
    rw [hn, Ideal.log1p, ← EReal.coe_neg, ← EReal.coe_one, ← EReal.coe_add]
    rw [show (1 : ℝ) + -(1 - beta i.val) = beta i.val by ring]
    exact IsLog.of_log (beta_pos i.isLt)
  have hx : ∀ i : Fin 1000, i.val < 999 → IsLog (x (ix1 i)) (cum i.val) := by
    intro i hi
    have hv : IsLog (v (ix1 i)) (cum i.val) := by
      have hinit : d₃ ix0 = 0 := by rw [hd3, bc0, hc7]; exact Ideal.ofBits_zero_f32
      rw [h18, running_sum t (fun a => if ha : a < 1000 then t (ix1 ⟨a, ha⟩) else 0) (fun a => by rw [dif_pos a.isLt]) d₃ hinit hw hu i,
        ← prod_alpha i.val hi]
      refine isLog_sum _ _ _ fun a ha => ?_
      have : a < 1000 := by omega
      rw [dif_pos this]
      exact ht ⟨a, this⟩
    have hw' : IsLog (w (ix1 i)) eps := by
      rw [h21, bc0, h20, h19, hc8]
      show IsLog (Ideal.log (Ideal.ofBits .f32 0x0DA24260#32)) eps
      rw [ofBits_eps]
      exact IsLog.of_log eps_pos
    have hm := hv.max hw'
    rw [h22, ValueIdx.maximumf_apply]
    have hc : eps ≤ cum i.val := by
      have h1 : ((i.val : ℕ) : ℝ) ≤ 998 := by exact_mod_cast (by omega : i.val ≤ 998)
      have h2 : eps ≤ 1 / 1000 := by norm_num [eps]
      have h3 : (1 : ℝ) / 1000 ≤ cum i.val := by rw [Posterior.cum]; apply div_le_div_of_nonneg_right _ (by norm_num); linarith
      linarith
    rw [max_eq_left hc] at hm
    exact hm
  refine ⟨ht, hz, hx, fun i hi => ?_⟩
  rw [h27]
  show IsLog (Ideal.log1p (a₂ (ix1 i))) _
  rw [h26]
  show IsLog (Ideal.log1p (-(a₁ (ix1 i)))) _
  rw [h25]
  show IsLog (Ideal.log1p (-(Ideal.exp (x (ix1 i))))) _
  rw [(hx i hi).exp, Ideal.log1p, ← EReal.coe_neg, ← EReal.coe_one, ← EReal.coe_add, ← sub_eq_add_neg, cum_add]
  exact IsLog.of_log (cumn_pos _)

end Cert.Groups

end
-- ==== Proof.Draw.lean ====
module

public import proofs.«01_k».proof.Proof.Groups
public import proofs.«01_k».proof.ReferenceIdeal

/-! The draw: a uniform number below one made of a random word, its exponential variable, and the class with the greater
perturbed logarithm. -/

@[expose] public section

noncomputable section

namespace Cert.Draw

open Idealize.ShloMosaic Idealize.ShloMosaic.ValueIdx Idealize.ShloMosaic.Routing Cert.Posterior Cert.Pieces

variable {n : ℕ}

/-- A word with the exponent of one and 23 chosen bits is a real from one up to two. -/
theorem ofBits_fraction (k : ℕ) (hk : k < 2 ^ 23) :
    Ideal.ofBits .f32 (BitVec.ofNat 32 k ||| 1065353216#32) = ((1 + k / 2 ^ 23 : ℝ) : EReal) := by
  have hv : BitVec.ofNat 32 k ||| 1065353216#32 = BitVec.ofNat 32 (127 * 2 ^ 23 + k) := by
    apply BitVec.eq_of_toNat_eq
    rw [BitVec.toNat_or, BitVec.toNat_ofNat, BitVec.toNat_ofNat, BitVec.toNat_ofNat, Nat.mod_eq_of_lt (by omega),
      Nat.mod_eq_of_lt (by norm_num), Nat.mod_eq_of_lt (by omega), Nat.or_comm,
      show 1065353216 = 127 <<< 23 by decide, ← Nat.shiftLeft_add_eq_or_of_lt hk, Nat.shiftLeft_eq]
  rw [hv]
  have hs : BitVec.extractLsb' 31 1 (BitVec.ofNat 32 (127 * 2 ^ 23 + k)) = 0#1 := by
    apply BitVec.eq_of_toNat_eq
    rw [BitVec.extractLsb'_toNat, BitVec.toNat_ofNat, Nat.shiftRight_eq_div_pow]
    show _ = 0
    omega
  have he : (BitVec.extractLsb' 23 8 (BitVec.ofNat 32 (127 * 2 ^ 23 + k))).toNat = 127 := by
    rw [BitVec.extractLsb'_toNat, BitVec.toNat_ofNat, Nat.shiftRight_eq_div_pow]
    omega
  have hf : (BitVec.extractLsb' 0 23 (BitVec.ofNat 32 (127 * 2 ^ 23 + k))).toNat = k := by
    rw [BitVec.extractLsb'_toNat, BitVec.toNat_ofNat, Nat.shiftRight_eq_div_pow]
    omega
  show Ideal.ieee 8 23 _ = _
  unfold Ideal.ieee
  rw [show 8 + 23 = 31 from rfl, hs, he, hf]
  simp only [show (0#1 == 1#1) = false from rfl, Bool.false_eq_true, if_false]
  rw [if_neg (by norm_num), if_neg (by norm_num)]
  congr 1
  push_cast
  norm_num
  ring

/-- A uniform draw on `[0, 1)` from a word. -/
theorem uniform {w b₁ s b₂ o : IVec (shape2 n 2) 32} {c₁ c₂ : IVec shape0 32} {d l₀ l₁ h₀ h₁ : FVec Ideal shape0 .f32}
    {lo hi sp : FVec Ideal (shape2 1 1) .f32} {f e g p q r t u z : FVec Ideal (shape2 n 2) .f32}
    {hb : shape0.BroadcastsInDim (shape2 n 2) (![] : Fin 0 → Fin (shape2 n 2).rank)}
    {hb₁ : shape0.BroadcastsInDim (shape2 1 1) (![] : Fin 0 → Fin (shape2 1 1).rank)}
    {hb₂ : (shape2 1 1).BroadcastsInDim (shape2 n 2) (![0, 1] : Fin 2 → Fin (shape2 n 2).rank)}
    (hl₀ : l₀ = constant shape0 .f32 0x00000000#32) (hh₀ : h₀ = constant shape0 .f32 0x3F800000#32) (hl₁ : l₁ = l₀) (hh₁ : h₁ = h₀)
    (hlo : lo = broadcastInDim (shape2 1 1) ![] hb₁ l₁) (hhi : hi = broadcastInDim (shape2 1 1) ![] hb₁ h₁)
    (hc₁ : c₁ = constantI shape0 32 9#32) (hb1 : b₁ = broadcastInDim (shape2 n 2) ![] hb c₁) (hs : s = Host.shrui w b₁)
    (hc₂ : c₂ = constantI shape0 32 1065353216#32) (hb2 : b₂ = broadcastInDim (shape2 n 2) ![] hb c₂) (ho : o = ori s b₂)
    (hf : f = bitcastToFloat (F := Ideal) .f32 o) (hd : d = constant shape0 .f32 0x3F800000#32)
    (he : e = broadcastInDim (shape2 n 2) ![] hb d) (hg : g = subf f e) (hsp : sp = subf hi lo)
    (hp : p = broadcastInDim (shape2 n 2) ![0, 1] hb₂ sp) (hq : q = mulf g p) (hr : r = broadcastInDim (shape2 n 2) ![0, 1] hb₂ lo)
    (ht : t = addf q r) (hz : z = broadcastInDim (shape2 n 2) ![0, 1] hb₂ lo) (hu : u = maximumf z t) (i : (shape2 n 2).Idx) :
    ∃ a : ℝ, u i = (a : EReal) ∧ 0 ≤ a ∧ a < 1 := by
  have hlo' : ∀ j, lo j = 0 := by
    intro j
    rw [hlo, broadcastInDim_apply _ hb₁ _ _ ix0 (fun a => a.elim0), hl₁, hl₀]
    exact Ideal.ofBits_zero_f32
  have hhi' : ∀ j, hi j = 1 := by
    intro j
    rw [hhi, broadcastInDim_apply _ hb₁ _ _ ix0 (fun a => a.elim0), hh₁, hh₀]
    exact Ideal.ofBits_one_f32
  have hwide : ∀ (v : FVec Ideal (shape2 1 1) .f32) (c : EReal), (∀ j, v j = c) → broadcastInDim (shape2 n 2) ![0, 1] hb₂ v i = c := by
    intro v c h
    unfold broadcastInDim
    exact h _
  have hs' : s i = BitVec.ofNat 32 ((w i).toNat / 2 ^ 9) := by
    rw [hs]
    show IntOp.shrui .host (w i) (b₁ i) = _
    rw [hb1, broadcastInDim_apply _ hb _ _ ix0 (fun a => a.elim0), hc₁]
    show IntOp.shrui .host (w i) 9#32 = _
    unfold IntOp.shrui
    rw [if_pos (by decide)]
    apply BitVec.eq_of_toNat_eq
    rw [BitVec.ushiftRight_eq', BitVec.toNat_ushiftRight, BitVec.toNat_ofNat, Nat.shiftRight_eq_div_pow]
    have := (w i).isLt
    rw [show 9 % 2 ^ 32 = 9 from rfl, BitVec.toNat_ofNat]
    omega
  have hk : (w i).toNat / 2 ^ 9 < 2 ^ 23 := by have := (w i).isLt; omega
  have hf' : f i = ((1 + ((w i).toNat / 2 ^ 9 : ℕ) / 2 ^ 23 : ℝ) : EReal) := by
    rw [hf, ← ofBits_fraction _ hk]
    show Ideal.ofBits .f32 (o i) = _
    rw [ho]
    show Ideal.ofBits .f32 (s i ||| b₂ i) = _
    rw [hs', hb2, broadcastInDim_apply _ hb _ _ ix0 (fun a => a.elim0), hc₂]
    rfl
  have hg' : g i = ((((w i).toNat / 2 ^ 9 : ℕ) / 2 ^ 23 : ℝ) : EReal) := by
    rw [hg, ValueIdx.subf_apply, hf', he, broadcastInDim_apply _ hb _ _ ix0 (fun a => a.elim0), hd]
    show _ - Ideal.ofBits .f32 0x3F800000#32 = _
    rw [Ideal.ofBits_one_f32, ← EReal.coe_one, ← EReal.coe_sub, add_sub_cancel_left]
  have hk' : (((w i).toNat / 2 ^ 9 : ℕ) : ℝ) < 2 ^ 23 := by exact_mod_cast hk
  refine ⟨_, ?_, by positivity, (div_lt_one (by norm_num)).2 hk'⟩
  rw [hu, ValueIdx.maximumf_apply, hz, hwide lo 0 hlo', ht, ValueIdx.addf_apply, hr, hwide lo 0 hlo', hq, ValueIdx.mulf_apply, hp,
    hwide sp 1 (fun j => by rw [hsp, ValueIdx.subf_apply, hlo', hhi', sub_zero]), mul_one, add_zero, hg']
  exact max_eq_right (EReal.coe_nonneg.2 (by positivity))

/-- The exponential variable of a uniform draw. -/
theorem variable_pos {s : Shape} {u a b c e r : FVec Ideal s .f32} {d₁ d₂ : FVec Ideal shape0 .f32}
    {hb : shape0.BroadcastsInDim s (![] : Fin 0 → Fin s.rank)} (hd₁ : d₁ = constant shape0 .f32 0x0DA24260#32)
    (ha : a = broadcastInDim s ![] hb d₁) (he : e = addf u a) (hc : c = Host.log e) {g : FVec Ideal s .f32} (hg : g = Host.negf c)
    (hd₂ : d₂ = constant shape0 .f32 0x0DA24260#32) (hb' : b = broadcastInDim s ![] hb d₂) (hr : r = addf g b) (i : s.Idx)
    (h : ∃ a : ℝ, u i = (a : EReal) ∧ 0 ≤ a ∧ a < 1) : ∃ v : ℝ, 0 < v ∧ r i = (v : EReal) := by
  obtain ⟨x, hx, h0, h1⟩ := h
  obtain ⟨v, hv, ev⟩ := draw_pos h0 h1
  refine ⟨v, hv, ?_⟩
  have hk : ∀ d : FVec Ideal shape0 .f32, d = constant shape0 .f32 0x0DA24260#32 → broadcastInDim s ![] hb d i = ((eps : ℝ) : EReal) := by
    intro d hd
    rw [broadcastInDim_apply _ hb _ _ ix0 (fun a => a.elim0), hd]
    exact ofBits_eps
  rw [hr, ValueIdx.addf_apply, hb', hk d₂ hd₂, hg]
  show -(c i) + _ = _
  rw [hc]
  show -(Ideal.log (e i)) + _ = _
  rw [he, ValueIdx.addf_apply, ha, hk d₁ hd₁, hx]
  exact ev

/-- A class's perturbed logarithm. -/
theorem perturbed {s : Shape} {v l g z r : FVec Ideal s .f32} (hl : l = Host.log v) (hg : g = Host.negf l) (hr : r = addf g z) {i : s.Idx}
    {x p : ℝ} (hx : 0 < x) (hv : v i = (x : EReal)) (hz : IsLog (z i) p) : r i = ((-Real.log x + Real.log p : ℝ) : EReal) := by
  rw [hr, ValueIdx.addf_apply, hg]
  show -(l i) + _ = _
  rw [hl]
  show -(Ideal.log (v i)) + _ = _
  rw [hv, log_pos hx, hz.eq, ← EReal.coe_neg, ← EReal.coe_add]

/-- The class of the greater of a row's two entries, the first when they tie. -/
theorem argmax_row {x : FVec Ideal (shape2 n 2) .f32} {y : IVec (shape2 n 2) 32} {cx : FVec Ideal shape0 .f32} {cy : IVec shape0 32}
    {r : IVec (shape1 n) 32} {h : (shape2 n 2).ReducesTo [1] (shape1 n)} {hu : 0 < shape0.numel} (hy : y = iotaInDim (shape2 n 2) 32 1)
    (hcx : cx = constant shape0 .f32 0xFF800000#32) (hcy : cy = constantI shape0 32 0#32)
    (hr : r = fun j => (Host.argReduce Cert.ReferenceIdeal.reducer_argmax_f32_i32 x y cx cy h hu j).2) {i : Fin n} {a b : ℝ}
    (ha : x (ix2 i 0) = (a : EReal)) (hb : x (ix2 i 1) = (b : EReal)) : r (ix1 i) = if a < b then 1#32 else 0#32 := by
  have e1 : cx ix0 = ⊥ := by rw [hcx]; exact ofBits_neg_inf
  have e2 : cy ix0 = 0#32 := by rw [hcy]; rfl
  have e3 : y (ix2 i 0) = 0#32 := by rw [hy]; rfl
  have e4 : y (ix2 i 1) = 1#32 := by rw [hy]; rfl
  have step : Cert.ReferenceIdeal.reducer_argmax_f32_i32 (F := Ideal) (⊥, 0#32) ((a : EReal), 0#32) = ((a : EReal), 0#32) := by
    simp only [Cert.ReferenceIdeal.reducer_argmax_f32_i32]
    have h1 : FloatOps.cmpf (F := Ideal) (φ := .f32) .ogt (⊥ : EReal) (a : EReal) = 0#1 := by
      show Ideal.cmp .ogt _ _ = _
      simp [Ideal.cmp]
    have h2 : FloatOps.cmpf (F := Ideal) (φ := .f32) .une (⊥ : EReal) (⊥ : EReal) = 0#1 := by
      show Ideal.cmp .une _ _ = _
      simp [Ideal.cmp]
    rw [h1, h2]
    refine Prod.ext rfl ?_
    show Scalar.select _ 0#32 0#32 = 0#32
    unfold Scalar.select
    exact ite_self _
  rw [hr]
  show (Host.argReduce _ x y cx cy h hu (ix1 i)).2 = _
  rw [argReduce_row, e1, e2, e3, e4, ha, hb, step]
  simp only [Cert.ReferenceIdeal.reducer_argmax_f32_i32]
  have h1 : FloatOps.cmpf (F := Ideal) (φ := .f32) .ogt (a : EReal) (b : EReal) = BitVec.ofBool (decide (b < a)) := by
    show Ideal.cmp .ogt _ _ = _
    simp [Ideal.cmp]
  have h2 : FloatOps.cmpf (F := Ideal) (φ := .f32) .une (a : EReal) (a : EReal) = 0#1 := by
    show Ideal.cmp .une _ _ = _
    simp [Ideal.cmp]
  have h3 : FloatOps.cmpf (F := Ideal) (φ := .f32) .oeq (a : EReal) (b : EReal) = BitVec.ofBool (decide (a = b)) := by
    show Ideal.cmp .oeq _ _ = _
    simp [Ideal.cmp]
  rw [h1, h2, h3]
  rcases lt_trichotomy a b with hab | hab | hab
  · rw [decide_eq_false (not_lt.2 hab.le), decide_eq_false hab.ne, if_pos hab]; rfl
  · rw [decide_eq_false (by rw [hab]; exact lt_irrefl _), decide_eq_true hab, if_neg (by rw [hab]; exact lt_irrefl _)]; rfl
  · rw [decide_eq_true hab, decide_eq_false hab.ne', if_neg (not_lt.2 hab.le)]; rfl

end Cert.Draw

end
-- ==== Proof.Straight.lean ====
module

public import Idealize.ShloMosaic.Lib.StableHlo.Run

/-! A straight line of host operations whose buffers are numbered in program order writes every buffer once and
reads only what is written before. What the line leaves then satisfies every operation's own equation. -/

@[expose] public section

namespace Cert.Straight

open Idealize.ShloMosaic Idealize.ShloMosaic.StableHlo Idealize.ShloMosaic.TcCoe

variable {τ : Topo} {sig : RefSig} {Val : EltTy → Type}

/-- A buffer's number. -/
def key (b : DevRef τ sig) : ℕ := b.idx.val

/-- The first number above everything the operation writes, and not below `n`. -/
def next (n : ℕ) (op : HloOp τ sig Val) : ℕ := max n (op.writes.sup key + 1)

/-- Every operation writes buffers numbered from `n` on, in rising order, and touches nothing numbered later. -/
def rising : ℕ → List (HloOp τ sig Val) → Bool
  | _, [] => true
  | n, op :: ops => decide (∀ w ∈ op.writes, n ≤ key w) && decide (∀ b ∈ op.bufs, key b < next n op) && rising (next n op) ops

/-- A buffer numbered below the line's first written one keeps its contents. -/
theorem after_low : ∀ (ops : List (HloOp τ sig Val)) (n : ℕ) (V : Valuation τ sig Val) (b : DevRef τ sig),
    rising n ops = true → key b < n → after ops V b = V b
  | [], _, _, _, _, _ => rfl
  | op :: ops, n, V, b, h, hb => by
    simp only [rising, Bool.and_eq_true, decide_eq_true_eq] at h
    rw [after_cons, after_low ops (next n op) _ b h.2 (lt_of_lt_of_le hb (le_max_left _ _)),
      op.result_of_not_mem V fun hw => absurd (h.1.1 b hw) (by omega)]

/-- What the line leaves in the buffers that its operation `k` touches is what that operation left there. -/
theorem after_at : ∀ (ops : List (HloOp τ sig Val)) (n : ℕ) (V : Valuation τ sig Val) (k : ℕ) (op : HloOp τ sig Val),
    rising n ops = true → ops[k]? = some op → ∃ U, ∀ b ∈ op.bufs, after ops V b = op.result U b
  | [], _, _, _, _, _, hk => by simp at hk
  | op :: ops, n, V, 0, o, h, hk => by
    simp only [List.getElem?_cons_zero, Option.some.injEq] at hk
    subst hk
    simp only [rising, Bool.and_eq_true, decide_eq_true_eq] at h
    exact ⟨V, fun b hb => by rw [after_cons, after_low ops _ _ b h.2 (h.1.2 b hb)]⟩
  | op :: ops, n, V, k + 1, o, h, hk => by
    simp only [rising, Bool.and_eq_true, decide_eq_true_eq] at h
    simp only [List.getElem?_cons_succ] at hk
    exact after_at ops _ (op.result V) k o h.2 hk

section Reads

variable {ops : List (HloOp τ sig Val)} {n : ℕ} (h : rising n ops = true) (V : Valuation τ sig Val) (k : ℕ)
include h

/-- What the line leaves in the result of a constant. -/
theorem read0 {y : Ref sig .tc} {v : y.ty.Contents Val} {hy}
    (hk : ops[k]? = some (nullary y v hy)) : after ops V (Proc.devRef .tc y) = v := by
  obtain ⟨U, hU⟩ := after_at ops n V k _ h hk
  rw [hU _ (by rw [nullary_bufs]; simp), nullary_result]

/-- What the line leaves in the result of an operation of one operand. -/
theorem read1 {x y : Ref sig .tc} {f : x.ty.Contents Val → y.ty.Contents Val} {hx hy}
    (hk : ops[k]? = some (unary x y f hx hy)) (hxy : x ≠ y) :
    after ops V (Proc.devRef .tc y) = f (after ops V (Proc.devRef .tc x)) := by
  obtain ⟨U, hU⟩ := after_at ops n V k _ h hk
  rw [hU _ (by rw [unary_bufs]; simp), unary_result, hU (Proc.devRef .tc x) (by rw [unary_bufs]; simp), unary_result_ne _ _ _ _ _ _ hxy]

/-- What the line leaves in the result of an operation of two operands. -/
theorem read2 {a b y : Ref sig .tc} {f : a.ty.Contents Val → b.ty.Contents Val → y.ty.Contents Val} {ha hb hy}
    (hk : ops[k]? = some (binary a b y f ha hb hy)) (hay : a ≠ y) (hby : b ≠ y) :
    after ops V (Proc.devRef .tc y) = f (after ops V (Proc.devRef .tc a)) (after ops V (Proc.devRef .tc b)) := by
  obtain ⟨U, hU⟩ := after_at ops n V k _ h hk
  rw [hU _ (by rw [binary_bufs]; simp), binary_result, hU (Proc.devRef .tc a) (by rw [binary_bufs]; simp),
    hU (Proc.devRef .tc b) (by rw [binary_bufs]; simp), binary_result_ne _ _ _ _ _ _ _ _ hay, binary_result_ne _ _ _ _ _ _ _ _ hby]

/-- What the line leaves in the result of an operation of three operands. -/
theorem read3 {c a b y : Ref sig .tc} {f : c.ty.Contents Val → a.ty.Contents Val → b.ty.Contents Val → y.ty.Contents Val}
    {hc ha hb hy} (hk : ops[k]? = some (ternary c a b y f hc ha hb hy)) (hcy : c ≠ y) (hay : a ≠ y) (hby : b ≠ y) :
    after ops V (Proc.devRef .tc y)
      = f (after ops V (Proc.devRef .tc c)) (after ops V (Proc.devRef .tc a)) (after ops V (Proc.devRef .tc b)) := by
  obtain ⟨U, hU⟩ := after_at ops n V k _ h hk
  rw [hU _ (by rw [ternary_bufs]; simp), ternary_result, hU (Proc.devRef .tc c) (by rw [ternary_bufs]; simp),
    hU (Proc.devRef .tc a) (by rw [ternary_bufs]; simp), hU (Proc.devRef .tc b) (by rw [ternary_bufs]; simp),
    ternary_result_ne _ _ _ _ _ _ _ _ _ _ hcy, ternary_result_ne _ _ _ _ _ _ _ _ _ _ hay, ternary_result_ne _ _ _ _ _ _ _ _ _ _ hby]

/-- What the line leaves in one result of an operation of four operands. -/
theorem read4 {a b c e y : Ref sig .tc}
    {f : a.ty.Contents Val → b.ty.Contents Val → c.ty.Contents Val → e.ty.Contents Val → y.ty.Contents Val}
    {ha hb hc he hy} (hk : ops[k]? = some (quaternary a b c e y f ha hb hc he hy))
    (hay : a ≠ y) (hby : b ≠ y) (hcy : c ≠ y) (hey : e ≠ y) :
    after ops V (Proc.devRef .tc y)
      = f (after ops V (Proc.devRef .tc a)) (after ops V (Proc.devRef .tc b)) (after ops V (Proc.devRef .tc c))
          (after ops V (Proc.devRef .tc e)) := by
  obtain ⟨U, hU⟩ := after_at ops n V k _ h hk
  rw [hU _ (by rw [quaternary_bufs]; simp), quaternary_result, hU (Proc.devRef .tc a) (by rw [quaternary_bufs]; simp),
    hU (Proc.devRef .tc b) (by rw [quaternary_bufs]; simp), hU (Proc.devRef .tc c) (by rw [quaternary_bufs]; simp),
    hU (Proc.devRef .tc e) (by rw [quaternary_bufs]; simp), quaternary_result_ne _ _ _ _ _ _ _ _ _ _ _ _ hay,
    quaternary_result_ne _ _ _ _ _ _ _ _ _ _ _ _ hby, quaternary_result_ne _ _ _ _ _ _ _ _ _ _ _ _ hcy,
    quaternary_result_ne _ _ _ _ _ _ _ _ _ _ _ _ hey]

/-- What the line leaves in the result of a reshape. -/
theorem readR {x y : Ref sig .tc} {he hn hx hy}
    (hk : ops[k]? = some (reshape x y he hn hx hy)) (hxy : x ≠ y) :
    after ops V (Proc.devRef .tc y) = fun i => he ▸ shapeCast y.ty.shape (after ops V (Proc.devRef .tc x)) hn i := by
  obtain ⟨U, hU⟩ := after_at ops n V k _ h hk
  rw [hU _ (by rw [reshape_bufs]; simp), reshape_result, hU (Proc.devRef .tc x) (by rw [reshape_bufs]; simp),
    reshape_result_ne _ _ _ _ _ _ _ hxy]

end Reads

section Steps

variable {n : ℕ} {ops rest : List (HloOp τ sig Val)}

/-- One step of the check, for an operation that writes `y` and touches `y` and the buffers `s`. -/
theorem rising_step {op : HloOp τ sig Val} {y : Ref sig .tc} {s : Finset (DevRef τ sig)} (hw : op.writes = {Proc.devRef .tc y})
    (hb : op.bufs = insert (Proc.devRef .tc y) s) (hn : n ≤ y.idx.val) (hs : ∀ b ∈ s, key b < y.idx.val)
    (t : rising (y.idx.val + 1) (ops ++ rest) = true) : rising n (op :: ops ++ rest) = true := by
  have hy : key (Proc.devRef (τ := τ) .tc y) = y.idx.val := rfl
  have e : next n op = y.idx.val + 1 := by simp only [next, hw, Finset.sup_singleton, hy]; omega
  simp only [List.cons_append, rising, Bool.and_eq_true, decide_eq_true_eq, e, hw, hb, Finset.mem_singleton, forall_eq, hy, Finset.forall_mem_insert]
  exact ⟨⟨hn, by omega, fun b h => by have := hs b h; omega⟩, t⟩

/-- One step of the check, for a constant. -/
theorem rising_nullary {y : Ref sig .tc} {v : y.ty.Contents Val} {hy} (hn : n ≤ y.idx.val)
    (t : rising (y.idx.val + 1) (ops ++ rest) = true) : rising n (nullary y v hy :: ops ++ rest) = true :=
  rising_step (s := ∅) rfl rfl hn (by simp) t

/-- One step of the check, for an operation of one operand. -/
theorem rising_unary {x y : Ref sig .tc} {f : x.ty.Contents Val → y.ty.Contents Val} {hx hy} (hn : n ≤ y.idx.val)
    (h : x.idx.val < y.idx.val) (t : rising (y.idx.val + 1) (ops ++ rest) = true) : rising n (unary x y f hx hy :: ops ++ rest) = true :=
  rising_step (s := {Proc.devRef .tc x}) rfl (by rw [unary_bufs]; exact Finset.pair_comm _ _) hn (by simpa using (show key (Proc.devRef (τ := τ) .tc x) < _ from h)) t

/-- One step of the check, for an operation of two operands. -/
theorem rising_binary {a b y : Ref sig .tc} {f : a.ty.Contents Val → b.ty.Contents Val → y.ty.Contents Val} {ha hb hy} (hn : n ≤ y.idx.val)
    (h1 : a.idx.val < y.idx.val) (h2 : b.idx.val < y.idx.val) (t : rising (y.idx.val + 1) (ops ++ rest) = true) : rising n (binary a b y f ha hb hy :: ops ++ rest) = true :=
  rising_step (s := {Proc.devRef .tc a, Proc.devRef .tc b}) rfl (by rw [binary_bufs]; ext; simp; tauto) hn (by simpa using ⟨h1, h2⟩) t

/-- One step of the check, for an operation of three operands. -/
theorem rising_ternary {c a b y : Ref sig .tc} {f : c.ty.Contents Val → a.ty.Contents Val → b.ty.Contents Val → y.ty.Contents Val} {hc ha hb hy} (hn : n ≤ y.idx.val)
    (h0 : c.idx.val < y.idx.val) (h1 : a.idx.val < y.idx.val) (h2 : b.idx.val < y.idx.val) (t : rising (y.idx.val + 1) (ops ++ rest) = true) : rising n (ternary c a b y f hc ha hb hy :: ops ++ rest) = true :=
  rising_step (s := {Proc.devRef .tc c, Proc.devRef .tc a, Proc.devRef .tc b}) rfl (by rw [ternary_bufs]; ext; simp; tauto) hn (by simpa using ⟨h0, h1, h2⟩) t

/-- One step of the check, for an operation of four operands. -/
theorem rising_quaternary {a b c e y : Ref sig .tc}
    {f : a.ty.Contents Val → b.ty.Contents Val → c.ty.Contents Val → e.ty.Contents Val → y.ty.Contents Val}
    {ha hb hc he hy} (hn : n ≤ y.idx.val)
    (h0 : a.idx.val < y.idx.val) (h1 : b.idx.val < y.idx.val) (h2 : c.idx.val < y.idx.val) (h3 : e.idx.val < y.idx.val) (t : rising (y.idx.val + 1) (ops ++ rest) = true) : rising n (quaternary a b c e y f ha hb hc he hy :: ops ++ rest) = true :=
  rising_step (s := {Proc.devRef .tc a, Proc.devRef .tc b, Proc.devRef .tc c, Proc.devRef .tc e}) rfl (by rw [quaternary_bufs]; ext; simp; tauto) hn (by simpa using ⟨h0, h1, h2, h3⟩) t

/-- One step of the check, for a reshape. -/
theorem rising_reshape {x y : Ref sig .tc} {he hn' hx hy} (hn : n ≤ y.idx.val)
    (h : x.idx.val < y.idx.val) (t : rising (y.idx.val + 1) (ops ++ rest) = true) : rising n (reshape (Val := Val) x y he hn' hx hy :: ops ++ rest) = true :=
  rising_step (s := {Proc.devRef .tc x}) rfl (by rw [reshape_bufs]; exact Finset.pair_comm _ _) hn (by simpa using (show key (Proc.devRef (τ := τ) .tc x) < _ from h)) t

/-- A list of windows is checked window by window. -/
theorem rising_assoc {a b : List (HloOp τ sig Val)} (t : rising n (a ++ (b ++ rest)) = true) : rising n (a ++ b ++ rest) = true := by
  rwa [List.append_assoc]

/-- A window's end. -/
theorem rising_end (t : rising n rest = true) : rising n ([] ++ rest) = true := t

/-- The check of a line begins with nothing behind it. -/
theorem rising_start (t : rising n (ops ++ []) = true) : rising n ops = true := by
  rwa [List.append_nil] at t

end Steps

end Cert.Straight
-- ==== Proof.RefRun.lean ====
module

public import proofs.«01_k».proof.Proof.Gen.ReferenceIdeal
public import proofs.«01_k».proof.Proof.Straight
public import Idealize.ShloMosaic.Lib.StableHlo.Run
public import Idealize.ShloMosaic.Lib.Pipeline.Frame
public import Idealize.ShloMosaic.PureOps.Ideal

/-! The reference's operations as a list, and its run read back from the list. -/

@[expose] public section

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 515 (window `main_part0`). -/
abbrev ops_part0_0 : List (HloOp τ sig (Elt F)) :=
  [ TRef.unary (TRef.of (T := ⟨S6400000, .i32⟩) main_arg1) (TRef.of (T := ⟨S6400000x1, .i32⟩) main_call0_v0) (broadcastInDim S6400000x1 ![0] bcast_S6400000_S6400000x1_0),
    TRef.nullary (TRef.of (T := ⟨S1x2, .i32⟩) main_call0_v1) (iotaInDim S1x2 32 1),
    TRef.unary (TRef.of (T := ⟨S6400000x1, .i32⟩) main_call0_v0) (TRef.of (T := ⟨S6400000x2, .i32⟩) main_call0_v2) (broadcastInDim S6400000x2 ![0, 1] bcast_S6400000x1_S6400000x2_0_1),
    TRef.unary (TRef.of (T := ⟨S1x2, .i32⟩) main_call0_v1) (TRef.of (T := ⟨S6400000x2, .i32⟩) main_call0_v3) (broadcastInDim S6400000x2 ![0, 1] bcast_S1x2_S6400000x2_0_1),
    TRef.binary (TRef.of (T := ⟨S6400000x2, .i32⟩) main_call0_v2) (TRef.of (T := ⟨S6400000x2, .i32⟩) main_call0_v3) (TRef.of (T := ⟨S6400000x2, .i1⟩) main_call0_v4) (cmpi .eq),
    TRef.unary (TRef.of (T := ⟨S6400000x2, .i1⟩) main_call0_v4) (TRef.of (T := ⟨S6400000x2, .f32⟩) main_v0) (uitofp .f32),
    nullary main_cst (constant S_ .f32 0x0DA24260#32),
    nullary main_cst_0 (constant S_ .f32 0x3F800000#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S6400000x2, .f32⟩) main_call1_v1) (broadcastInDim S6400000x2 ![] bcast_S_S6400000x2),
    TRef.binary (TRef.of (T := ⟨S6400000x2, .f32⟩) main_call1_v1) (TRef.of (T := ⟨S6400000x2, .f32⟩) main_v0) (TRef.of (T := ⟨S6400000x2, .f32⟩) main_call1_v2) maximumf,
    TRef.unary (TRef.of (T := ⟨S_, .f32⟩) main_cst_0) (TRef.of (T := ⟨S_, .f32⟩) main_call1_v3) id,
    TRef.unary (TRef.of (T := ⟨S_, .f32⟩) main_call1_v3) (TRef.of (T := ⟨S6400000x2, .f32⟩) main_call1_v4) (broadcastInDim S6400000x2 ![] bcast_S_S6400000x2),
    TRef.binary (TRef.of (T := ⟨S6400000x2, .f32⟩) main_call1_v4) (TRef.of (T := ⟨S6400000x2, .f32⟩) main_call1_v2) (TRef.of (T := ⟨S6400000x2, .f32⟩) main_v1) minimumf,
    unary main_v1 main_v2 (Host.log : (⟨S6400000x2, .f32⟩ : BufTy).Contents (Elt F) → (⟨S6400000x2, .f32⟩ : BufTy).Contents (Elt F)),
    TRef.nullary (TRef.of (T := ⟨S_, .f32⟩) main_call2_cst) (constant S_ .f32 0xFF800000#32),
    TRef.binary (TRef.of (T := ⟨S6400000x2, .f32⟩) main_arg0) (TRef.of (T := ⟨S_, .f32⟩) main_call2_cst) (TRef.of (T := ⟨S6400000, .f32⟩) main_call2_v0) (fun x v => Host.reduce FloatOps.maximumf x v reducesTo_S6400000x2_S6400000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S6400000, .f32⟩) main_call2_v1) (broadcastInDim S6400000 ![] bcast_S_S6400000),
    TRef.binary (TRef.of (T := ⟨S6400000, .f32⟩) main_call2_v1) (TRef.of (T := ⟨S6400000, .f32⟩) main_call2_v0) (TRef.of (T := ⟨S6400000, .f32⟩) main_call2_v2) maximumf,
    TRef.unary (TRef.of (T := ⟨S6400000, .f32⟩) main_call2_v2) (TRef.of (T := ⟨S6400000x1, .f32⟩) main_call2_v3) (broadcastInDim S6400000x1 ![0] bcast_S6400000_S6400000x1_0),
    TRef.unary (TRef.of (T := ⟨S6400000x1, .f32⟩) main_call2_v3) (TRef.of (T := ⟨S6400000x2, .f32⟩) main_call2_v4) (broadcastInDim S6400000x2 ![0, 1] bcast_S6400000x1_S6400000x2_0_1),
    TRef.binary (TRef.of (T := ⟨S6400000x2, .f32⟩) main_arg0) (TRef.of (T := ⟨S6400000x2, .f32⟩) main_call2_v4) (TRef.of (T := ⟨S6400000x2, .f32⟩) main_call2_v5) subf,
    TRef.unary (TRef.of (T := ⟨S6400000x2, .f32⟩) main_call2_v5) (TRef.of (T := ⟨S6400000x2, .f32⟩) main_call2_v6) Host.exp,
    TRef.nullary (TRef.of (T := ⟨S_, .f32⟩) main_call2_cst_1) (constant S_ .f32 0x00000000#32),
    TRef.binary (TRef.of (T := ⟨S6400000x2, .f32⟩) main_call2_v6) (TRef.of (T := ⟨S_, .f32⟩) main_call2_cst_1) (TRef.of (T := ⟨S6400000, .f32⟩) main_call2_v7) (fun x v => Host.reduceAdd x v reducesTo_S6400000x2_S6400000_d1 h_S_),
    TRef.unary (TRef.of (T := ⟨S6400000, .f32⟩) main_call2_v7) (TRef.of (T := ⟨S6400000x1, .f32⟩) main_call2_v8) (broadcastInDim S6400000x1 ![0] bcast_S6400000_S6400000x1_0),
    TRef.unary (TRef.of (T := ⟨S6400000x1, .f32⟩) main_call2_v8) (TRef.of (T := ⟨S6400000x1, .f32⟩) main_call2_v9) Host.log,
    TRef.unary (TRef.of (T := ⟨S6400000x1, .f32⟩) main_call2_v9) (TRef.of (T := ⟨S6400000x2, .f32⟩) main_call2_v10) (broadcastInDim S6400000x2 ![0, 1] bcast_S6400000x1_S6400000x2_0_1),
    TRef.binary (TRef.of (T := ⟨S6400000x2, .f32⟩) main_call2_v5) (TRef.of (T := ⟨S6400000x2, .f32⟩) main_call2_v10) (TRef.of (T := ⟨S6400000x2, .f32⟩) main_v3) subf ]

/-- @main's operations 31 … 60 of 515 (window `main_part0`). -/
abbrev ops_part0_1 : List (HloOp τ sig (Elt F)) :=
  [ nullary main_v4 (iotaInDim S1000 32 0),
    nullary main_c (constantI S_ 32 1#32),
    unary main_c main_v5 (broadcastInDim S1000 ![] bcast_S_S1000 : (⟨S_, .i32⟩ : BufTy).Contents (Elt F) → (⟨S1000, .i32⟩ : BufTy).Contents (Elt F)),
    binary main_v5 main_v4 main_v6 (addi : (⟨S1000, .i32⟩ : BufTy).Contents (Elt F) → (⟨S1000, .i32⟩ : BufTy).Contents (Elt F) → (⟨S1000, .i32⟩ : BufTy).Contents (Elt F)),
    unary main_v6 main_v7 (sitofp .f32 : (⟨S1000, .i32⟩ : BufTy).Contents (Elt F) → (⟨S1000, .f32⟩ : BufTy).Contents (Elt F)),
    nullary main_cst_1 (constant S_ .f32 0x447A0000#32),
    unary main_cst_1 main_v8 (broadcastInDim S1000 ![] bcast_S_S1000 : (⟨S_, .f32⟩ : BufTy).Contents (Elt F) → (⟨S1000, .f32⟩ : BufTy).Contents (Elt F)),
    binary main_v8 main_v7 main_v9 (subf : (⟨S1000, .f32⟩ : BufTy).Contents (Elt F) → (⟨S1000, .f32⟩ : BufTy).Contents (Elt F) → (⟨S1000, .f32⟩ : BufTy).Contents (Elt F)),
    nullary main_cst_2 (constant S_ .f32 0x3F800000#32),
    unary main_cst_2 main_v10 (broadcastInDim S1000 ![] bcast_S_S1000 : (⟨S_, .f32⟩ : BufTy).Contents (Elt F) → (⟨S1000, .f32⟩ : BufTy).Contents (Elt F)),
    binary main_v9 main_v10 main_v11 (addf : (⟨S1000, .f32⟩ : BufTy).Contents (Elt F) → (⟨S1000, .f32⟩ : BufTy).Contents (Elt F) → (⟨S1000, .f32⟩ : BufTy).Contents (Elt F)),
    nullary main_cst_3 (constant S_ .f32 0x3F800000#32),
    unary main_cst_3 main_v12 (broadcastInDim S1000 ![] bcast_S_S1000 : (⟨S_, .f32⟩ : BufTy).Contents (Elt F) → (⟨S1000, .f32⟩ : BufTy).Contents (Elt F)),
    binary main_v12 main_v11 main_v13 (Host.divf : (⟨S1000, .f32⟩ : BufTy).Contents (Elt F) → (⟨S1000, .f32⟩ : BufTy).Contents (Elt F) → (⟨S1000, .f32⟩ : BufTy).Contents (Elt F)),
    nullary main_cst_4 (constant S_ .f32 0x3F800000#32),
    unary main_cst_4 main_v14 (broadcastInDim S1000 ![] bcast_S_S1000 : (⟨S_, .f32⟩ : BufTy).Contents (Elt F) → (⟨S1000, .f32⟩ : BufTy).Contents (Elt F)),
    binary main_v14 main_v13 main_v15 (subf : (⟨S1000, .f32⟩ : BufTy).Contents (Elt F) → (⟨S1000, .f32⟩ : BufTy).Contents (Elt F) → (⟨S1000, .f32⟩ : BufTy).Contents (Elt F)),
    nullary main_cst_5 (constant S_ .f32 0x0DA24260#32),
    nullary main_cst_6 (constant S_ .f32 0x3F800000#32),
    TRef.unary (TRef.of (T := ⟨S_, .f32⟩) main_cst_5) (TRef.of (T := ⟨S_, .f32⟩) main_call3_v0) id,
    TRef.unary (TRef.of (T := ⟨S_, .f32⟩) main_call3_v0) (TRef.of (T := ⟨S1000, .f32⟩) main_call3_v1) (broadcastInDim S1000 ![] bcast_S_S1000),
    TRef.binary (TRef.of (T := ⟨S1000, .f32⟩) main_call3_v1) (TRef.of (T := ⟨S1000, .f32⟩) main_v15) (TRef.of (T := ⟨S1000, .f32⟩) main_call3_v2) maximumf,
    TRef.unary (TRef.of (T := ⟨S_, .f32⟩) main_cst_6) (TRef.of (T := ⟨S_, .f32⟩) main_call3_v3) id,
    TRef.unary (TRef.of (T := ⟨S_, .f32⟩) main_call3_v3) (TRef.of (T := ⟨S1000, .f32⟩) main_call3_v4) (broadcastInDim S1000 ![] bcast_S_S1000),
    TRef.binary (TRef.of (T := ⟨S1000, .f32⟩) main_call3_v4) (TRef.of (T := ⟨S1000, .f32⟩) main_call3_v2) (TRef.of (T := ⟨S1000, .f32⟩) main_v16) minimumf,
    unary main_v16 main_v17 (Host.log : (⟨S1000, .f32⟩ : BufTy).Contents (Elt F) → (⟨S1000, .f32⟩ : BufTy).Contents (Elt F)),
    TRef.nullary (TRef.of (T := ⟨S_, .f32⟩) main_call4_call0_cst) (constant S_ .f32 0x00000000#32),
    TRef.unary (TRef.of (T := ⟨S_, .f32⟩) main_call4_call0_cst) (TRef.of (T := ⟨S_, .f32⟩) main_call4_call0_v0) (broadcastInDim S_ ![] bcast_S_S_),
    TRef.binary (TRef.of (T := ⟨S1000, .f32⟩) main_v17) (TRef.of (T := ⟨S_, .f32⟩) main_call4_call0_v0) (TRef.of (T := ⟨S1000, .f32⟩) main_v18) (fun x v => Host.reduceWindowAdd ![1000] ![1] ![999] ![0] x v reduceWindows_S1000_S1000_w1000s1p999_0 h_S_),
    nullary main_cst_7 (constant S_ .f32 0x0DA24260#32) ]

/-- @main's operations 61 … 90 of 515 (window `main_part0`). -/
abbrev ops_part0_2 : List (HloOp τ sig (Elt F)) :=
  [ unary main_cst_7 main_v19 (Host.log : (⟨S_, .f32⟩ : BufTy).Contents (Elt F) → (⟨S_, .f32⟩ : BufTy).Contents (Elt F)),
    unary main_v19 main_v20 (id : (⟨S_, .f32⟩ : BufTy).Contents (Elt F) → (⟨S_, .f32⟩ : BufTy).Contents (Elt F)),
    unary main_v20 main_v21 (broadcastInDim S1000 ![] bcast_S_S1000 : (⟨S_, .f32⟩ : BufTy).Contents (Elt F) → (⟨S1000, .f32⟩ : BufTy).Contents (Elt F)),
    binary main_v18 main_v21 main_v22 (maximumf : (⟨S1000, .f32⟩ : BufTy).Contents (Elt F) → (⟨S1000, .f32⟩ : BufTy).Contents (Elt F) → (⟨S1000, .f32⟩ : BufTy).Contents (Elt F)),
    unary main_v15 main_v23 (Host.negf : (⟨S1000, .f32⟩ : BufTy).Contents (Elt F) → (⟨S1000, .f32⟩ : BufTy).Contents (Elt F)),
    unary main_v23 main_v24 (Host.log1p : (⟨S1000, .f32⟩ : BufTy).Contents (Elt F) → (⟨S1000, .f32⟩ : BufTy).Contents (Elt F)),
    unary main_v22 main_v25 (Host.exp : (⟨S1000, .f32⟩ : BufTy).Contents (Elt F) → (⟨S1000, .f32⟩ : BufTy).Contents (Elt F)),
    unary main_v25 main_v26 (Host.negf : (⟨S1000, .f32⟩ : BufTy).Contents (Elt F) → (⟨S1000, .f32⟩ : BufTy).Contents (Elt F)),
    unary main_v26 main_v27 (Host.log1p : (⟨S1000, .f32⟩ : BufTy).Contents (Elt F) → (⟨S1000, .f32⟩ : BufTy).Contents (Elt F)),
    nullary main_c_8 (constantI S_ 32 1#32),
    unary main_c_8 main_v28 (broadcastInDim S6400000 ![] bcast_S_S6400000 : (⟨S_, .i32⟩ : BufTy).Contents (Elt F) → (⟨S6400000, .i32⟩ : BufTy).Contents (Elt F)),
    binary main_arg2 main_v28 main_v29 (subi : (⟨S6400000, .i32⟩ : BufTy).Contents (Elt F) → (⟨S6400000, .i32⟩ : BufTy).Contents (Elt F) → (⟨S6400000, .i32⟩ : BufTy).Contents (Elt F)),
    nullary main_c_9 (constantI S_ 32 0#32),
    unary main_c_9 main_v30 (broadcastInDim S6400000 ![] bcast_S_S6400000 : (⟨S_, .i32⟩ : BufTy).Contents (Elt F) → (⟨S6400000, .i32⟩ : BufTy).Contents (Elt F)),
    binary main_v29 main_v30 main_v31 (cmpi .slt : (⟨S6400000, .i32⟩ : BufTy).Contents (Elt F) → (⟨S6400000, .i32⟩ : BufTy).Contents (Elt F) → (⟨S6400000, .i1⟩ : BufTy).Contents (Elt F)),
    nullary main_c_10 (constantI S_ 32 0#32),
    unary main_c_10 main_v32 (broadcastInDim S6400000 ![] bcast_S_S6400000 : (⟨S_, .i32⟩ : BufTy).Contents (Elt F) → (⟨S6400000, .i32⟩ : BufTy).Contents (Elt F)),
    nullary main_c_11 (constantI S_ 32 1#32),
    unary main_c_11 main_v33 (broadcastInDim S6400000 ![] bcast_S_S6400000 : (⟨S_, .i32⟩ : BufTy).Contents (Elt F) → (⟨S6400000, .i32⟩ : BufTy).Contents (Elt F)),
    binary main_arg2 main_v33 main_v34 (subi : (⟨S6400000, .i32⟩ : BufTy).Contents (Elt F) → (⟨S6400000, .i32⟩ : BufTy).Contents (Elt F) → (⟨S6400000, .i32⟩ : BufTy).Contents (Elt F)),
    TRef.ternary (TRef.of (T := ⟨S6400000, .i1⟩) main_v31) (TRef.of (T := ⟨S6400000, .i32⟩) main_v32) (TRef.of (T := ⟨S6400000, .i32⟩) main_v34) (TRef.of (T := ⟨S6400000, .i32⟩) main_v35) select,
    unary main_v3 main_v36 ((extractStridedSlice S6400000x1 ![0, 1] · slices_S6400000x2_S6400000x1_0_1) : (⟨S6400000x2, .f32⟩ : BufTy).Contents (Elt F) → (⟨S6400000x1, .f32⟩ : BufTy).Contents (Elt F)),
    reshape main_v36 main_v37 (rfl : (.f32 : EltTy) = .f32) shapeCasts_S6400000x1_S6400000,
    unary main_v3 main_v38 ((extractStridedSlice S6400000x1 ![0, 0] · slices_S6400000x2_S6400000x1_0_0) : (⟨S6400000x2, .f32⟩ : BufTy).Contents (Elt F) → (⟨S6400000x1, .f32⟩ : BufTy).Contents (Elt F)),
    reshape main_v38 main_v39 (rfl : (.f32 : EltTy) = .f32) shapeCasts_S6400000x1_S6400000,
    unary main_v2 main_v40 ((extractStridedSlice S6400000x1 ![0, 1] · slices_S6400000x2_S6400000x1_0_1) : (⟨S6400000x2, .f32⟩ : BufTy).Contents (Elt F) → (⟨S6400000x1, .f32⟩ : BufTy).Contents (Elt F)),
    reshape main_v40 main_v41 (rfl : (.f32 : EltTy) = .f32) shapeCasts_S6400000x1_S6400000,
    unary main_v2 main_v42 ((extractStridedSlice S6400000x1 ![0, 0] · slices_S6400000x2_S6400000x1_0_0) : (⟨S6400000x2, .f32⟩ : BufTy).Contents (Elt F) → (⟨S6400000x1, .f32⟩ : BufTy).Contents (Elt F)),
    reshape main_v42 main_v43 (rfl : (.f32 : EltTy) = .f32) shapeCasts_S6400000x1_S6400000,
    nullary main_c_12 (constantI S_ 32 0#32) ]

/-- @main's operations 91 … 91 of 515 (window `main_part0`). -/
abbrev ops_part0_3 : List (HloOp τ sig (Elt F)) :=
  [ unary main_c_12 main_v44 (broadcastInDim S6400000 ![] bcast_S_S6400000 : (⟨S_, .i32⟩ : BufTy).Contents (Elt F) → (⟨S6400000, .i32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 92 … 151 of 515 (window `main_part1`). -/
abbrev ops_part1 : List (HloOp τ sig (Elt F)) :=
  [ binary main_arg2 main_v44 main_v45 (cmpi .slt : (⟨S6400000, .i32⟩ : BufTy).Contents (Elt F) → (⟨S6400000, .i32⟩ : BufTy).Contents (Elt F) → (⟨S6400000, .i1⟩ : BufTy).Contents (Elt F)),
    nullary main_c_13 (constantI S_ 32 1000#32),
    unary main_c_13 main_v46 (broadcastInDim S6400000 ![] bcast_S_S6400000 : (⟨S_, .i32⟩ : BufTy).Contents (Elt F) → (⟨S6400000, .i32⟩ : BufTy).Contents (Elt F)),
    binary main_arg2 main_v46 main_v47 (addi : (⟨S6400000, .i32⟩ : BufTy).Contents (Elt F) → (⟨S6400000, .i32⟩ : BufTy).Contents (Elt F) → (⟨S6400000, .i32⟩ : BufTy).Contents (Elt F)),
    ternary main_v45 main_v47 main_arg2 main_v48 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v48 main_v49 (broadcastInDim S6400000x1 ![0] bcast_S6400000_S6400000x1_0 : (⟨S6400000, .i32⟩ : BufTy).Contents (Elt F) → (⟨S6400000x1, .i32⟩ : BufTy).Contents (Elt F)),
    binary main_v17 main_v49 main_v50 ((fun x i => Host.gather gather_S1000_S6400000x1_S6400000_n_0_n_n_0_1_1 x i) : (⟨S1000, .f32⟩ : BufTy).Contents (Elt F) → (⟨S6400000x1, .i32⟩ : BufTy).Contents (Elt F) → (⟨S6400000, .f32⟩ : BufTy).Contents (Elt F)),
    nullary main_c_14 (constantI S_ 32 0#32),
    unary main_c_14 main_v51 (broadcastInDim S6400000 ![] bcast_S_S6400000 : (⟨S_, .i32⟩ : BufTy).Contents (Elt F) → (⟨S6400000, .i32⟩ : BufTy).Contents (Elt F)),
    binary main_arg2 main_v51 main_v52 (cmpi .slt : (⟨S6400000, .i32⟩ : BufTy).Contents (Elt F) → (⟨S6400000, .i32⟩ : BufTy).Contents (Elt F) → (⟨S6400000, .i1⟩ : BufTy).Contents (Elt F)),
    nullary main_c_15 (constantI S_ 32 1000#32),
    unary main_c_15 main_v53 (broadcastInDim S6400000 ![] bcast_S_S6400000 : (⟨S_, .i32⟩ : BufTy).Contents (Elt F) → (⟨S6400000, .i32⟩ : BufTy).Contents (Elt F)),
    binary main_arg2 main_v53 main_v54 (addi : (⟨S6400000, .i32⟩ : BufTy).Contents (Elt F) → (⟨S6400000, .i32⟩ : BufTy).Contents (Elt F) → (⟨S6400000, .i32⟩ : BufTy).Contents (Elt F)),
    ternary main_v52 main_v54 main_arg2 main_v55 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v55 main_v56 (broadcastInDim S6400000x1 ![0] bcast_S6400000_S6400000x1_0 : (⟨S6400000, .i32⟩ : BufTy).Contents (Elt F) → (⟨S6400000x1, .i32⟩ : BufTy).Contents (Elt F)),
    binary main_v24 main_v56 main_v57 ((fun x i => Host.gather gather_S1000_S6400000x1_S6400000_n_0_n_n_0_1_1 x i) : (⟨S1000, .f32⟩ : BufTy).Contents (Elt F) → (⟨S6400000x1, .i32⟩ : BufTy).Contents (Elt F) → (⟨S6400000, .f32⟩ : BufTy).Contents (Elt F)),
    nullary main_c_16 (constantI S_ 32 0#32),
    unary main_c_16 main_v58 (broadcastInDim S6400000 ![] bcast_S_S6400000 : (⟨S_, .i32⟩ : BufTy).Contents (Elt F) → (⟨S6400000, .i32⟩ : BufTy).Contents (Elt F)),
    binary main_v35 main_v58 main_v59 (cmpi .slt : (⟨S6400000, .i32⟩ : BufTy).Contents (Elt F) → (⟨S6400000, .i32⟩ : BufTy).Contents (Elt F) → (⟨S6400000, .i1⟩ : BufTy).Contents (Elt F)),
    nullary main_c_17 (constantI S_ 32 1000#32),
    unary main_c_17 main_v60 (broadcastInDim S6400000 ![] bcast_S_S6400000 : (⟨S_, .i32⟩ : BufTy).Contents (Elt F) → (⟨S6400000, .i32⟩ : BufTy).Contents (Elt F)),
    binary main_v35 main_v60 main_v61 (addi : (⟨S6400000, .i32⟩ : BufTy).Contents (Elt F) → (⟨S6400000, .i32⟩ : BufTy).Contents (Elt F) → (⟨S6400000, .i32⟩ : BufTy).Contents (Elt F)),
    ternary main_v59 main_v61 main_v35 main_v62 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v62 main_v63 (broadcastInDim S6400000x1 ![0] bcast_S6400000_S6400000x1_0 : (⟨S6400000, .i32⟩ : BufTy).Contents (Elt F) → (⟨S6400000x1, .i32⟩ : BufTy).Contents (Elt F)),
    binary main_v22 main_v63 main_v64 ((fun x i => Host.gather gather_S1000_S6400000x1_S6400000_n_0_n_n_0_1_1 x i) : (⟨S1000, .f32⟩ : BufTy).Contents (Elt F) → (⟨S6400000x1, .i32⟩ : BufTy).Contents (Elt F) → (⟨S6400000, .f32⟩ : BufTy).Contents (Elt F)),
    nullary main_c_18 (constantI S_ 32 0#32),
    unary main_c_18 main_v65 (broadcastInDim S6400000 ![] bcast_S_S6400000 : (⟨S_, .i32⟩ : BufTy).Contents (Elt F) → (⟨S6400000, .i32⟩ : BufTy).Contents (Elt F)),
    binary main_v35 main_v65 main_v66 (cmpi .slt : (⟨S6400000, .i32⟩ : BufTy).Contents (Elt F) → (⟨S6400000, .i32⟩ : BufTy).Contents (Elt F) → (⟨S6400000, .i1⟩ : BufTy).Contents (Elt F)),
    nullary main_c_19 (constantI S_ 32 1000#32),
    unary main_c_19 main_v67 (broadcastInDim S6400000 ![] bcast_S_S6400000 : (⟨S_, .i32⟩ : BufTy).Contents (Elt F) → (⟨S6400000, .i32⟩ : BufTy).Contents (Elt F)),
    binary main_v35 main_v67 main_v68 (addi : (⟨S6400000, .i32⟩ : BufTy).Contents (Elt F) → (⟨S6400000, .i32⟩ : BufTy).Contents (Elt F) → (⟨S6400000, .i32⟩ : BufTy).Contents (Elt F)),
    ternary main_v66 main_v68 main_v35 main_v69 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v69 main_v70 (broadcastInDim S6400000x1 ![0] bcast_S6400000_S6400000x1_0 : (⟨S6400000, .i32⟩ : BufTy).Contents (Elt F) → (⟨S6400000x1, .i32⟩ : BufTy).Contents (Elt F)),
    binary main_v27 main_v70 main_v71 ((fun x i => Host.gather gather_S1000_S6400000x1_S6400000_n_0_n_n_0_1_1 x i) : (⟨S1000, .f32⟩ : BufTy).Contents (Elt F) → (⟨S6400000x1, .i32⟩ : BufTy).Contents (Elt F) → (⟨S6400000, .f32⟩ : BufTy).Contents (Elt F)),
    nullary main_cst_20 (constant S_ .f32 0x2B8CBCCC#32),
    unary main_cst_20 main_v72 (Host.log : (⟨S_, .f32⟩ : BufTy).Contents (Elt F) → (⟨S_, .f32⟩ : BufTy).Contents (Elt F)),
    unary main_v72 main_v73 (broadcastInDim S6400000 ![] bcast_S_S6400000 : (⟨S_, .f32⟩ : BufTy).Contents (Elt F) → (⟨S6400000, .f32⟩ : BufTy).Contents (Elt F)),
    binary main_v57 main_v73 main_v74 (addf : (⟨S6400000, .f32⟩ : BufTy).Contents (Elt F) → (⟨S6400000, .f32⟩ : BufTy).Contents (Elt F) → (⟨S6400000, .f32⟩ : BufTy).Contents (Elt F)),
    binary main_v74 main_v41 main_v75 (addf : (⟨S6400000, .f32⟩ : BufTy).Contents (Elt F) → (⟨S6400000, .f32⟩ : BufTy).Contents (Elt F) → (⟨S6400000, .f32⟩ : BufTy).Contents (Elt F)),
    binary main_v75 main_v43 main_v76 (maximumf : (⟨S6400000, .f32⟩ : BufTy).Contents (Elt F) → (⟨S6400000, .f32⟩ : BufTy).Contents (Elt F) → (⟨S6400000, .f32⟩ : BufTy).Contents (Elt F)),
    binary main_v75 main_v43 main_v77 (subf : (⟨S6400000, .f32⟩ : BufTy).Contents (Elt F) → (⟨S6400000, .f32⟩ : BufTy).Contents (Elt F) → (⟨S6400000, .f32⟩ : BufTy).Contents (Elt F)),
    binary main_v77 main_v77 main_v78 (cmpf .une : (⟨S6400000, .f32⟩ : BufTy).Contents (Elt F) → (⟨S6400000, .f32⟩ : BufTy).Contents (Elt F) → (⟨S6400000, .i1⟩ : BufTy).Contents (Elt F)),
    binary main_v75 main_v43 main_v79 (addf : (⟨S6400000, .f32⟩ : BufTy).Contents (Elt F) → (⟨S6400000, .f32⟩ : BufTy).Contents (Elt F) → (⟨S6400000, .f32⟩ : BufTy).Contents (Elt F)),
    unary main_v77 main_v80 (Host.absf : (⟨S6400000, .f32⟩ : BufTy).Contents (Elt F) → (⟨S6400000, .f32⟩ : BufTy).Contents (Elt F)),
    unary main_v80 main_v81 (Host.negf : (⟨S6400000, .f32⟩ : BufTy).Contents (Elt F) → (⟨S6400000, .f32⟩ : BufTy).Contents (Elt F)),
    unary main_v81 main_v82 (Host.exp : (⟨S6400000, .f32⟩ : BufTy).Contents (Elt F) → (⟨S6400000, .f32⟩ : BufTy).Contents (Elt F)),
    unary main_v82 main_v83 (Host.log1p : (⟨S6400000, .f32⟩ : BufTy).Contents (Elt F) → (⟨S6400000, .f32⟩ : BufTy).Contents (Elt F)),
    binary main_v76 main_v83 main_v84 (addf : (⟨S6400000, .f32⟩ : BufTy).Contents (Elt F) → (⟨S6400000, .f32⟩ : BufTy).Contents (Elt F) → (⟨S6400000, .f32⟩ : BufTy).Contents (Elt F)),
    ternary main_v78 main_v79 main_v84 main_v85 (select : (⟨S6400000, .i1⟩ : BufTy).Contents (Elt F) → (⟨S6400000, .f32⟩ : BufTy).Contents (Elt F) → (⟨S6400000, .f32⟩ : BufTy).Contents (Elt F) → (⟨S6400000, .f32⟩ : BufTy).Contents (Elt F)),
    unary main_v72 main_v86 (broadcastInDim S6400000 ![] bcast_S_S6400000 : (⟨S_, .f32⟩ : BufTy).Contents (Elt F) → (⟨S6400000, .f32⟩ : BufTy).Contents (Elt F)),
    binary main_v57 main_v86 main_v87 (addf : (⟨S6400000, .f32⟩ : BufTy).Contents (Elt F) → (⟨S6400000, .f32⟩ : BufTy).Contents (Elt F) → (⟨S6400000, .f32⟩ : BufTy).Contents (Elt F)),
    binary main_v50 main_v87 main_v88 (maximumf : (⟨S6400000, .f32⟩ : BufTy).Contents (Elt F) → (⟨S6400000, .f32⟩ : BufTy).Contents (Elt F) → (⟨S6400000, .f32⟩ : BufTy).Contents (Elt F)),
    binary main_v50 main_v87 main_v89 (subf : (⟨S6400000, .f32⟩ : BufTy).Contents (Elt F) → (⟨S6400000, .f32⟩ : BufTy).Contents (Elt F) → (⟨S6400000, .f32⟩ : BufTy).Contents (Elt F)),
    binary main_v89 main_v89 main_v90 (cmpf .une : (⟨S6400000, .f32⟩ : BufTy).Contents (Elt F) → (⟨S6400000, .f32⟩ : BufTy).Contents (Elt F) → (⟨S6400000, .i1⟩ : BufTy).Contents (Elt F)),
    binary main_v50 main_v87 main_v91 (addf : (⟨S6400000, .f32⟩ : BufTy).Contents (Elt F) → (⟨S6400000, .f32⟩ : BufTy).Contents (Elt F) → (⟨S6400000, .f32⟩ : BufTy).Contents (Elt F)),
    unary main_v89 main_v92 (Host.absf : (⟨S6400000, .f32⟩ : BufTy).Contents (Elt F) → (⟨S6400000, .f32⟩ : BufTy).Contents (Elt F)),
    unary main_v92 main_v93 (Host.negf : (⟨S6400000, .f32⟩ : BufTy).Contents (Elt F) → (⟨S6400000, .f32⟩ : BufTy).Contents (Elt F)),
    unary main_v93 main_v94 (Host.exp : (⟨S6400000, .f32⟩ : BufTy).Contents (Elt F) → (⟨S6400000, .f32⟩ : BufTy).Contents (Elt F)),
    unary main_v94 main_v95 (Host.log1p : (⟨S6400000, .f32⟩ : BufTy).Contents (Elt F) → (⟨S6400000, .f32⟩ : BufTy).Contents (Elt F)),
    binary main_v88 main_v95 main_v96 (addf : (⟨S6400000, .f32⟩ : BufTy).Contents (Elt F) → (⟨S6400000, .f32⟩ : BufTy).Contents (Elt F) → (⟨S6400000, .f32⟩ : BufTy).Contents (Elt F)) ]

/-- @main's operations 152 … 181 of 515 (window `main_part2`). -/
abbrev ops_part2_0 : List (HloOp τ sig (Elt F)) :=
  [ ternary main_v90 main_v91 main_v96 main_v97 (select : (⟨S6400000, .i1⟩ : BufTy).Contents (Elt F) → (⟨S6400000, .f32⟩ : BufTy).Contents (Elt F) → (⟨S6400000, .f32⟩ : BufTy).Contents (Elt F) → (⟨S6400000, .f32⟩ : BufTy).Contents (Elt F)),
    binary main_v97 main_v41 main_v98 (addf : (⟨S6400000, .f32⟩ : BufTy).Contents (Elt F) → (⟨S6400000, .f32⟩ : BufTy).Contents (Elt F) → (⟨S6400000, .f32⟩ : BufTy).Contents (Elt F)),
    binary main_v57 main_v43 main_v99 (addf : (⟨S6400000, .f32⟩ : BufTy).Contents (Elt F) → (⟨S6400000, .f32⟩ : BufTy).Contents (Elt F) → (⟨S6400000, .f32⟩ : BufTy).Contents (Elt F)),
    binary main_v98 main_v99 main_v100 (maximumf : (⟨S6400000, .f32⟩ : BufTy).Contents (Elt F) → (⟨S6400000, .f32⟩ : BufTy).Contents (Elt F) → (⟨S6400000, .f32⟩ : BufTy).Contents (Elt F)),
    binary main_v98 main_v99 main_v101 (subf : (⟨S6400000, .f32⟩ : BufTy).Contents (Elt F) → (⟨S6400000, .f32⟩ : BufTy).Contents (Elt F) → (⟨S6400000, .f32⟩ : BufTy).Contents (Elt F)),
    binary main_v101 main_v101 main_v102 (cmpf .une : (⟨S6400000, .f32⟩ : BufTy).Contents (Elt F) → (⟨S6400000, .f32⟩ : BufTy).Contents (Elt F) → (⟨S6400000, .i1⟩ : BufTy).Contents (Elt F)),
    binary main_v98 main_v99 main_v103 (addf : (⟨S6400000, .f32⟩ : BufTy).Contents (Elt F) → (⟨S6400000, .f32⟩ : BufTy).Contents (Elt F) → (⟨S6400000, .f32⟩ : BufTy).Contents (Elt F)),
    unary main_v101 main_v104 (Host.absf : (⟨S6400000, .f32⟩ : BufTy).Contents (Elt F) → (⟨S6400000, .f32⟩ : BufTy).Contents (Elt F)),
    unary main_v104 main_v105 (Host.negf : (⟨S6400000, .f32⟩ : BufTy).Contents (Elt F) → (⟨S6400000, .f32⟩ : BufTy).Contents (Elt F)),
    unary main_v105 main_v106 (Host.exp : (⟨S6400000, .f32⟩ : BufTy).Contents (Elt F) → (⟨S6400000, .f32⟩ : BufTy).Contents (Elt F)),
    unary main_v106 main_v107 (Host.log1p : (⟨S6400000, .f32⟩ : BufTy).Contents (Elt F) → (⟨S6400000, .f32⟩ : BufTy).Contents (Elt F)),
    binary main_v100 main_v107 main_v108 (addf : (⟨S6400000, .f32⟩ : BufTy).Contents (Elt F) → (⟨S6400000, .f32⟩ : BufTy).Contents (Elt F) → (⟨S6400000, .f32⟩ : BufTy).Contents (Elt F)),
    ternary main_v102 main_v103 main_v108 main_v109 (select : (⟨S6400000, .i1⟩ : BufTy).Contents (Elt F) → (⟨S6400000, .f32⟩ : BufTy).Contents (Elt F) → (⟨S6400000, .f32⟩ : BufTy).Contents (Elt F) → (⟨S6400000, .f32⟩ : BufTy).Contents (Elt F)),
    binary main_v64 main_v39 main_v110 (addf : (⟨S6400000, .f32⟩ : BufTy).Contents (Elt F) → (⟨S6400000, .f32⟩ : BufTy).Contents (Elt F) → (⟨S6400000, .f32⟩ : BufTy).Contents (Elt F)),
    binary main_v71 main_v110 main_v111 (maximumf : (⟨S6400000, .f32⟩ : BufTy).Contents (Elt F) → (⟨S6400000, .f32⟩ : BufTy).Contents (Elt F) → (⟨S6400000, .f32⟩ : BufTy).Contents (Elt F)),
    binary main_v71 main_v110 main_v112 (subf : (⟨S6400000, .f32⟩ : BufTy).Contents (Elt F) → (⟨S6400000, .f32⟩ : BufTy).Contents (Elt F) → (⟨S6400000, .f32⟩ : BufTy).Contents (Elt F)),
    binary main_v112 main_v112 main_v113 (cmpf .une : (⟨S6400000, .f32⟩ : BufTy).Contents (Elt F) → (⟨S6400000, .f32⟩ : BufTy).Contents (Elt F) → (⟨S6400000, .i1⟩ : BufTy).Contents (Elt F)),
    binary main_v71 main_v110 main_v114 (addf : (⟨S6400000, .f32⟩ : BufTy).Contents (Elt F) → (⟨S6400000, .f32⟩ : BufTy).Contents (Elt F) → (⟨S6400000, .f32⟩ : BufTy).Contents (Elt F)),
    unary main_v112 main_v115 (Host.absf : (⟨S6400000, .f32⟩ : BufTy).Contents (Elt F) → (⟨S6400000, .f32⟩ : BufTy).Contents (Elt F)),
    unary main_v115 main_v116 (Host.negf : (⟨S6400000, .f32⟩ : BufTy).Contents (Elt F) → (⟨S6400000, .f32⟩ : BufTy).Contents (Elt F)),
    unary main_v116 main_v117 (Host.exp : (⟨S6400000, .f32⟩ : BufTy).Contents (Elt F) → (⟨S6400000, .f32⟩ : BufTy).Contents (Elt F)),
    unary main_v117 main_v118 (Host.log1p : (⟨S6400000, .f32⟩ : BufTy).Contents (Elt F) → (⟨S6400000, .f32⟩ : BufTy).Contents (Elt F)),
    binary main_v111 main_v118 main_v119 (addf : (⟨S6400000, .f32⟩ : BufTy).Contents (Elt F) → (⟨S6400000, .f32⟩ : BufTy).Contents (Elt F) → (⟨S6400000, .f32⟩ : BufTy).Contents (Elt F)),
    ternary main_v113 main_v114 main_v119 main_v120 (select : (⟨S6400000, .i1⟩ : BufTy).Contents (Elt F) → (⟨S6400000, .f32⟩ : BufTy).Contents (Elt F) → (⟨S6400000, .f32⟩ : BufTy).Contents (Elt F) → (⟨S6400000, .f32⟩ : BufTy).Contents (Elt F)),
    binary main_v64 main_v37 main_v121 (addf : (⟨S6400000, .f32⟩ : BufTy).Contents (Elt F) → (⟨S6400000, .f32⟩ : BufTy).Contents (Elt F) → (⟨S6400000, .f32⟩ : BufTy).Contents (Elt F)),
    unary main_v72 main_v122 (broadcastInDim S6400000 ![] bcast_S_S6400000 : (⟨S_, .f32⟩ : BufTy).Contents (Elt F) → (⟨S6400000, .f32⟩ : BufTy).Contents (Elt F)),
    binary main_v71 main_v122 main_v123 (addf : (⟨S6400000, .f32⟩ : BufTy).Contents (Elt F) → (⟨S6400000, .f32⟩ : BufTy).Contents (Elt F) → (⟨S6400000, .f32⟩ : BufTy).Contents (Elt F)),
    binary main_v121 main_v123 main_v124 (maximumf : (⟨S6400000, .f32⟩ : BufTy).Contents (Elt F) → (⟨S6400000, .f32⟩ : BufTy).Contents (Elt F) → (⟨S6400000, .f32⟩ : BufTy).Contents (Elt F)),
    binary main_v121 main_v123 main_v125 (subf : (⟨S6400000, .f32⟩ : BufTy).Contents (Elt F) → (⟨S6400000, .f32⟩ : BufTy).Contents (Elt F) → (⟨S6400000, .f32⟩ : BufTy).Contents (Elt F)),
    binary main_v125 main_v125 main_v126 (cmpf .une : (⟨S6400000, .f32⟩ : BufTy).Contents (Elt F) → (⟨S6400000, .f32⟩ : BufTy).Contents (Elt F) → (⟨S6400000, .i1⟩ : BufTy).Contents (Elt F)) ]

/-- @main's operations 182 … 211 of 515 (window `main_part2`). -/
abbrev ops_part2_1 : List (HloOp τ sig (Elt F)) :=
  [ binary main_v121 main_v123 main_v127 (addf : (⟨S6400000, .f32⟩ : BufTy).Contents (Elt F) → (⟨S6400000, .f32⟩ : BufTy).Contents (Elt F) → (⟨S6400000, .f32⟩ : BufTy).Contents (Elt F)),
    unary main_v125 main_v128 (Host.absf : (⟨S6400000, .f32⟩ : BufTy).Contents (Elt F) → (⟨S6400000, .f32⟩ : BufTy).Contents (Elt F)),
    unary main_v128 main_v129 (Host.negf : (⟨S6400000, .f32⟩ : BufTy).Contents (Elt F) → (⟨S6400000, .f32⟩ : BufTy).Contents (Elt F)),
    unary main_v129 main_v130 (Host.exp : (⟨S6400000, .f32⟩ : BufTy).Contents (Elt F) → (⟨S6400000, .f32⟩ : BufTy).Contents (Elt F)),
    unary main_v130 main_v131 (Host.log1p : (⟨S6400000, .f32⟩ : BufTy).Contents (Elt F) → (⟨S6400000, .f32⟩ : BufTy).Contents (Elt F)),
    binary main_v124 main_v131 main_v132 (addf : (⟨S6400000, .f32⟩ : BufTy).Contents (Elt F) → (⟨S6400000, .f32⟩ : BufTy).Contents (Elt F) → (⟨S6400000, .f32⟩ : BufTy).Contents (Elt F)),
    ternary main_v126 main_v127 main_v132 main_v133 (select : (⟨S6400000, .i1⟩ : BufTy).Contents (Elt F) → (⟨S6400000, .f32⟩ : BufTy).Contents (Elt F) → (⟨S6400000, .f32⟩ : BufTy).Contents (Elt F) → (⟨S6400000, .f32⟩ : BufTy).Contents (Elt F)),
    binary main_v85 main_v120 main_v134 (addf : (⟨S6400000, .f32⟩ : BufTy).Contents (Elt F) → (⟨S6400000, .f32⟩ : BufTy).Contents (Elt F) → (⟨S6400000, .f32⟩ : BufTy).Contents (Elt F)),
    binary main_v109 main_v133 main_v135 (addf : (⟨S6400000, .f32⟩ : BufTy).Contents (Elt F) → (⟨S6400000, .f32⟩ : BufTy).Contents (Elt F) → (⟨S6400000, .f32⟩ : BufTy).Contents (Elt F)),
    unary main_v134 main_v136 (broadcastInDim S6400000x1 ![0] bcast_S6400000_S6400000x1_0 : (⟨S6400000, .f32⟩ : BufTy).Contents (Elt F) → (⟨S6400000x1, .f32⟩ : BufTy).Contents (Elt F)),
    unary main_v135 main_v137 (broadcastInDim S6400000x1 ![0] bcast_S6400000_S6400000x1_0 : (⟨S6400000, .f32⟩ : BufTy).Contents (Elt F) → (⟨S6400000x1, .f32⟩ : BufTy).Contents (Elt F)),
    binary main_v136 main_v137 main_v138 (fun a b => concatenate S6400000x2 1 [⟨S6400000x1, a⟩, ⟨S6400000x1, b⟩] concatenates_S6400000x1_S6400000x1_S6400000x2_d1),
    TRef.nullary (TRef.of (T := ⟨S_, .f32⟩) main_call6_cst) (constant S_ .f32 0xFF800000#32),
    TRef.binary (TRef.of (T := ⟨S6400000x2, .f32⟩) main_v138) (TRef.of (T := ⟨S_, .f32⟩) main_call6_cst) (TRef.of (T := ⟨S6400000, .f32⟩) main_call6_v0) (fun x v => Host.reduce FloatOps.maximumf x v reducesTo_S6400000x2_S6400000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S6400000, .f32⟩) main_call6_v1) (broadcastInDim S6400000 ![] bcast_S_S6400000),
    TRef.binary (TRef.of (T := ⟨S6400000, .f32⟩) main_call6_v1) (TRef.of (T := ⟨S6400000, .f32⟩) main_call6_v0) (TRef.of (T := ⟨S6400000, .f32⟩) main_call6_v2) maximumf,
    TRef.unary (TRef.of (T := ⟨S6400000, .f32⟩) main_call6_v2) (TRef.of (T := ⟨S6400000x1, .f32⟩) main_call6_v3) (broadcastInDim S6400000x1 ![0] bcast_S6400000_S6400000x1_0),
    TRef.unary (TRef.of (T := ⟨S6400000x1, .f32⟩) main_call6_v3) (TRef.of (T := ⟨S6400000x2, .f32⟩) main_call6_v4) (broadcastInDim S6400000x2 ![0, 1] bcast_S6400000x1_S6400000x2_0_1),
    TRef.binary (TRef.of (T := ⟨S6400000x2, .f32⟩) main_v138) (TRef.of (T := ⟨S6400000x2, .f32⟩) main_call6_v4) (TRef.of (T := ⟨S6400000x2, .f32⟩) main_call6_v5) subf,
    TRef.unary (TRef.of (T := ⟨S6400000x2, .f32⟩) main_call6_v5) (TRef.of (T := ⟨S6400000x2, .f32⟩) main_call6_v6) Host.exp,
    TRef.nullary (TRef.of (T := ⟨S_, .f32⟩) main_call6_cst_1) (constant S_ .f32 0x00000000#32),
    TRef.binary (TRef.of (T := ⟨S6400000x2, .f32⟩) main_call6_v6) (TRef.of (T := ⟨S_, .f32⟩) main_call6_cst_1) (TRef.of (T := ⟨S6400000, .f32⟩) main_call6_v7) (fun x v => Host.reduceAdd x v reducesTo_S6400000x2_S6400000_d1 h_S_),
    TRef.unary (TRef.of (T := ⟨S6400000, .f32⟩) main_call6_v7) (TRef.of (T := ⟨S6400000x1, .f32⟩) main_call6_v8) (broadcastInDim S6400000x1 ![0] bcast_S6400000_S6400000x1_0),
    TRef.unary (TRef.of (T := ⟨S6400000x1, .f32⟩) main_call6_v8) (TRef.of (T := ⟨S6400000x1, .f32⟩) main_call6_v9) Host.log,
    TRef.unary (TRef.of (T := ⟨S6400000x1, .f32⟩) main_call6_v9) (TRef.of (T := ⟨S6400000x2, .f32⟩) main_call6_v10) (broadcastInDim S6400000x2 ![0, 1] bcast_S6400000x1_S6400000x2_0_1),
    TRef.binary (TRef.of (T := ⟨S6400000x2, .f32⟩) main_call6_v5) (TRef.of (T := ⟨S6400000x2, .f32⟩) main_call6_v10) (TRef.of (T := ⟨S6400000x2, .f32⟩) main_v139) subf,
    nullary main_c_21 (constantI S_ 32 1#32),
    nullary main_c_22 (constantI S_ 32 32#32),
    binary main_c_21 main_c_22 main_v140 (Host.shrui : (⟨S_, .i32⟩ : BufTy).Contents (Elt F) → (⟨S_, .i32⟩ : BufTy).Contents (Elt F) → (⟨S_, .i32⟩ : BufTy).Contents (Elt F)) ]

/-- @main's operations 212 … 241 of 515 (window `main_part2`). -/
abbrev ops_part2_2 : List (HloOp τ sig (Elt F)) :=
  [ unary main_v140 main_v141 (id : (⟨S_, .i32⟩ : BufTy).Contents (Elt F) → (⟨S_, .i32⟩ : BufTy).Contents (Elt F)),
    unary main_v141 main_v142 (broadcastInDim S1 ![] bcast_S_S1 : (⟨S_, .i32⟩ : BufTy).Contents (Elt F) → (⟨S1, .i32⟩ : BufTy).Contents (Elt F)),
    nullary main_c_23 (constantI S_ 32 4294967295#32),
    binary main_c_21 main_c_23 main_v143 (andi : (⟨S_, .i32⟩ : BufTy).Contents (Elt F) → (⟨S_, .i32⟩ : BufTy).Contents (Elt F) → (⟨S_, .i32⟩ : BufTy).Contents (Elt F)),
    unary main_v143 main_v144 (id : (⟨S_, .i32⟩ : BufTy).Contents (Elt F) → (⟨S_, .i32⟩ : BufTy).Contents (Elt F)),
    unary main_v144 main_v145 (broadcastInDim S1 ![] bcast_S_S1 : (⟨S_, .i32⟩ : BufTy).Contents (Elt F) → (⟨S1, .i32⟩ : BufTy).Contents (Elt F)),
    binary main_v142 main_v145 main_v146 (fun a b => concatenate S2 0 [⟨S1, a⟩, ⟨S1, b⟩] concatenates_S1_S1_S2_d0),
    nullary main_cst_24 (constant S_ .f32 0x00000000#32),
    nullary main_cst_25 (constant S_ .f32 0x3F800000#32),
    TRef.unary (TRef.of (T := ⟨S_, .f32⟩) main_cst_24) (TRef.of (T := ⟨S_, .f32⟩) main_call7_v0) id,
    TRef.unary (TRef.of (T := ⟨S_, .f32⟩) main_cst_25) (TRef.of (T := ⟨S_, .f32⟩) main_call7_v1) id,
    TRef.unary (TRef.of (T := ⟨S_, .f32⟩) main_call7_v0) (TRef.of (T := ⟨S1x1, .f32⟩) main_call7_v2) (broadcastInDim S1x1 ![] bcast_S_S1x1),
    TRef.unary (TRef.of (T := ⟨S_, .f32⟩) main_call7_v1) (TRef.of (T := ⟨S1x1, .f32⟩) main_call7_v3) (broadcastInDim S1x1 ![] bcast_S_S1x1),
    TRef.unary (TRef.of (T := ⟨S2, .i32⟩) main_v146) (TRef.of (T := ⟨S1, .i32⟩) main_call7_v4) (extractStridedSlice S1 ![0] · slices_S2_S1_0),
    TRef.reshape (TRef.of (T := ⟨S1, .i32⟩) main_call7_v4) (TRef.of (T := ⟨S_, .i32⟩) main_call7_v5) (rfl : (.i32 : EltTy) = .i32) shapeCasts_S1_S_,
    TRef.unary (TRef.of (T := ⟨S2, .i32⟩) main_v146) (TRef.of (T := ⟨S1, .i32⟩) main_call7_v6) (extractStridedSlice S1 ![1] · slices_S2_S1_1),
    TRef.reshape (TRef.of (T := ⟨S1, .i32⟩) main_call7_v6) (TRef.of (T := ⟨S_, .i32⟩) main_call7_v7) (rfl : (.i32 : EltTy) = .i32) shapeCasts_S1_S_,
    TRef.nullary (TRef.of (T := ⟨S6400000x2, .i64⟩) main_call7_v8) (iotaInDim S6400000x2 64 0),
    TRef.nullary (TRef.of (T := ⟨S6400000x2, .i64⟩) main_call7_v9) (iotaInDim S6400000x2 64 1),
    TRef.nullary (TRef.of (T := ⟨S_, .i64⟩) main_call7_c) (constantI S_ 64 2#64),
    TRef.unary (TRef.of (T := ⟨S_, .i64⟩) main_call7_c) (TRef.of (T := ⟨S6400000x2, .i64⟩) main_call7_v10) (broadcastInDim S6400000x2 ![] bcast_S_S6400000x2),
    TRef.binary (TRef.of (T := ⟨S6400000x2, .i64⟩) main_call7_v10) (TRef.of (T := ⟨S6400000x2, .i64⟩) main_call7_v8) (TRef.of (T := ⟨S6400000x2, .i64⟩) main_call7_v11) muli,
    TRef.nullary (TRef.of (T := ⟨S_, .i64⟩) main_call7_c_0) (constantI S_ 64 1#64),
    TRef.unary (TRef.of (T := ⟨S_, .i64⟩) main_call7_c_0) (TRef.of (T := ⟨S6400000x2, .i64⟩) main_call7_v12) (broadcastInDim S6400000x2 ![] bcast_S_S6400000x2),
    TRef.binary (TRef.of (T := ⟨S6400000x2, .i64⟩) main_call7_v12) (TRef.of (T := ⟨S6400000x2, .i64⟩) main_call7_v9) (TRef.of (T := ⟨S6400000x2, .i64⟩) main_call7_v13) muli,
    TRef.binary (TRef.of (T := ⟨S6400000x2, .i64⟩) main_call7_v11) (TRef.of (T := ⟨S6400000x2, .i64⟩) main_call7_v13) (TRef.of (T := ⟨S6400000x2, .i64⟩) main_call7_v14) addi,
    TRef.nullary (TRef.of (T := ⟨S_, .i64⟩) main_call7_c_1) (constantI S_ 64 32#64),
    TRef.unary (TRef.of (T := ⟨S_, .i64⟩) main_call7_c_1) (TRef.of (T := ⟨S6400000x2, .i64⟩) main_call7_v15) (broadcastInDim S6400000x2 ![] bcast_S_S6400000x2),
    TRef.binary (TRef.of (T := ⟨S6400000x2, .i64⟩) main_call7_v14) (TRef.of (T := ⟨S6400000x2, .i64⟩) main_call7_v15) (TRef.of (T := ⟨S6400000x2, .i64⟩) main_call7_v16) Host.shrui,
    TRef.unary (TRef.of (T := ⟨S6400000x2, .i64⟩) main_call7_v14) (TRef.of (T := ⟨S6400000x2, .i32⟩) main_call7_v17) (trunci 32 · natLt_32_64) ]

/-- @main's operations 242 … 271 of 515 (window `main_part2`). -/
abbrev ops_part2_3 : List (HloOp τ sig (Elt F)) :=
  [ TRef.unary (TRef.of (T := ⟨S6400000x2, .i64⟩) main_call7_v16) (TRef.of (T := ⟨S6400000x2, .i32⟩) main_call7_v18) (trunci 32 · natLt_32_64),
    TRef.binary (TRef.of (T := ⟨S_, .i32⟩) main_call7_v5) (TRef.of (T := ⟨S_, .i32⟩) main_call7_v7) (TRef.of (T := ⟨S_, .i32⟩) main_call7_call0_v0) xori,
    TRef.nullary (TRef.of (T := ⟨S_, .i32⟩) main_call7_call0_c) (constantI S_ 32 466688986#32),
    TRef.binary (TRef.of (T := ⟨S_, .i32⟩) main_call7_call0_v0) (TRef.of (T := ⟨S_, .i32⟩) main_call7_call0_c) (TRef.of (T := ⟨S_, .i32⟩) main_call7_call0_v1) xori,
    TRef.unary (TRef.of (T := ⟨S_, .i32⟩) main_call7_v5) (TRef.of (T := ⟨S6400000x2, .i32⟩) main_call7_call0_v2) (broadcastInDim S6400000x2 ![] bcast_S_S6400000x2),
    TRef.binary (TRef.of (T := ⟨S6400000x2, .i32⟩) main_call7_v18) (TRef.of (T := ⟨S6400000x2, .i32⟩) main_call7_call0_v2) (TRef.of (T := ⟨S6400000x2, .i32⟩) main_call7_call0_v3) addi,
    TRef.unary (TRef.of (T := ⟨S_, .i32⟩) main_call7_v7) (TRef.of (T := ⟨S6400000x2, .i32⟩) main_call7_call0_v4) (broadcastInDim S6400000x2 ![] bcast_S_S6400000x2),
    TRef.binary (TRef.of (T := ⟨S6400000x2, .i32⟩) main_call7_v17) (TRef.of (T := ⟨S6400000x2, .i32⟩) main_call7_call0_v4) (TRef.of (T := ⟨S6400000x2, .i32⟩) main_call7_call0_v5) addi,
    TRef.binary (TRef.of (T := ⟨S6400000x2, .i32⟩) main_call7_call0_v3) (TRef.of (T := ⟨S6400000x2, .i32⟩) main_call7_call0_v5) (TRef.of (T := ⟨S6400000x2, .i32⟩) main_call7_call0_v6) addi,
    TRef.nullary (TRef.of (T := ⟨S_, .i32⟩) main_call7_call0_c_0) (constantI S_ 32 13#32),
    TRef.unary (TRef.of (T := ⟨S_, .i32⟩) main_call7_call0_c_0) (TRef.of (T := ⟨S6400000x2, .i32⟩) main_call7_call0_v7) (broadcastInDim S6400000x2 ![] bcast_S_S6400000x2),
    TRef.binary (TRef.of (T := ⟨S6400000x2, .i32⟩) main_call7_call0_v5) (TRef.of (T := ⟨S6400000x2, .i32⟩) main_call7_call0_v7) (TRef.of (T := ⟨S6400000x2, .i32⟩) main_call7_call0_v8) Host.shli,
    TRef.nullary (TRef.of (T := ⟨S_, .i32⟩) main_call7_call0_c_1) (constantI S_ 32 19#32),
    TRef.unary (TRef.of (T := ⟨S_, .i32⟩) main_call7_call0_c_1) (TRef.of (T := ⟨S6400000x2, .i32⟩) main_call7_call0_v9) (broadcastInDim S6400000x2 ![] bcast_S_S6400000x2),
    TRef.binary (TRef.of (T := ⟨S6400000x2, .i32⟩) main_call7_call0_v5) (TRef.of (T := ⟨S6400000x2, .i32⟩) main_call7_call0_v9) (TRef.of (T := ⟨S6400000x2, .i32⟩) main_call7_call0_v10) Host.shrui,
    TRef.binary (TRef.of (T := ⟨S6400000x2, .i32⟩) main_call7_call0_v8) (TRef.of (T := ⟨S6400000x2, .i32⟩) main_call7_call0_v10) (TRef.of (T := ⟨S6400000x2, .i32⟩) main_call7_call0_v11) ori,
    TRef.binary (TRef.of (T := ⟨S6400000x2, .i32⟩) main_call7_call0_v6) (TRef.of (T := ⟨S6400000x2, .i32⟩) main_call7_call0_v11) (TRef.of (T := ⟨S6400000x2, .i32⟩) main_call7_call0_v12) xori,
    TRef.binary (TRef.of (T := ⟨S6400000x2, .i32⟩) main_call7_call0_v6) (TRef.of (T := ⟨S6400000x2, .i32⟩) main_call7_call0_v12) (TRef.of (T := ⟨S6400000x2, .i32⟩) main_call7_call0_v13) addi,
    TRef.nullary (TRef.of (T := ⟨S_, .i32⟩) main_call7_call0_c_2) (constantI S_ 32 15#32),
    TRef.unary (TRef.of (T := ⟨S_, .i32⟩) main_call7_call0_c_2) (TRef.of (T := ⟨S6400000x2, .i32⟩) main_call7_call0_v14) (broadcastInDim S6400000x2 ![] bcast_S_S6400000x2),
    TRef.binary (TRef.of (T := ⟨S6400000x2, .i32⟩) main_call7_call0_v12) (TRef.of (T := ⟨S6400000x2, .i32⟩) main_call7_call0_v14) (TRef.of (T := ⟨S6400000x2, .i32⟩) main_call7_call0_v15) Host.shli,
    TRef.nullary (TRef.of (T := ⟨S_, .i32⟩) main_call7_call0_c_3) (constantI S_ 32 17#32),
    TRef.unary (TRef.of (T := ⟨S_, .i32⟩) main_call7_call0_c_3) (TRef.of (T := ⟨S6400000x2, .i32⟩) main_call7_call0_v16) (broadcastInDim S6400000x2 ![] bcast_S_S6400000x2),
    TRef.binary (TRef.of (T := ⟨S6400000x2, .i32⟩) main_call7_call0_v12) (TRef.of (T := ⟨S6400000x2, .i32⟩) main_call7_call0_v16) (TRef.of (T := ⟨S6400000x2, .i32⟩) main_call7_call0_v17) Host.shrui,
    TRef.binary (TRef.of (T := ⟨S6400000x2, .i32⟩) main_call7_call0_v15) (TRef.of (T := ⟨S6400000x2, .i32⟩) main_call7_call0_v17) (TRef.of (T := ⟨S6400000x2, .i32⟩) main_call7_call0_v18) ori,
    TRef.binary (TRef.of (T := ⟨S6400000x2, .i32⟩) main_call7_call0_v13) (TRef.of (T := ⟨S6400000x2, .i32⟩) main_call7_call0_v18) (TRef.of (T := ⟨S6400000x2, .i32⟩) main_call7_call0_v19) xori,
    TRef.binary (TRef.of (T := ⟨S6400000x2, .i32⟩) main_call7_call0_v13) (TRef.of (T := ⟨S6400000x2, .i32⟩) main_call7_call0_v19) (TRef.of (T := ⟨S6400000x2, .i32⟩) main_call7_call0_v20) addi,
    TRef.nullary (TRef.of (T := ⟨S_, .i32⟩) main_call7_call0_c_4) (constantI S_ 32 26#32),
    TRef.unary (TRef.of (T := ⟨S_, .i32⟩) main_call7_call0_c_4) (TRef.of (T := ⟨S6400000x2, .i32⟩) main_call7_call0_v21) (broadcastInDim S6400000x2 ![] bcast_S_S6400000x2),
    TRef.binary (TRef.of (T := ⟨S6400000x2, .i32⟩) main_call7_call0_v19) (TRef.of (T := ⟨S6400000x2, .i32⟩) main_call7_call0_v21) (TRef.of (T := ⟨S6400000x2, .i32⟩) main_call7_call0_v22) Host.shli ]

/-- @main's operations 272 … 301 of 515 (window `main_part2`). -/
abbrev ops_part2_4 : List (HloOp τ sig (Elt F)) :=
  [ TRef.nullary (TRef.of (T := ⟨S_, .i32⟩) main_call7_call0_c_5) (constantI S_ 32 6#32),
    TRef.unary (TRef.of (T := ⟨S_, .i32⟩) main_call7_call0_c_5) (TRef.of (T := ⟨S6400000x2, .i32⟩) main_call7_call0_v23) (broadcastInDim S6400000x2 ![] bcast_S_S6400000x2),
    TRef.binary (TRef.of (T := ⟨S6400000x2, .i32⟩) main_call7_call0_v19) (TRef.of (T := ⟨S6400000x2, .i32⟩) main_call7_call0_v23) (TRef.of (T := ⟨S6400000x2, .i32⟩) main_call7_call0_v24) Host.shrui,
    TRef.binary (TRef.of (T := ⟨S6400000x2, .i32⟩) main_call7_call0_v22) (TRef.of (T := ⟨S6400000x2, .i32⟩) main_call7_call0_v24) (TRef.of (T := ⟨S6400000x2, .i32⟩) main_call7_call0_v25) ori,
    TRef.binary (TRef.of (T := ⟨S6400000x2, .i32⟩) main_call7_call0_v20) (TRef.of (T := ⟨S6400000x2, .i32⟩) main_call7_call0_v25) (TRef.of (T := ⟨S6400000x2, .i32⟩) main_call7_call0_v26) xori,
    TRef.binary (TRef.of (T := ⟨S6400000x2, .i32⟩) main_call7_call0_v20) (TRef.of (T := ⟨S6400000x2, .i32⟩) main_call7_call0_v26) (TRef.of (T := ⟨S6400000x2, .i32⟩) main_call7_call0_v27) addi,
    TRef.nullary (TRef.of (T := ⟨S_, .i32⟩) main_call7_call0_c_6) (constantI S_ 32 6#32),
    TRef.unary (TRef.of (T := ⟨S_, .i32⟩) main_call7_call0_c_6) (TRef.of (T := ⟨S6400000x2, .i32⟩) main_call7_call0_v28) (broadcastInDim S6400000x2 ![] bcast_S_S6400000x2),
    TRef.binary (TRef.of (T := ⟨S6400000x2, .i32⟩) main_call7_call0_v26) (TRef.of (T := ⟨S6400000x2, .i32⟩) main_call7_call0_v28) (TRef.of (T := ⟨S6400000x2, .i32⟩) main_call7_call0_v29) Host.shli,
    TRef.nullary (TRef.of (T := ⟨S_, .i32⟩) main_call7_call0_c_7) (constantI S_ 32 26#32),
    TRef.unary (TRef.of (T := ⟨S_, .i32⟩) main_call7_call0_c_7) (TRef.of (T := ⟨S6400000x2, .i32⟩) main_call7_call0_v30) (broadcastInDim S6400000x2 ![] bcast_S_S6400000x2),
    TRef.binary (TRef.of (T := ⟨S6400000x2, .i32⟩) main_call7_call0_v26) (TRef.of (T := ⟨S6400000x2, .i32⟩) main_call7_call0_v30) (TRef.of (T := ⟨S6400000x2, .i32⟩) main_call7_call0_v31) Host.shrui,
    TRef.binary (TRef.of (T := ⟨S6400000x2, .i32⟩) main_call7_call0_v29) (TRef.of (T := ⟨S6400000x2, .i32⟩) main_call7_call0_v31) (TRef.of (T := ⟨S6400000x2, .i32⟩) main_call7_call0_v32) ori,
    TRef.binary (TRef.of (T := ⟨S6400000x2, .i32⟩) main_call7_call0_v27) (TRef.of (T := ⟨S6400000x2, .i32⟩) main_call7_call0_v32) (TRef.of (T := ⟨S6400000x2, .i32⟩) main_call7_call0_v33) xori,
    TRef.unary (TRef.of (T := ⟨S_, .i32⟩) main_call7_v7) (TRef.of (T := ⟨S6400000x2, .i32⟩) main_call7_call0_v34) (broadcastInDim S6400000x2 ![] bcast_S_S6400000x2),
    TRef.binary (TRef.of (T := ⟨S6400000x2, .i32⟩) main_call7_call0_v27) (TRef.of (T := ⟨S6400000x2, .i32⟩) main_call7_call0_v34) (TRef.of (T := ⟨S6400000x2, .i32⟩) main_call7_call0_v35) addi,
    TRef.unary (TRef.of (T := ⟨S_, .i32⟩) main_call7_call0_v1) (TRef.of (T := ⟨S6400000x2, .i32⟩) main_call7_call0_v36) (broadcastInDim S6400000x2 ![] bcast_S_S6400000x2),
    TRef.binary (TRef.of (T := ⟨S6400000x2, .i32⟩) main_call7_call0_v33) (TRef.of (T := ⟨S6400000x2, .i32⟩) main_call7_call0_v36) (TRef.of (T := ⟨S6400000x2, .i32⟩) main_call7_call0_v37) addi,
    TRef.nullary (TRef.of (T := ⟨S_, .i32⟩) main_call7_call0_c_8) (constantI S_ 32 1#32),
    TRef.unary (TRef.of (T := ⟨S_, .i32⟩) main_call7_call0_c_8) (TRef.of (T := ⟨S6400000x2, .i32⟩) main_call7_call0_v38) (broadcastInDim S6400000x2 ![] bcast_S_S6400000x2),
    TRef.binary (TRef.of (T := ⟨S6400000x2, .i32⟩) main_call7_call0_v37) (TRef.of (T := ⟨S6400000x2, .i32⟩) main_call7_call0_v38) (TRef.of (T := ⟨S6400000x2, .i32⟩) main_call7_call0_v39) addi,
    TRef.binary (TRef.of (T := ⟨S6400000x2, .i32⟩) main_call7_call0_v35) (TRef.of (T := ⟨S6400000x2, .i32⟩) main_call7_call0_v39) (TRef.of (T := ⟨S6400000x2, .i32⟩) main_call7_call0_v40) addi,
    TRef.nullary (TRef.of (T := ⟨S_, .i32⟩) main_call7_call0_c_9) (constantI S_ 32 17#32),
    TRef.unary (TRef.of (T := ⟨S_, .i32⟩) main_call7_call0_c_9) (TRef.of (T := ⟨S6400000x2, .i32⟩) main_call7_call0_v41) (broadcastInDim S6400000x2 ![] bcast_S_S6400000x2),
    TRef.binary (TRef.of (T := ⟨S6400000x2, .i32⟩) main_call7_call0_v39) (TRef.of (T := ⟨S6400000x2, .i32⟩) main_call7_call0_v41) (TRef.of (T := ⟨S6400000x2, .i32⟩) main_call7_call0_v42) Host.shli,
    TRef.nullary (TRef.of (T := ⟨S_, .i32⟩) main_call7_call0_c_10) (constantI S_ 32 15#32),
    TRef.unary (TRef.of (T := ⟨S_, .i32⟩) main_call7_call0_c_10) (TRef.of (T := ⟨S6400000x2, .i32⟩) main_call7_call0_v43) (broadcastInDim S6400000x2 ![] bcast_S_S6400000x2),
    TRef.binary (TRef.of (T := ⟨S6400000x2, .i32⟩) main_call7_call0_v39) (TRef.of (T := ⟨S6400000x2, .i32⟩) main_call7_call0_v43) (TRef.of (T := ⟨S6400000x2, .i32⟩) main_call7_call0_v44) Host.shrui,
    TRef.binary (TRef.of (T := ⟨S6400000x2, .i32⟩) main_call7_call0_v42) (TRef.of (T := ⟨S6400000x2, .i32⟩) main_call7_call0_v44) (TRef.of (T := ⟨S6400000x2, .i32⟩) main_call7_call0_v45) ori,
    TRef.binary (TRef.of (T := ⟨S6400000x2, .i32⟩) main_call7_call0_v40) (TRef.of (T := ⟨S6400000x2, .i32⟩) main_call7_call0_v45) (TRef.of (T := ⟨S6400000x2, .i32⟩) main_call7_call0_v46) xori ]

/-- @main's operations 302 … 331 of 515 (window `main_part2`). -/
abbrev ops_part2_5 : List (HloOp τ sig (Elt F)) :=
  [ TRef.binary (TRef.of (T := ⟨S6400000x2, .i32⟩) main_call7_call0_v40) (TRef.of (T := ⟨S6400000x2, .i32⟩) main_call7_call0_v46) (TRef.of (T := ⟨S6400000x2, .i32⟩) main_call7_call0_v47) addi,
    TRef.nullary (TRef.of (T := ⟨S_, .i32⟩) main_call7_call0_c_11) (constantI S_ 32 29#32),
    TRef.unary (TRef.of (T := ⟨S_, .i32⟩) main_call7_call0_c_11) (TRef.of (T := ⟨S6400000x2, .i32⟩) main_call7_call0_v48) (broadcastInDim S6400000x2 ![] bcast_S_S6400000x2),
    TRef.binary (TRef.of (T := ⟨S6400000x2, .i32⟩) main_call7_call0_v46) (TRef.of (T := ⟨S6400000x2, .i32⟩) main_call7_call0_v48) (TRef.of (T := ⟨S6400000x2, .i32⟩) main_call7_call0_v49) Host.shli,
    TRef.nullary (TRef.of (T := ⟨S_, .i32⟩) main_call7_call0_c_12) (constantI S_ 32 3#32),
    TRef.unary (TRef.of (T := ⟨S_, .i32⟩) main_call7_call0_c_12) (TRef.of (T := ⟨S6400000x2, .i32⟩) main_call7_call0_v50) (broadcastInDim S6400000x2 ![] bcast_S_S6400000x2),
    TRef.binary (TRef.of (T := ⟨S6400000x2, .i32⟩) main_call7_call0_v46) (TRef.of (T := ⟨S6400000x2, .i32⟩) main_call7_call0_v50) (TRef.of (T := ⟨S6400000x2, .i32⟩) main_call7_call0_v51) Host.shrui,
    TRef.binary (TRef.of (T := ⟨S6400000x2, .i32⟩) main_call7_call0_v49) (TRef.of (T := ⟨S6400000x2, .i32⟩) main_call7_call0_v51) (TRef.of (T := ⟨S6400000x2, .i32⟩) main_call7_call0_v52) ori,
    TRef.binary (TRef.of (T := ⟨S6400000x2, .i32⟩) main_call7_call0_v47) (TRef.of (T := ⟨S6400000x2, .i32⟩) main_call7_call0_v52) (TRef.of (T := ⟨S6400000x2, .i32⟩) main_call7_call0_v53) xori,
    TRef.binary (TRef.of (T := ⟨S6400000x2, .i32⟩) main_call7_call0_v47) (TRef.of (T := ⟨S6400000x2, .i32⟩) main_call7_call0_v53) (TRef.of (T := ⟨S6400000x2, .i32⟩) main_call7_call0_v54) addi,
    TRef.nullary (TRef.of (T := ⟨S_, .i32⟩) main_call7_call0_c_13) (constantI S_ 32 16#32),
    TRef.unary (TRef.of (T := ⟨S_, .i32⟩) main_call7_call0_c_13) (TRef.of (T := ⟨S6400000x2, .i32⟩) main_call7_call0_v55) (broadcastInDim S6400000x2 ![] bcast_S_S6400000x2),
    TRef.binary (TRef.of (T := ⟨S6400000x2, .i32⟩) main_call7_call0_v53) (TRef.of (T := ⟨S6400000x2, .i32⟩) main_call7_call0_v55) (TRef.of (T := ⟨S6400000x2, .i32⟩) main_call7_call0_v56) Host.shli,
    TRef.nullary (TRef.of (T := ⟨S_, .i32⟩) main_call7_call0_c_14) (constantI S_ 32 16#32),
    TRef.unary (TRef.of (T := ⟨S_, .i32⟩) main_call7_call0_c_14) (TRef.of (T := ⟨S6400000x2, .i32⟩) main_call7_call0_v57) (broadcastInDim S6400000x2 ![] bcast_S_S6400000x2),
    TRef.binary (TRef.of (T := ⟨S6400000x2, .i32⟩) main_call7_call0_v53) (TRef.of (T := ⟨S6400000x2, .i32⟩) main_call7_call0_v57) (TRef.of (T := ⟨S6400000x2, .i32⟩) main_call7_call0_v58) Host.shrui,
    TRef.binary (TRef.of (T := ⟨S6400000x2, .i32⟩) main_call7_call0_v56) (TRef.of (T := ⟨S6400000x2, .i32⟩) main_call7_call0_v58) (TRef.of (T := ⟨S6400000x2, .i32⟩) main_call7_call0_v59) ori,
    TRef.binary (TRef.of (T := ⟨S6400000x2, .i32⟩) main_call7_call0_v54) (TRef.of (T := ⟨S6400000x2, .i32⟩) main_call7_call0_v59) (TRef.of (T := ⟨S6400000x2, .i32⟩) main_call7_call0_v60) xori,
    TRef.binary (TRef.of (T := ⟨S6400000x2, .i32⟩) main_call7_call0_v54) (TRef.of (T := ⟨S6400000x2, .i32⟩) main_call7_call0_v60) (TRef.of (T := ⟨S6400000x2, .i32⟩) main_call7_call0_v61) addi,
    TRef.nullary (TRef.of (T := ⟨S_, .i32⟩) main_call7_call0_c_15) (constantI S_ 32 24#32),
    TRef.unary (TRef.of (T := ⟨S_, .i32⟩) main_call7_call0_c_15) (TRef.of (T := ⟨S6400000x2, .i32⟩) main_call7_call0_v62) (broadcastInDim S6400000x2 ![] bcast_S_S6400000x2),
    TRef.binary (TRef.of (T := ⟨S6400000x2, .i32⟩) main_call7_call0_v60) (TRef.of (T := ⟨S6400000x2, .i32⟩) main_call7_call0_v62) (TRef.of (T := ⟨S6400000x2, .i32⟩) main_call7_call0_v63) Host.shli,
    TRef.nullary (TRef.of (T := ⟨S_, .i32⟩) main_call7_call0_c_16) (constantI S_ 32 8#32),
    TRef.unary (TRef.of (T := ⟨S_, .i32⟩) main_call7_call0_c_16) (TRef.of (T := ⟨S6400000x2, .i32⟩) main_call7_call0_v64) (broadcastInDim S6400000x2 ![] bcast_S_S6400000x2),
    TRef.binary (TRef.of (T := ⟨S6400000x2, .i32⟩) main_call7_call0_v60) (TRef.of (T := ⟨S6400000x2, .i32⟩) main_call7_call0_v64) (TRef.of (T := ⟨S6400000x2, .i32⟩) main_call7_call0_v65) Host.shrui,
    TRef.binary (TRef.of (T := ⟨S6400000x2, .i32⟩) main_call7_call0_v63) (TRef.of (T := ⟨S6400000x2, .i32⟩) main_call7_call0_v65) (TRef.of (T := ⟨S6400000x2, .i32⟩) main_call7_call0_v66) ori,
    TRef.binary (TRef.of (T := ⟨S6400000x2, .i32⟩) main_call7_call0_v61) (TRef.of (T := ⟨S6400000x2, .i32⟩) main_call7_call0_v66) (TRef.of (T := ⟨S6400000x2, .i32⟩) main_call7_call0_v67) xori,
    TRef.unary (TRef.of (T := ⟨S_, .i32⟩) main_call7_call0_v1) (TRef.of (T := ⟨S6400000x2, .i32⟩) main_call7_call0_v68) (broadcastInDim S6400000x2 ![] bcast_S_S6400000x2),
    TRef.binary (TRef.of (T := ⟨S6400000x2, .i32⟩) main_call7_call0_v61) (TRef.of (T := ⟨S6400000x2, .i32⟩) main_call7_call0_v68) (TRef.of (T := ⟨S6400000x2, .i32⟩) main_call7_call0_v69) addi,
    TRef.unary (TRef.of (T := ⟨S_, .i32⟩) main_call7_v5) (TRef.of (T := ⟨S6400000x2, .i32⟩) main_call7_call0_v70) (broadcastInDim S6400000x2 ![] bcast_S_S6400000x2) ]

/-- @main's operations 332 … 361 of 515 (window `main_part2`). -/
abbrev ops_part2_6 : List (HloOp τ sig (Elt F)) :=
  [ TRef.binary (TRef.of (T := ⟨S6400000x2, .i32⟩) main_call7_call0_v67) (TRef.of (T := ⟨S6400000x2, .i32⟩) main_call7_call0_v70) (TRef.of (T := ⟨S6400000x2, .i32⟩) main_call7_call0_v71) addi,
    TRef.nullary (TRef.of (T := ⟨S_, .i32⟩) main_call7_call0_c_17) (constantI S_ 32 2#32),
    TRef.unary (TRef.of (T := ⟨S_, .i32⟩) main_call7_call0_c_17) (TRef.of (T := ⟨S6400000x2, .i32⟩) main_call7_call0_v72) (broadcastInDim S6400000x2 ![] bcast_S_S6400000x2),
    TRef.binary (TRef.of (T := ⟨S6400000x2, .i32⟩) main_call7_call0_v71) (TRef.of (T := ⟨S6400000x2, .i32⟩) main_call7_call0_v72) (TRef.of (T := ⟨S6400000x2, .i32⟩) main_call7_call0_v73) addi,
    TRef.binary (TRef.of (T := ⟨S6400000x2, .i32⟩) main_call7_call0_v69) (TRef.of (T := ⟨S6400000x2, .i32⟩) main_call7_call0_v73) (TRef.of (T := ⟨S6400000x2, .i32⟩) main_call7_call0_v74) addi,
    TRef.nullary (TRef.of (T := ⟨S_, .i32⟩) main_call7_call0_c_18) (constantI S_ 32 13#32),
    TRef.unary (TRef.of (T := ⟨S_, .i32⟩) main_call7_call0_c_18) (TRef.of (T := ⟨S6400000x2, .i32⟩) main_call7_call0_v75) (broadcastInDim S6400000x2 ![] bcast_S_S6400000x2),
    TRef.binary (TRef.of (T := ⟨S6400000x2, .i32⟩) main_call7_call0_v73) (TRef.of (T := ⟨S6400000x2, .i32⟩) main_call7_call0_v75) (TRef.of (T := ⟨S6400000x2, .i32⟩) main_call7_call0_v76) Host.shli,
    TRef.nullary (TRef.of (T := ⟨S_, .i32⟩) main_call7_call0_c_19) (constantI S_ 32 19#32),
    TRef.unary (TRef.of (T := ⟨S_, .i32⟩) main_call7_call0_c_19) (TRef.of (T := ⟨S6400000x2, .i32⟩) main_call7_call0_v77) (broadcastInDim S6400000x2 ![] bcast_S_S6400000x2),
    TRef.binary (TRef.of (T := ⟨S6400000x2, .i32⟩) main_call7_call0_v73) (TRef.of (T := ⟨S6400000x2, .i32⟩) main_call7_call0_v77) (TRef.of (T := ⟨S6400000x2, .i32⟩) main_call7_call0_v78) Host.shrui,
    TRef.binary (TRef.of (T := ⟨S6400000x2, .i32⟩) main_call7_call0_v76) (TRef.of (T := ⟨S6400000x2, .i32⟩) main_call7_call0_v78) (TRef.of (T := ⟨S6400000x2, .i32⟩) main_call7_call0_v79) ori,
    TRef.binary (TRef.of (T := ⟨S6400000x2, .i32⟩) main_call7_call0_v74) (TRef.of (T := ⟨S6400000x2, .i32⟩) main_call7_call0_v79) (TRef.of (T := ⟨S6400000x2, .i32⟩) main_call7_call0_v80) xori,
    TRef.binary (TRef.of (T := ⟨S6400000x2, .i32⟩) main_call7_call0_v74) (TRef.of (T := ⟨S6400000x2, .i32⟩) main_call7_call0_v80) (TRef.of (T := ⟨S6400000x2, .i32⟩) main_call7_call0_v81) addi,
    TRef.nullary (TRef.of (T := ⟨S_, .i32⟩) main_call7_call0_c_20) (constantI S_ 32 15#32),
    TRef.unary (TRef.of (T := ⟨S_, .i32⟩) main_call7_call0_c_20) (TRef.of (T := ⟨S6400000x2, .i32⟩) main_call7_call0_v82) (broadcastInDim S6400000x2 ![] bcast_S_S6400000x2),
    TRef.binary (TRef.of (T := ⟨S6400000x2, .i32⟩) main_call7_call0_v80) (TRef.of (T := ⟨S6400000x2, .i32⟩) main_call7_call0_v82) (TRef.of (T := ⟨S6400000x2, .i32⟩) main_call7_call0_v83) Host.shli,
    TRef.nullary (TRef.of (T := ⟨S_, .i32⟩) main_call7_call0_c_21) (constantI S_ 32 17#32),
    TRef.unary (TRef.of (T := ⟨S_, .i32⟩) main_call7_call0_c_21) (TRef.of (T := ⟨S6400000x2, .i32⟩) main_call7_call0_v84) (broadcastInDim S6400000x2 ![] bcast_S_S6400000x2),
    TRef.binary (TRef.of (T := ⟨S6400000x2, .i32⟩) main_call7_call0_v80) (TRef.of (T := ⟨S6400000x2, .i32⟩) main_call7_call0_v84) (TRef.of (T := ⟨S6400000x2, .i32⟩) main_call7_call0_v85) Host.shrui,
    TRef.binary (TRef.of (T := ⟨S6400000x2, .i32⟩) main_call7_call0_v83) (TRef.of (T := ⟨S6400000x2, .i32⟩) main_call7_call0_v85) (TRef.of (T := ⟨S6400000x2, .i32⟩) main_call7_call0_v86) ori,
    TRef.binary (TRef.of (T := ⟨S6400000x2, .i32⟩) main_call7_call0_v81) (TRef.of (T := ⟨S6400000x2, .i32⟩) main_call7_call0_v86) (TRef.of (T := ⟨S6400000x2, .i32⟩) main_call7_call0_v87) xori,
    TRef.binary (TRef.of (T := ⟨S6400000x2, .i32⟩) main_call7_call0_v81) (TRef.of (T := ⟨S6400000x2, .i32⟩) main_call7_call0_v87) (TRef.of (T := ⟨S6400000x2, .i32⟩) main_call7_call0_v88) addi,
    TRef.nullary (TRef.of (T := ⟨S_, .i32⟩) main_call7_call0_c_22) (constantI S_ 32 26#32),
    TRef.unary (TRef.of (T := ⟨S_, .i32⟩) main_call7_call0_c_22) (TRef.of (T := ⟨S6400000x2, .i32⟩) main_call7_call0_v89) (broadcastInDim S6400000x2 ![] bcast_S_S6400000x2),
    TRef.binary (TRef.of (T := ⟨S6400000x2, .i32⟩) main_call7_call0_v87) (TRef.of (T := ⟨S6400000x2, .i32⟩) main_call7_call0_v89) (TRef.of (T := ⟨S6400000x2, .i32⟩) main_call7_call0_v90) Host.shli,
    TRef.nullary (TRef.of (T := ⟨S_, .i32⟩) main_call7_call0_c_23) (constantI S_ 32 6#32),
    TRef.unary (TRef.of (T := ⟨S_, .i32⟩) main_call7_call0_c_23) (TRef.of (T := ⟨S6400000x2, .i32⟩) main_call7_call0_v91) (broadcastInDim S6400000x2 ![] bcast_S_S6400000x2),
    TRef.binary (TRef.of (T := ⟨S6400000x2, .i32⟩) main_call7_call0_v87) (TRef.of (T := ⟨S6400000x2, .i32⟩) main_call7_call0_v91) (TRef.of (T := ⟨S6400000x2, .i32⟩) main_call7_call0_v92) Host.shrui,
    TRef.binary (TRef.of (T := ⟨S6400000x2, .i32⟩) main_call7_call0_v90) (TRef.of (T := ⟨S6400000x2, .i32⟩) main_call7_call0_v92) (TRef.of (T := ⟨S6400000x2, .i32⟩) main_call7_call0_v93) ori ]

/-- @main's operations 362 … 391 of 515 (window `main_part2`). -/
abbrev ops_part2_7 : List (HloOp τ sig (Elt F)) :=
  [ TRef.binary (TRef.of (T := ⟨S6400000x2, .i32⟩) main_call7_call0_v88) (TRef.of (T := ⟨S6400000x2, .i32⟩) main_call7_call0_v93) (TRef.of (T := ⟨S6400000x2, .i32⟩) main_call7_call0_v94) xori,
    TRef.binary (TRef.of (T := ⟨S6400000x2, .i32⟩) main_call7_call0_v88) (TRef.of (T := ⟨S6400000x2, .i32⟩) main_call7_call0_v94) (TRef.of (T := ⟨S6400000x2, .i32⟩) main_call7_call0_v95) addi,
    TRef.nullary (TRef.of (T := ⟨S_, .i32⟩) main_call7_call0_c_24) (constantI S_ 32 6#32),
    TRef.unary (TRef.of (T := ⟨S_, .i32⟩) main_call7_call0_c_24) (TRef.of (T := ⟨S6400000x2, .i32⟩) main_call7_call0_v96) (broadcastInDim S6400000x2 ![] bcast_S_S6400000x2),
    TRef.binary (TRef.of (T := ⟨S6400000x2, .i32⟩) main_call7_call0_v94) (TRef.of (T := ⟨S6400000x2, .i32⟩) main_call7_call0_v96) (TRef.of (T := ⟨S6400000x2, .i32⟩) main_call7_call0_v97) Host.shli,
    TRef.nullary (TRef.of (T := ⟨S_, .i32⟩) main_call7_call0_c_25) (constantI S_ 32 26#32),
    TRef.unary (TRef.of (T := ⟨S_, .i32⟩) main_call7_call0_c_25) (TRef.of (T := ⟨S6400000x2, .i32⟩) main_call7_call0_v98) (broadcastInDim S6400000x2 ![] bcast_S_S6400000x2),
    TRef.binary (TRef.of (T := ⟨S6400000x2, .i32⟩) main_call7_call0_v94) (TRef.of (T := ⟨S6400000x2, .i32⟩) main_call7_call0_v98) (TRef.of (T := ⟨S6400000x2, .i32⟩) main_call7_call0_v99) Host.shrui,
    TRef.binary (TRef.of (T := ⟨S6400000x2, .i32⟩) main_call7_call0_v97) (TRef.of (T := ⟨S6400000x2, .i32⟩) main_call7_call0_v99) (TRef.of (T := ⟨S6400000x2, .i32⟩) main_call7_call0_v100) ori,
    TRef.binary (TRef.of (T := ⟨S6400000x2, .i32⟩) main_call7_call0_v95) (TRef.of (T := ⟨S6400000x2, .i32⟩) main_call7_call0_v100) (TRef.of (T := ⟨S6400000x2, .i32⟩) main_call7_call0_v101) xori,
    TRef.unary (TRef.of (T := ⟨S_, .i32⟩) main_call7_v5) (TRef.of (T := ⟨S6400000x2, .i32⟩) main_call7_call0_v102) (broadcastInDim S6400000x2 ![] bcast_S_S6400000x2),
    TRef.binary (TRef.of (T := ⟨S6400000x2, .i32⟩) main_call7_call0_v95) (TRef.of (T := ⟨S6400000x2, .i32⟩) main_call7_call0_v102) (TRef.of (T := ⟨S6400000x2, .i32⟩) main_call7_call0_v103) addi,
    TRef.unary (TRef.of (T := ⟨S_, .i32⟩) main_call7_v7) (TRef.of (T := ⟨S6400000x2, .i32⟩) main_call7_call0_v104) (broadcastInDim S6400000x2 ![] bcast_S_S6400000x2),
    TRef.binary (TRef.of (T := ⟨S6400000x2, .i32⟩) main_call7_call0_v101) (TRef.of (T := ⟨S6400000x2, .i32⟩) main_call7_call0_v104) (TRef.of (T := ⟨S6400000x2, .i32⟩) main_call7_call0_v105) addi,
    TRef.nullary (TRef.of (T := ⟨S_, .i32⟩) main_call7_call0_c_26) (constantI S_ 32 3#32),
    TRef.unary (TRef.of (T := ⟨S_, .i32⟩) main_call7_call0_c_26) (TRef.of (T := ⟨S6400000x2, .i32⟩) main_call7_call0_v106) (broadcastInDim S6400000x2 ![] bcast_S_S6400000x2),
    TRef.binary (TRef.of (T := ⟨S6400000x2, .i32⟩) main_call7_call0_v105) (TRef.of (T := ⟨S6400000x2, .i32⟩) main_call7_call0_v106) (TRef.of (T := ⟨S6400000x2, .i32⟩) main_call7_call0_v107) addi,
    TRef.binary (TRef.of (T := ⟨S6400000x2, .i32⟩) main_call7_call0_v103) (TRef.of (T := ⟨S6400000x2, .i32⟩) main_call7_call0_v107) (TRef.of (T := ⟨S6400000x2, .i32⟩) main_call7_call0_v108) addi,
    TRef.nullary (TRef.of (T := ⟨S_, .i32⟩) main_call7_call0_c_27) (constantI S_ 32 17#32),
    TRef.unary (TRef.of (T := ⟨S_, .i32⟩) main_call7_call0_c_27) (TRef.of (T := ⟨S6400000x2, .i32⟩) main_call7_call0_v109) (broadcastInDim S6400000x2 ![] bcast_S_S6400000x2),
    TRef.binary (TRef.of (T := ⟨S6400000x2, .i32⟩) main_call7_call0_v107) (TRef.of (T := ⟨S6400000x2, .i32⟩) main_call7_call0_v109) (TRef.of (T := ⟨S6400000x2, .i32⟩) main_call7_call0_v110) Host.shli,
    TRef.nullary (TRef.of (T := ⟨S_, .i32⟩) main_call7_call0_c_28) (constantI S_ 32 15#32),
    TRef.unary (TRef.of (T := ⟨S_, .i32⟩) main_call7_call0_c_28) (TRef.of (T := ⟨S6400000x2, .i32⟩) main_call7_call0_v111) (broadcastInDim S6400000x2 ![] bcast_S_S6400000x2),
    TRef.binary (TRef.of (T := ⟨S6400000x2, .i32⟩) main_call7_call0_v107) (TRef.of (T := ⟨S6400000x2, .i32⟩) main_call7_call0_v111) (TRef.of (T := ⟨S6400000x2, .i32⟩) main_call7_call0_v112) Host.shrui,
    TRef.binary (TRef.of (T := ⟨S6400000x2, .i32⟩) main_call7_call0_v110) (TRef.of (T := ⟨S6400000x2, .i32⟩) main_call7_call0_v112) (TRef.of (T := ⟨S6400000x2, .i32⟩) main_call7_call0_v113) ori,
    TRef.binary (TRef.of (T := ⟨S6400000x2, .i32⟩) main_call7_call0_v108) (TRef.of (T := ⟨S6400000x2, .i32⟩) main_call7_call0_v113) (TRef.of (T := ⟨S6400000x2, .i32⟩) main_call7_call0_v114) xori,
    TRef.binary (TRef.of (T := ⟨S6400000x2, .i32⟩) main_call7_call0_v108) (TRef.of (T := ⟨S6400000x2, .i32⟩) main_call7_call0_v114) (TRef.of (T := ⟨S6400000x2, .i32⟩) main_call7_call0_v115) addi,
    TRef.nullary (TRef.of (T := ⟨S_, .i32⟩) main_call7_call0_c_29) (constantI S_ 32 29#32),
    TRef.unary (TRef.of (T := ⟨S_, .i32⟩) main_call7_call0_c_29) (TRef.of (T := ⟨S6400000x2, .i32⟩) main_call7_call0_v116) (broadcastInDim S6400000x2 ![] bcast_S_S6400000x2),
    TRef.binary (TRef.of (T := ⟨S6400000x2, .i32⟩) main_call7_call0_v114) (TRef.of (T := ⟨S6400000x2, .i32⟩) main_call7_call0_v116) (TRef.of (T := ⟨S6400000x2, .i32⟩) main_call7_call0_v117) Host.shli ]

/-- @main's operations 392 … 421 of 515 (window `main_part2`). -/
abbrev ops_part2_8 : List (HloOp τ sig (Elt F)) :=
  [ TRef.nullary (TRef.of (T := ⟨S_, .i32⟩) main_call7_call0_c_30) (constantI S_ 32 3#32),
    TRef.unary (TRef.of (T := ⟨S_, .i32⟩) main_call7_call0_c_30) (TRef.of (T := ⟨S6400000x2, .i32⟩) main_call7_call0_v118) (broadcastInDim S6400000x2 ![] bcast_S_S6400000x2),
    TRef.binary (TRef.of (T := ⟨S6400000x2, .i32⟩) main_call7_call0_v114) (TRef.of (T := ⟨S6400000x2, .i32⟩) main_call7_call0_v118) (TRef.of (T := ⟨S6400000x2, .i32⟩) main_call7_call0_v119) Host.shrui,
    TRef.binary (TRef.of (T := ⟨S6400000x2, .i32⟩) main_call7_call0_v117) (TRef.of (T := ⟨S6400000x2, .i32⟩) main_call7_call0_v119) (TRef.of (T := ⟨S6400000x2, .i32⟩) main_call7_call0_v120) ori,
    TRef.binary (TRef.of (T := ⟨S6400000x2, .i32⟩) main_call7_call0_v115) (TRef.of (T := ⟨S6400000x2, .i32⟩) main_call7_call0_v120) (TRef.of (T := ⟨S6400000x2, .i32⟩) main_call7_call0_v121) xori,
    TRef.binary (TRef.of (T := ⟨S6400000x2, .i32⟩) main_call7_call0_v115) (TRef.of (T := ⟨S6400000x2, .i32⟩) main_call7_call0_v121) (TRef.of (T := ⟨S6400000x2, .i32⟩) main_call7_call0_v122) addi,
    TRef.nullary (TRef.of (T := ⟨S_, .i32⟩) main_call7_call0_c_31) (constantI S_ 32 16#32),
    TRef.unary (TRef.of (T := ⟨S_, .i32⟩) main_call7_call0_c_31) (TRef.of (T := ⟨S6400000x2, .i32⟩) main_call7_call0_v123) (broadcastInDim S6400000x2 ![] bcast_S_S6400000x2),
    TRef.binary (TRef.of (T := ⟨S6400000x2, .i32⟩) main_call7_call0_v121) (TRef.of (T := ⟨S6400000x2, .i32⟩) main_call7_call0_v123) (TRef.of (T := ⟨S6400000x2, .i32⟩) main_call7_call0_v124) Host.shli,
    TRef.nullary (TRef.of (T := ⟨S_, .i32⟩) main_call7_call0_c_32) (constantI S_ 32 16#32),
    TRef.unary (TRef.of (T := ⟨S_, .i32⟩) main_call7_call0_c_32) (TRef.of (T := ⟨S6400000x2, .i32⟩) main_call7_call0_v125) (broadcastInDim S6400000x2 ![] bcast_S_S6400000x2),
    TRef.binary (TRef.of (T := ⟨S6400000x2, .i32⟩) main_call7_call0_v121) (TRef.of (T := ⟨S6400000x2, .i32⟩) main_call7_call0_v125) (TRef.of (T := ⟨S6400000x2, .i32⟩) main_call7_call0_v126) Host.shrui,
    TRef.binary (TRef.of (T := ⟨S6400000x2, .i32⟩) main_call7_call0_v124) (TRef.of (T := ⟨S6400000x2, .i32⟩) main_call7_call0_v126) (TRef.of (T := ⟨S6400000x2, .i32⟩) main_call7_call0_v127) ori,
    TRef.binary (TRef.of (T := ⟨S6400000x2, .i32⟩) main_call7_call0_v122) (TRef.of (T := ⟨S6400000x2, .i32⟩) main_call7_call0_v127) (TRef.of (T := ⟨S6400000x2, .i32⟩) main_call7_call0_v128) xori,
    TRef.binary (TRef.of (T := ⟨S6400000x2, .i32⟩) main_call7_call0_v122) (TRef.of (T := ⟨S6400000x2, .i32⟩) main_call7_call0_v128) (TRef.of (T := ⟨S6400000x2, .i32⟩) main_call7_call0_v129) addi,
    TRef.nullary (TRef.of (T := ⟨S_, .i32⟩) main_call7_call0_c_33) (constantI S_ 32 24#32),
    TRef.unary (TRef.of (T := ⟨S_, .i32⟩) main_call7_call0_c_33) (TRef.of (T := ⟨S6400000x2, .i32⟩) main_call7_call0_v130) (broadcastInDim S6400000x2 ![] bcast_S_S6400000x2),
    TRef.binary (TRef.of (T := ⟨S6400000x2, .i32⟩) main_call7_call0_v128) (TRef.of (T := ⟨S6400000x2, .i32⟩) main_call7_call0_v130) (TRef.of (T := ⟨S6400000x2, .i32⟩) main_call7_call0_v131) Host.shli,
    TRef.nullary (TRef.of (T := ⟨S_, .i32⟩) main_call7_call0_c_34) (constantI S_ 32 8#32),
    TRef.unary (TRef.of (T := ⟨S_, .i32⟩) main_call7_call0_c_34) (TRef.of (T := ⟨S6400000x2, .i32⟩) main_call7_call0_v132) (broadcastInDim S6400000x2 ![] bcast_S_S6400000x2),
    TRef.binary (TRef.of (T := ⟨S6400000x2, .i32⟩) main_call7_call0_v128) (TRef.of (T := ⟨S6400000x2, .i32⟩) main_call7_call0_v132) (TRef.of (T := ⟨S6400000x2, .i32⟩) main_call7_call0_v133) Host.shrui,
    TRef.binary (TRef.of (T := ⟨S6400000x2, .i32⟩) main_call7_call0_v131) (TRef.of (T := ⟨S6400000x2, .i32⟩) main_call7_call0_v133) (TRef.of (T := ⟨S6400000x2, .i32⟩) main_call7_call0_v134) ori,
    TRef.binary (TRef.of (T := ⟨S6400000x2, .i32⟩) main_call7_call0_v129) (TRef.of (T := ⟨S6400000x2, .i32⟩) main_call7_call0_v134) (TRef.of (T := ⟨S6400000x2, .i32⟩) main_call7_call0_v135) xori,
    TRef.unary (TRef.of (T := ⟨S_, .i32⟩) main_call7_v7) (TRef.of (T := ⟨S6400000x2, .i32⟩) main_call7_call0_v136) (broadcastInDim S6400000x2 ![] bcast_S_S6400000x2),
    TRef.binary (TRef.of (T := ⟨S6400000x2, .i32⟩) main_call7_call0_v129) (TRef.of (T := ⟨S6400000x2, .i32⟩) main_call7_call0_v136) (TRef.of (T := ⟨S6400000x2, .i32⟩) main_call7_call0_v137) addi,
    TRef.unary (TRef.of (T := ⟨S_, .i32⟩) main_call7_call0_v1) (TRef.of (T := ⟨S6400000x2, .i32⟩) main_call7_call0_v138) (broadcastInDim S6400000x2 ![] bcast_S_S6400000x2),
    TRef.binary (TRef.of (T := ⟨S6400000x2, .i32⟩) main_call7_call0_v135) (TRef.of (T := ⟨S6400000x2, .i32⟩) main_call7_call0_v138) (TRef.of (T := ⟨S6400000x2, .i32⟩) main_call7_call0_v139) addi,
    TRef.nullary (TRef.of (T := ⟨S_, .i32⟩) main_call7_call0_c_35) (constantI S_ 32 4#32),
    TRef.unary (TRef.of (T := ⟨S_, .i32⟩) main_call7_call0_c_35) (TRef.of (T := ⟨S6400000x2, .i32⟩) main_call7_call0_v140) (broadcastInDim S6400000x2 ![] bcast_S_S6400000x2),
    TRef.binary (TRef.of (T := ⟨S6400000x2, .i32⟩) main_call7_call0_v139) (TRef.of (T := ⟨S6400000x2, .i32⟩) main_call7_call0_v140) (TRef.of (T := ⟨S6400000x2, .i32⟩) main_call7_call0_v141) addi ]

/-- @main's operations 422 … 451 of 515 (window `main_part2`). -/
abbrev ops_part2_9 : List (HloOp τ sig (Elt F)) :=
  [ TRef.binary (TRef.of (T := ⟨S6400000x2, .i32⟩) main_call7_call0_v137) (TRef.of (T := ⟨S6400000x2, .i32⟩) main_call7_call0_v141) (TRef.of (T := ⟨S6400000x2, .i32⟩) main_call7_call0_v142) addi,
    TRef.nullary (TRef.of (T := ⟨S_, .i32⟩) main_call7_call0_c_36) (constantI S_ 32 13#32),
    TRef.unary (TRef.of (T := ⟨S_, .i32⟩) main_call7_call0_c_36) (TRef.of (T := ⟨S6400000x2, .i32⟩) main_call7_call0_v143) (broadcastInDim S6400000x2 ![] bcast_S_S6400000x2),
    TRef.binary (TRef.of (T := ⟨S6400000x2, .i32⟩) main_call7_call0_v141) (TRef.of (T := ⟨S6400000x2, .i32⟩) main_call7_call0_v143) (TRef.of (T := ⟨S6400000x2, .i32⟩) main_call7_call0_v144) Host.shli,
    TRef.nullary (TRef.of (T := ⟨S_, .i32⟩) main_call7_call0_c_37) (constantI S_ 32 19#32),
    TRef.unary (TRef.of (T := ⟨S_, .i32⟩) main_call7_call0_c_37) (TRef.of (T := ⟨S6400000x2, .i32⟩) main_call7_call0_v145) (broadcastInDim S6400000x2 ![] bcast_S_S6400000x2),
    TRef.binary (TRef.of (T := ⟨S6400000x2, .i32⟩) main_call7_call0_v141) (TRef.of (T := ⟨S6400000x2, .i32⟩) main_call7_call0_v145) (TRef.of (T := ⟨S6400000x2, .i32⟩) main_call7_call0_v146) Host.shrui,
    TRef.binary (TRef.of (T := ⟨S6400000x2, .i32⟩) main_call7_call0_v144) (TRef.of (T := ⟨S6400000x2, .i32⟩) main_call7_call0_v146) (TRef.of (T := ⟨S6400000x2, .i32⟩) main_call7_call0_v147) ori,
    TRef.binary (TRef.of (T := ⟨S6400000x2, .i32⟩) main_call7_call0_v142) (TRef.of (T := ⟨S6400000x2, .i32⟩) main_call7_call0_v147) (TRef.of (T := ⟨S6400000x2, .i32⟩) main_call7_call0_v148) xori,
    TRef.binary (TRef.of (T := ⟨S6400000x2, .i32⟩) main_call7_call0_v142) (TRef.of (T := ⟨S6400000x2, .i32⟩) main_call7_call0_v148) (TRef.of (T := ⟨S6400000x2, .i32⟩) main_call7_call0_v149) addi,
    TRef.nullary (TRef.of (T := ⟨S_, .i32⟩) main_call7_call0_c_38) (constantI S_ 32 15#32),
    TRef.unary (TRef.of (T := ⟨S_, .i32⟩) main_call7_call0_c_38) (TRef.of (T := ⟨S6400000x2, .i32⟩) main_call7_call0_v150) (broadcastInDim S6400000x2 ![] bcast_S_S6400000x2),
    TRef.binary (TRef.of (T := ⟨S6400000x2, .i32⟩) main_call7_call0_v148) (TRef.of (T := ⟨S6400000x2, .i32⟩) main_call7_call0_v150) (TRef.of (T := ⟨S6400000x2, .i32⟩) main_call7_call0_v151) Host.shli,
    TRef.nullary (TRef.of (T := ⟨S_, .i32⟩) main_call7_call0_c_39) (constantI S_ 32 17#32),
    TRef.unary (TRef.of (T := ⟨S_, .i32⟩) main_call7_call0_c_39) (TRef.of (T := ⟨S6400000x2, .i32⟩) main_call7_call0_v152) (broadcastInDim S6400000x2 ![] bcast_S_S6400000x2),
    TRef.binary (TRef.of (T := ⟨S6400000x2, .i32⟩) main_call7_call0_v148) (TRef.of (T := ⟨S6400000x2, .i32⟩) main_call7_call0_v152) (TRef.of (T := ⟨S6400000x2, .i32⟩) main_call7_call0_v153) Host.shrui,
    TRef.binary (TRef.of (T := ⟨S6400000x2, .i32⟩) main_call7_call0_v151) (TRef.of (T := ⟨S6400000x2, .i32⟩) main_call7_call0_v153) (TRef.of (T := ⟨S6400000x2, .i32⟩) main_call7_call0_v154) ori,
    TRef.binary (TRef.of (T := ⟨S6400000x2, .i32⟩) main_call7_call0_v149) (TRef.of (T := ⟨S6400000x2, .i32⟩) main_call7_call0_v154) (TRef.of (T := ⟨S6400000x2, .i32⟩) main_call7_call0_v155) xori,
    TRef.binary (TRef.of (T := ⟨S6400000x2, .i32⟩) main_call7_call0_v149) (TRef.of (T := ⟨S6400000x2, .i32⟩) main_call7_call0_v155) (TRef.of (T := ⟨S6400000x2, .i32⟩) main_call7_call0_v156) addi,
    TRef.nullary (TRef.of (T := ⟨S_, .i32⟩) main_call7_call0_c_40) (constantI S_ 32 26#32),
    TRef.unary (TRef.of (T := ⟨S_, .i32⟩) main_call7_call0_c_40) (TRef.of (T := ⟨S6400000x2, .i32⟩) main_call7_call0_v157) (broadcastInDim S6400000x2 ![] bcast_S_S6400000x2),
    TRef.binary (TRef.of (T := ⟨S6400000x2, .i32⟩) main_call7_call0_v155) (TRef.of (T := ⟨S6400000x2, .i32⟩) main_call7_call0_v157) (TRef.of (T := ⟨S6400000x2, .i32⟩) main_call7_call0_v158) Host.shli,
    TRef.nullary (TRef.of (T := ⟨S_, .i32⟩) main_call7_call0_c_41) (constantI S_ 32 6#32),
    TRef.unary (TRef.of (T := ⟨S_, .i32⟩) main_call7_call0_c_41) (TRef.of (T := ⟨S6400000x2, .i32⟩) main_call7_call0_v159) (broadcastInDim S6400000x2 ![] bcast_S_S6400000x2),
    TRef.binary (TRef.of (T := ⟨S6400000x2, .i32⟩) main_call7_call0_v155) (TRef.of (T := ⟨S6400000x2, .i32⟩) main_call7_call0_v159) (TRef.of (T := ⟨S6400000x2, .i32⟩) main_call7_call0_v160) Host.shrui,
    TRef.binary (TRef.of (T := ⟨S6400000x2, .i32⟩) main_call7_call0_v158) (TRef.of (T := ⟨S6400000x2, .i32⟩) main_call7_call0_v160) (TRef.of (T := ⟨S6400000x2, .i32⟩) main_call7_call0_v161) ori,
    TRef.binary (TRef.of (T := ⟨S6400000x2, .i32⟩) main_call7_call0_v156) (TRef.of (T := ⟨S6400000x2, .i32⟩) main_call7_call0_v161) (TRef.of (T := ⟨S6400000x2, .i32⟩) main_call7_call0_v162) xori,
    TRef.binary (TRef.of (T := ⟨S6400000x2, .i32⟩) main_call7_call0_v156) (TRef.of (T := ⟨S6400000x2, .i32⟩) main_call7_call0_v162) (TRef.of (T := ⟨S6400000x2, .i32⟩) main_call7_call0_v163) addi,
    TRef.nullary (TRef.of (T := ⟨S_, .i32⟩) main_call7_call0_c_42) (constantI S_ 32 6#32),
    TRef.unary (TRef.of (T := ⟨S_, .i32⟩) main_call7_call0_c_42) (TRef.of (T := ⟨S6400000x2, .i32⟩) main_call7_call0_v164) (broadcastInDim S6400000x2 ![] bcast_S_S6400000x2) ]

/-- @main's operations 452 … 481 of 515 (window `main_part2`). -/
abbrev ops_part2_10 : List (HloOp τ sig (Elt F)) :=
  [ TRef.binary (TRef.of (T := ⟨S6400000x2, .i32⟩) main_call7_call0_v162) (TRef.of (T := ⟨S6400000x2, .i32⟩) main_call7_call0_v164) (TRef.of (T := ⟨S6400000x2, .i32⟩) main_call7_call0_v165) Host.shli,
    TRef.nullary (TRef.of (T := ⟨S_, .i32⟩) main_call7_call0_c_43) (constantI S_ 32 26#32),
    TRef.unary (TRef.of (T := ⟨S_, .i32⟩) main_call7_call0_c_43) (TRef.of (T := ⟨S6400000x2, .i32⟩) main_call7_call0_v166) (broadcastInDim S6400000x2 ![] bcast_S_S6400000x2),
    TRef.binary (TRef.of (T := ⟨S6400000x2, .i32⟩) main_call7_call0_v162) (TRef.of (T := ⟨S6400000x2, .i32⟩) main_call7_call0_v166) (TRef.of (T := ⟨S6400000x2, .i32⟩) main_call7_call0_v167) Host.shrui,
    TRef.binary (TRef.of (T := ⟨S6400000x2, .i32⟩) main_call7_call0_v165) (TRef.of (T := ⟨S6400000x2, .i32⟩) main_call7_call0_v167) (TRef.of (T := ⟨S6400000x2, .i32⟩) main_call7_call0_v168) ori,
    TRef.binary (TRef.of (T := ⟨S6400000x2, .i32⟩) main_call7_call0_v163) (TRef.of (T := ⟨S6400000x2, .i32⟩) main_call7_call0_v168) (TRef.of (T := ⟨S6400000x2, .i32⟩) main_call7_call0_v169) xori,
    TRef.unary (TRef.of (T := ⟨S_, .i32⟩) main_call7_call0_v1) (TRef.of (T := ⟨S6400000x2, .i32⟩) main_call7_call0_v170) (broadcastInDim S6400000x2 ![] bcast_S_S6400000x2),
    TRef.binary (TRef.of (T := ⟨S6400000x2, .i32⟩) main_call7_call0_v163) (TRef.of (T := ⟨S6400000x2, .i32⟩) main_call7_call0_v170) (TRef.of (T := ⟨S6400000x2, .i32⟩) main_call7_v19_0) addi,
    TRef.unary (TRef.of (T := ⟨S_, .i32⟩) main_call7_v5) (TRef.of (T := ⟨S6400000x2, .i32⟩) main_call7_call0_v172) (broadcastInDim S6400000x2 ![] bcast_S_S6400000x2),
    TRef.binary (TRef.of (T := ⟨S6400000x2, .i32⟩) main_call7_call0_v169) (TRef.of (T := ⟨S6400000x2, .i32⟩) main_call7_call0_v172) (TRef.of (T := ⟨S6400000x2, .i32⟩) main_call7_call0_v173) addi,
    TRef.nullary (TRef.of (T := ⟨S_, .i32⟩) main_call7_call0_c_44) (constantI S_ 32 5#32),
    TRef.unary (TRef.of (T := ⟨S_, .i32⟩) main_call7_call0_c_44) (TRef.of (T := ⟨S6400000x2, .i32⟩) main_call7_call0_v174) (broadcastInDim S6400000x2 ![] bcast_S_S6400000x2),
    TRef.binary (TRef.of (T := ⟨S6400000x2, .i32⟩) main_call7_call0_v173) (TRef.of (T := ⟨S6400000x2, .i32⟩) main_call7_call0_v174) (TRef.of (T := ⟨S6400000x2, .i32⟩) main_call7_v19_1) addi,
    TRef.binary (TRef.of (T := ⟨S6400000x2, .i32⟩) main_call7_v19_0) (TRef.of (T := ⟨S6400000x2, .i32⟩) main_call7_v19_1) (TRef.of (T := ⟨S6400000x2, .i32⟩) main_call7_v20) xori,
    TRef.nullary (TRef.of (T := ⟨S_, .i32⟩) main_call7_c_2) (constantI S_ 32 9#32),
    TRef.unary (TRef.of (T := ⟨S_, .i32⟩) main_call7_c_2) (TRef.of (T := ⟨S6400000x2, .i32⟩) main_call7_v21) (broadcastInDim S6400000x2 ![] bcast_S_S6400000x2),
    TRef.binary (TRef.of (T := ⟨S6400000x2, .i32⟩) main_call7_v20) (TRef.of (T := ⟨S6400000x2, .i32⟩) main_call7_v21) (TRef.of (T := ⟨S6400000x2, .i32⟩) main_call7_v22) Host.shrui,
    TRef.nullary (TRef.of (T := ⟨S_, .i32⟩) main_call7_c_3) (constantI S_ 32 1065353216#32),
    TRef.unary (TRef.of (T := ⟨S_, .i32⟩) main_call7_c_3) (TRef.of (T := ⟨S6400000x2, .i32⟩) main_call7_v23) (broadcastInDim S6400000x2 ![] bcast_S_S6400000x2),
    TRef.binary (TRef.of (T := ⟨S6400000x2, .i32⟩) main_call7_v22) (TRef.of (T := ⟨S6400000x2, .i32⟩) main_call7_v23) (TRef.of (T := ⟨S6400000x2, .i32⟩) main_call7_v24) ori,
    TRef.unary (TRef.of (T := ⟨S6400000x2, .i32⟩) main_call7_v24) (TRef.of (T := ⟨S6400000x2, .f32⟩) main_call7_v25) (bitcastToFloat (F := F) .f32),
    TRef.nullary (TRef.of (T := ⟨S_, .f32⟩) main_call7_cst) (constant S_ .f32 0x3F800000#32),
    TRef.unary (TRef.of (T := ⟨S_, .f32⟩) main_call7_cst) (TRef.of (T := ⟨S6400000x2, .f32⟩) main_call7_v26) (broadcastInDim S6400000x2 ![] bcast_S_S6400000x2),
    TRef.binary (TRef.of (T := ⟨S6400000x2, .f32⟩) main_call7_v25) (TRef.of (T := ⟨S6400000x2, .f32⟩) main_call7_v26) (TRef.of (T := ⟨S6400000x2, .f32⟩) main_call7_v27) subf,
    TRef.binary (TRef.of (T := ⟨S1x1, .f32⟩) main_call7_v3) (TRef.of (T := ⟨S1x1, .f32⟩) main_call7_v2) (TRef.of (T := ⟨S1x1, .f32⟩) main_call7_v28) subf,
    TRef.unary (TRef.of (T := ⟨S1x1, .f32⟩) main_call7_v28) (TRef.of (T := ⟨S6400000x2, .f32⟩) main_call7_v29) (broadcastInDim S6400000x2 ![0, 1] bcast_S1x1_S6400000x2_0_1),
    TRef.binary (TRef.of (T := ⟨S6400000x2, .f32⟩) main_call7_v27) (TRef.of (T := ⟨S6400000x2, .f32⟩) main_call7_v29) (TRef.of (T := ⟨S6400000x2, .f32⟩) main_call7_v30) mulf,
    TRef.unary (TRef.of (T := ⟨S1x1, .f32⟩) main_call7_v2) (TRef.of (T := ⟨S6400000x2, .f32⟩) main_call7_v31) (broadcastInDim S6400000x2 ![0, 1] bcast_S1x1_S6400000x2_0_1),
    TRef.binary (TRef.of (T := ⟨S6400000x2, .f32⟩) main_call7_v30) (TRef.of (T := ⟨S6400000x2, .f32⟩) main_call7_v31) (TRef.of (T := ⟨S6400000x2, .f32⟩) main_call7_v32) addf,
    TRef.unary (TRef.of (T := ⟨S1x1, .f32⟩) main_call7_v2) (TRef.of (T := ⟨S6400000x2, .f32⟩) main_call7_v33) (broadcastInDim S6400000x2 ![0, 1] bcast_S1x1_S6400000x2_0_1) ]

/-- @main's operations 482 … 486 of 515 (window `main_part2`). -/
abbrev ops_part2_11 : List (HloOp τ sig (Elt F)) :=
  [ TRef.binary (TRef.of (T := ⟨S6400000x2, .f32⟩) main_call7_v33) (TRef.of (T := ⟨S6400000x2, .f32⟩) main_call7_v32) (TRef.of (T := ⟨S6400000x2, .f32⟩) main_v147) maximumf,
    nullary main_cst_26 (constant S_ .f32 0x0DA24260#32),
    unary main_cst_26 main_v148 (broadcastInDim S6400000x2 ![] bcast_S_S6400000x2 : (⟨S_, .f32⟩ : BufTy).Contents (Elt F) → (⟨S6400000x2, .f32⟩ : BufTy).Contents (Elt F)),
    binary main_v147 main_v148 main_v149 (addf : (⟨S6400000x2, .f32⟩ : BufTy).Contents (Elt F) → (⟨S6400000x2, .f32⟩ : BufTy).Contents (Elt F) → (⟨S6400000x2, .f32⟩ : BufTy).Contents (Elt F)),
    unary main_v149 main_v150 (Host.log : (⟨S6400000x2, .f32⟩ : BufTy).Contents (Elt F) → (⟨S6400000x2, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2 ++ (ops_part2_3 ++ (ops_part2_4 ++ (ops_part2_5 ++ (ops_part2_6 ++ (ops_part2_7 ++ (ops_part2_8 ++ (ops_part2_9 ++ (ops_part2_10 ++ (ops_part2_11)))))))))))

/-- @main's operations 487 … 515 of 515 (window `main_part3`). -/
abbrev ops_part3 : List (HloOp τ sig (Elt F)) :=
  [ unary main_v150 main_v151 (Host.negf : (⟨S6400000x2, .f32⟩ : BufTy).Contents (Elt F) → (⟨S6400000x2, .f32⟩ : BufTy).Contents (Elt F)),
    nullary main_cst_27 (constant S_ .f32 0x0DA24260#32),
    unary main_cst_27 main_v152 (broadcastInDim S6400000x2 ![] bcast_S_S6400000x2 : (⟨S_, .f32⟩ : BufTy).Contents (Elt F) → (⟨S6400000x2, .f32⟩ : BufTy).Contents (Elt F)),
    binary main_v151 main_v152 main_v153 (addf : (⟨S6400000x2, .f32⟩ : BufTy).Contents (Elt F) → (⟨S6400000x2, .f32⟩ : BufTy).Contents (Elt F) → (⟨S6400000x2, .f32⟩ : BufTy).Contents (Elt F)),
    unary main_v153 main_v154 (Host.log : (⟨S6400000x2, .f32⟩ : BufTy).Contents (Elt F) → (⟨S6400000x2, .f32⟩ : BufTy).Contents (Elt F)),
    unary main_v154 main_v155 (Host.negf : (⟨S6400000x2, .f32⟩ : BufTy).Contents (Elt F) → (⟨S6400000x2, .f32⟩ : BufTy).Contents (Elt F)),
    binary main_v155 main_v139 main_v156 (addf : (⟨S6400000x2, .f32⟩ : BufTy).Contents (Elt F) → (⟨S6400000x2, .f32⟩ : BufTy).Contents (Elt F) → (⟨S6400000x2, .f32⟩ : BufTy).Contents (Elt F)),
    TRef.nullary (TRef.of (T := ⟨S6400000x2, .i32⟩) main_call8_v0) (iotaInDim S6400000x2 32 1),
    TRef.nullary (TRef.of (T := ⟨S_, .f32⟩) main_call8_cst) (constant S_ .f32 0xFF800000#32),
    TRef.nullary (TRef.of (T := ⟨S_, .i32⟩) main_call8_c) (constantI S_ 32 0#32),
    TRef.quaternary (TRef.of (T := ⟨S6400000x2, .f32⟩) main_v156) (TRef.of (T := ⟨S6400000x2, .i32⟩) main_call8_v0) (TRef.of (T := ⟨S_, .f32⟩) main_call8_cst) (TRef.of (T := ⟨S_, .i32⟩) main_call8_c) (TRef.of (T := ⟨S6400000, .f32⟩) main_call8_v1_0) (fun x y u v j => (Host.argReduce reducer_argmax_f32_i32 x y u v reducesTo_S6400000x2_S6400000_d1 h_S_ j).1),
    TRef.quaternary (TRef.of (T := ⟨S6400000x2, .f32⟩) main_v156) (TRef.of (T := ⟨S6400000x2, .i32⟩) main_call8_v0) (TRef.of (T := ⟨S_, .f32⟩) main_call8_cst) (TRef.of (T := ⟨S_, .i32⟩) main_call8_c) (TRef.of (T := ⟨S6400000, .i32⟩) main_v157) (fun x y u v j => (Host.argReduce reducer_argmax_f32_i32 x y u v reducesTo_S6400000x2_S6400000_d1 h_S_ j).2),
    TRef.unary (TRef.of (T := ⟨S6400000, .i32⟩) main_v157) (TRef.of (T := ⟨S6400000x1, .i32⟩) main_call9_v0) (broadcastInDim S6400000x1 ![0] bcast_S6400000_S6400000x1_0),
    TRef.nullary (TRef.of (T := ⟨S1x2, .i32⟩) main_call9_v1) (iotaInDim S1x2 32 1),
    TRef.unary (TRef.of (T := ⟨S6400000x1, .i32⟩) main_call9_v0) (TRef.of (T := ⟨S6400000x2, .i32⟩) main_call9_v2) (broadcastInDim S6400000x2 ![0, 1] bcast_S6400000x1_S6400000x2_0_1),
    TRef.unary (TRef.of (T := ⟨S1x2, .i32⟩) main_call9_v1) (TRef.of (T := ⟨S6400000x2, .i32⟩) main_call9_v3) (broadcastInDim S6400000x2 ![0, 1] bcast_S1x2_S6400000x2_0_1),
    TRef.binary (TRef.of (T := ⟨S6400000x2, .i32⟩) main_call9_v2) (TRef.of (T := ⟨S6400000x2, .i32⟩) main_call9_v3) (TRef.of (T := ⟨S6400000x2, .i1⟩) main_call9_v4) (cmpi .eq),
    TRef.unary (TRef.of (T := ⟨S6400000x2, .i1⟩) main_call9_v4) (TRef.of (T := ⟨S6400000x2, .f32⟩) main_v158) (uitofp .f32),
    nullary main_cst_28 (constant S_ .f32 0x0DA24260#32),
    nullary main_cst_29 (constant S_ .f32 0x3F800000#32),
    TRef.unary (TRef.of (T := ⟨S_, .f32⟩) main_cst_28) (TRef.of (T := ⟨S_, .f32⟩) main_call10_v0) id,
    TRef.unary (TRef.of (T := ⟨S_, .f32⟩) main_call10_v0) (TRef.of (T := ⟨S6400000x2, .f32⟩) main_call10_v1) (broadcastInDim S6400000x2 ![] bcast_S_S6400000x2),
    TRef.binary (TRef.of (T := ⟨S6400000x2, .f32⟩) main_call10_v1) (TRef.of (T := ⟨S6400000x2, .f32⟩) main_v158) (TRef.of (T := ⟨S6400000x2, .f32⟩) main_call10_v2) maximumf,
    TRef.unary (TRef.of (T := ⟨S_, .f32⟩) main_cst_29) (TRef.of (T := ⟨S_, .f32⟩) main_call10_v3) id,
    TRef.unary (TRef.of (T := ⟨S_, .f32⟩) main_call10_v3) (TRef.of (T := ⟨S6400000x2, .f32⟩) main_call10_v4) (broadcastInDim S6400000x2 ![] bcast_S_S6400000x2),
    TRef.binary (TRef.of (T := ⟨S6400000x2, .f32⟩) main_call10_v4) (TRef.of (T := ⟨S6400000x2, .f32⟩) main_call10_v2) (TRef.of (T := ⟨S6400000x2, .f32⟩) main_v159) minimumf,
    unary main_v159 main_v160 (Host.log : (⟨S6400000x2, .f32⟩ : BufTy).Contents (Elt F) → (⟨S6400000x2, .f32⟩ : BufTy).Contents (Elt F)),
    reshape main_v139 main_v161 (rfl : (.f32 : EltTy) = .f32) shapeCasts_S6400000x2_S50000x256,
    reshape main_v160 main_v162 (rfl : (.f32 : EltTy) = .f32) shapeCasts_S6400000x2_S50000x256 ]

/-- @main's 515 operations, in order (a called function's operations stand in its call's place, spelt `TRef.…`). -/
abbrev ops : List (HloOp τ sig (Elt F)) :=
  ops_part0 ++ (ops_part1 ++ (ops_part2 ++ (ops_part3)))

set_option maxRecDepth 8192 in
set_option maxHeartbeats 4000000 in
/-- Window 0 of @main is the line of its operations. -/
theorem main_part0_eq (c : Dev nD) : main_part0 (F := F) c = seq ops_part0 := rfl
set_option maxRecDepth 8192 in
/-- Window 1 of @main is the line of its operations. -/
theorem main_part1_eq (c : Dev nD) : main_part1 (F := F) c = seq ops_part1 := rfl
set_option maxRecDepth 8192 in
set_option maxHeartbeats 4000000 in
/-- Window 2 of @main is the line of its operations. -/
theorem main_part2_eq (c : Dev nD) : main_part2 (F := F) c = seq ops_part2 := rfl
set_option maxRecDepth 8192 in
/-- Window 3 of @main is the line of its operations. -/
theorem main_part3_eq (c : Dev nD) : main_part3 (F := F) c = seq ops_part3 := rfl
set_option maxRecDepth 8192 in
/-- @main is the line of its operations. -/
theorem main_eq (c : Dev nD) : main (F := F) c = seq ops := by
  simp only [ops, seq_append, ← main_part0_eq c, ← main_part1_eq c, ← main_part2_eq c, ← main_part3_eq c]
  rfl
/-- No TensorCore buffer is scoped. -/
theorem scopedRefs_eq : (Finset.univ.filter fun b : Ref sig .tc => b.isScoped) = ∅ := by decide
/-- No TensorCore semaphore is scoped. -/
theorem scopedSems_eq : (Finset.univ.filter fun sm : SemLoc sig => sm.isScoped .tc) = ∅ := by decide
set_option maxRecDepth 8192 in
/-- `ops_part0_0` touches TensorCore buffers only. -/
theorem ops_part0_0_sub : (ops_part0_0 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
set_option maxRecDepth 8192 in
/-- `ops_part0_1` touches TensorCore buffers only. -/
theorem ops_part0_1_sub : (ops_part0_1 : List (HloOp τ sig (Elt F))).Forall fun op => op.bufs ⊆ tcRefs τ sig :=
  ⟨nullary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub ..⟩
set_option maxRecDepth 8192 in
/-- `ops_part0_2` touches TensorCore buffers only. -/
theorem ops_part0_2_sub : (ops_part0_2 : List (HloOp τ sig (Elt F))).Forall fun op => op.bufs ⊆ tcRefs τ sig :=
  ⟨unary_bufs_sub .., unary_bufs_sub .., unary_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., ternary_bufs_sub .., unary_bufs_sub .., reshape_bufs_sub .., unary_bufs_sub .., reshape_bufs_sub .., unary_bufs_sub .., reshape_bufs_sub .., unary_bufs_sub .., reshape_bufs_sub .., nullary_bufs_sub ..⟩
set_option maxRecDepth 8192 in
/-- `ops_part0_3` touches TensorCore buffers only. -/
theorem ops_part0_3_sub : (ops_part0_3 : List (HloOp τ sig (Elt F))).Forall fun op => op.bufs ⊆ tcRefs τ sig :=
  unary_bufs_sub ..
set_option maxRecDepth 8192 in
/-- `ops_part1` touches TensorCore buffers only. -/
theorem ops_part1_sub : (ops_part1 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., binary_bufs_sub .., binary_bufs_sub .., binary_bufs_sub .., binary_bufs_sub .., binary_bufs_sub .., binary_bufs_sub .., unary_bufs_sub .., unary_bufs_sub .., unary_bufs_sub .., unary_bufs_sub .., binary_bufs_sub .., ternary_bufs_sub .., unary_bufs_sub .., binary_bufs_sub .., binary_bufs_sub .., binary_bufs_sub .., binary_bufs_sub .., binary_bufs_sub .., unary_bufs_sub .., unary_bufs_sub .., unary_bufs_sub .., unary_bufs_sub .., binary_bufs_sub ..⟩
set_option maxRecDepth 8192 in
/-- `ops_part2_0` touches TensorCore buffers only. -/
theorem ops_part2_0_sub : (ops_part2_0 : List (HloOp τ sig (Elt F))).Forall fun op => op.bufs ⊆ tcRefs τ sig :=
  ⟨ternary_bufs_sub .., binary_bufs_sub .., binary_bufs_sub .., binary_bufs_sub .., binary_bufs_sub .., binary_bufs_sub .., binary_bufs_sub .., unary_bufs_sub .., unary_bufs_sub .., unary_bufs_sub .., unary_bufs_sub .., binary_bufs_sub .., ternary_bufs_sub .., binary_bufs_sub .., binary_bufs_sub .., binary_bufs_sub .., binary_bufs_sub .., binary_bufs_sub .., unary_bufs_sub .., unary_bufs_sub .., unary_bufs_sub .., unary_bufs_sub .., binary_bufs_sub .., ternary_bufs_sub .., binary_bufs_sub .., unary_bufs_sub .., binary_bufs_sub .., binary_bufs_sub .., binary_bufs_sub .., binary_bufs_sub ..⟩
set_option maxRecDepth 8192 in
/-- `ops_part2_1` touches TensorCore buffers only. -/
theorem ops_part2_1_sub : (ops_part2_1 : List (HloOp τ sig (Elt F))).Forall fun op => op.bufs ⊆ tcRefs τ sig :=
  ⟨binary_bufs_sub .., unary_bufs_sub .., unary_bufs_sub .., unary_bufs_sub .., unary_bufs_sub .., binary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., binary_bufs_sub ..⟩
set_option maxRecDepth 8192 in
/-- `ops_part2_2` touches TensorCore buffers only. -/
theorem ops_part2_2_sub : (ops_part2_2 : List (HloOp τ sig (Elt F))).Forall fun op => op.bufs ⊆ tcRefs τ sig :=
  ⟨unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩
set_option maxRecDepth 8192 in
/-- `ops_part2_3` touches TensorCore buffers only. -/
theorem ops_part2_3_sub : (ops_part2_3 : List (HloOp τ sig (Elt F))).Forall fun op => op.bufs ⊆ tcRefs τ sig :=
  ⟨unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
set_option maxRecDepth 8192 in
/-- `ops_part2_4` touches TensorCore buffers only. -/
theorem ops_part2_4_sub : (ops_part2_4 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
/-- `ops_part2_5` touches TensorCore buffers only. -/
theorem ops_part2_5_sub : (ops_part2_5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub ..⟩
set_option maxRecDepth 8192 in
/-- `ops_part2_6` touches TensorCore buffers only. -/
theorem ops_part2_6_sub : (ops_part2_6 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
/-- `ops_part2_7` touches TensorCore buffers only. -/
theorem ops_part2_7_sub : (ops_part2_7 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
set_option maxRecDepth 8192 in
/-- `ops_part2_8` touches TensorCore buffers only. -/
theorem ops_part2_8_sub : (ops_part2_8 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩
set_option maxRecDepth 8192 in
/-- `ops_part2_9` touches TensorCore buffers only. -/
theorem ops_part2_9_sub : (ops_part2_9 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub ..⟩
set_option maxRecDepth 8192 in
/-- `ops_part2_10` touches TensorCore buffers only. -/
theorem ops_part2_10_sub : (ops_part2_10 : List (HloOp τ sig (Elt F))).Forall fun op => op.bufs ⊆ tcRefs τ sig :=
  ⟨binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub ..⟩
set_option maxRecDepth 8192 in
/-- `ops_part2_11` touches TensorCore buffers only. -/
theorem ops_part2_11_sub : (ops_part2_11 : List (HloOp τ sig (Elt F))).Forall fun op => op.bufs ⊆ tcRefs τ sig :=
  ⟨binary_bufs_sub .., nullary_bufs_sub .., unary_bufs_sub .., binary_bufs_sub .., unary_bufs_sub ..⟩
set_option maxRecDepth 8192 in
/-- `ops_part3` touches TensorCore buffers only. -/
theorem ops_part3_sub : (ops_part3 : List (HloOp τ sig (Elt F))).Forall fun op => op.bufs ⊆ tcRefs τ sig :=
  ⟨unary_bufs_sub .., nullary_bufs_sub .., unary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub .., reshape_bufs_sub ..⟩
/-- The operations touch TensorCore buffers only. -/
theorem ops_sub : (ops : List (HloOp τ sig (Elt F))).Forall fun op => op.bufs ⊆ tcRefs τ sig :=
  List.forall_iff_forall_mem.mpr fun op h => by
    simp only [ops, ops_part0, ops_part2, List.mem_append, or_assoc] at h
    rcases h with h | h | h | h | h | h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_sub op h, List.forall_iff_forall_mem.mp ops_part2_0_sub op h, List.forall_iff_forall_mem.mp ops_part2_1_sub op h, List.forall_iff_forall_mem.mp ops_part2_2_sub op h, List.forall_iff_forall_mem.mp ops_part2_3_sub op h, List.forall_iff_forall_mem.mp ops_part2_4_sub op h, List.forall_iff_forall_mem.mp ops_part2_5_sub op h, List.forall_iff_forall_mem.mp ops_part2_6_sub op h, List.forall_iff_forall_mem.mp ops_part2_7_sub op h, List.forall_iff_forall_mem.mp ops_part2_8_sub op h, List.forall_iff_forall_mem.mp ops_part2_9_sub op h, List.forall_iff_forall_mem.mp ops_part2_10_sub op h, List.forall_iff_forall_mem.mp ops_part2_11_sub op h, List.forall_iff_forall_mem.mp ops_part3_sub op h]
set_option maxRecDepth 16384 in
/-- No operation leaves its result undetermined. -/
theorem ops_fresh : ∀ op ∈ (ops : List (HloOp τ sig (Elt F))), op.fresh = ∅ :=
  List.forall_iff_forall_mem.mp (forall_fresh_of_map rfl)

/-- What device `c`'s buffers hold when the reference is done. -/
def fin (m : (ℓ : Loc nD τ sig) → Buf (Elt Ideal) ℓ) (c : Dev nD) : Valuation τ sig (Elt Ideal) :=
  after ops (launchContents m c)

/-- Every weakly fair execution of the reference ends with every buffer at `fin`. -/
theorem run (m : (ℓ : Loc nD τ sig) → Buf (Elt Ideal) ℓ) (ρ : Dev nD → PrngReg) :
    θ_run defs (onTc (τ := τ) (main (F := Ideal))) ⟨m, fun _ => 0, ρ⟩ fun r => ∀ (c : Dev nD) (b : Ref sig .tc),
      r.2.mem ((c.tc : Thread nD τ).loc b) = fin m c (Proc.devRef .tc b) :=
  (θ_run defs _ _).mono (fun _ h c b => h c b)
    (run_seq scopedRefs_eq scopedSems_eq defs main (fun _ => ops) main_eq (fun _ => ops_sub) m ρ fun _ => ops_fresh)

end Cert.Ref

end
-- ==== Proof.RefRise.lean ====
module

public import proofs.«01_k».proof.Proof.RefRun

/-! The reference's operations write their buffers in rising order. -/

@[expose] public section

namespace Cert.Ref

open Cert.ReferenceIdeal Cert.ReferenceIdeal.Gen Idealize.ShloMosaic Idealize.ShloMosaic.TcCoe Idealize.SL.Sem Idealize.ShloMosaic.StableHlo

set_option maxRecDepth 16384 in
set_option maxHeartbeats 4000000 in
open Straight in
/-- The operations write their buffers in rising order. -/
theorem ops_rising : rising 3 (ops (F := Ideal)) = true := by
  delta ops ops_part0 ops_part2
  refine rising_start ?_
  repeat (first
    | with_reducible refine rising_unary (by decide) (by decide) ?_
    | with_reducible refine rising_binary (by decide) (by decide) (by decide) ?_
    | with_reducible refine rising_nullary (by decide) ?_
    | with_reducible refine rising_reshape (by decide) (by decide) ?_
    | with_reducible refine rising_ternary (by decide) (by decide) (by decide) (by decide) ?_
    | with_reducible refine rising_quaternary (by decide) (by decide) (by decide) (by decide) (by decide) ?_
    | with_reducible refine rising_end ?_
    | with_reducible refine rising_assoc ?_)
  rfl

end Cert.Ref
-- ==== Proof.RefValue.lean ====
module

public import proofs.«01_k».proof.Proof.Draw
public import proofs.«01_k».proof.Proof.RefRise

/-! What the reference computes at one edge: the logarithm of the normalized posterior, and the floored one-hot row of the
class drawn. -/

@[expose] public section

noncomputable section

namespace Cert.RefValue

open Cert.ReferenceIdeal Cert.ReferenceIdeal.Gen Idealize.ShloMosaic Idealize.ShloMosaic.TcCoe Idealize.SL.Sem Idealize.ShloMosaic.StableHlo
  Idealize.ShloMosaic.ValueIdx Idealize.ShloMosaic.Routing Cert.Posterior Straight

/-- The weight a bit's one-hot row gives a class: one at the bit, the floor beside it. -/
def hot (x k : BitVec 32) : ℝ := if x = k then 1 else eps

/-- The weight of class zero at an edge with logits `a` and `b`, bit `x` and step `t`. -/
def r0 (a b : ℝ) (x : BitVec 32) (t : ℕ) : ℝ := w0 t (hot x 1#32) (hot x 0#32) (Real.exp a / (Real.exp a + Real.exp b))

/-- The weight of class one. -/
def r1 (a b : ℝ) (x : BitVec 32) (t : ℕ) : ℝ := w1 t (hot x 1#32) (hot x 0#32) (Real.exp b / (Real.exp a + Real.exp b))

/-- What a run of the reference leaves in its buffers. -/
def Left (V : (b : Ref sig .tc) → b.ty.Contents (Elt Ideal)) : Prop :=
  ∃ U : Valuation τ sig (Elt Ideal), ∀ b, V b = after Cert.Ref.ops U (Proc.devRef .tc b)

variable {V : (b : Ref sig .tc) → b.ty.Contents (Elt Ideal)} (h : Left V)
include h

section Reads

variable (k : ℕ)

/-- What is left of a constant. -/
theorem rd0 {y : Ref sig .tc} {v : y.ty.Contents (Elt Ideal)} {hy} (hk : Cert.Ref.ops[k]? = some (nullary y v hy)) : V y = v := by
  obtain ⟨U, e⟩ := h
  rw [e]
  exact read0 Ref.ops_rising U k hk

/-- What is left of an operation of one operand. -/
theorem rd1 {x y : Ref sig .tc} {f : x.ty.Contents (Elt Ideal) → y.ty.Contents (Elt Ideal)} {hx hy}
    (hk : Cert.Ref.ops[k]? = some (unary x y f hx hy)) (hxy : x ≠ y) : V y = f (V x) := by
  obtain ⟨U, e⟩ := h
  rw [e, e]
  exact read1 Ref.ops_rising U k hk hxy

/-- What is left of an operation of two operands. -/
theorem rd2 {a b y : Ref sig .tc} {f : a.ty.Contents (Elt Ideal) → b.ty.Contents (Elt Ideal) → y.ty.Contents (Elt Ideal)} {ha hb hy}
    (hk : Cert.Ref.ops[k]? = some (binary a b y f ha hb hy)) (hay : a ≠ y) (hby : b ≠ y) : V y = f (V a) (V b) := by
  obtain ⟨U, e⟩ := h
  rw [e, e, e]
  exact read2 Ref.ops_rising U k hk hay hby

/-- What is left of an operation of three operands. -/
theorem rd3 {c a b y : Ref sig .tc}
    {f : c.ty.Contents (Elt Ideal) → a.ty.Contents (Elt Ideal) → b.ty.Contents (Elt Ideal) → y.ty.Contents (Elt Ideal)} {hc ha hb hy}
    (hk : Cert.Ref.ops[k]? = some (ternary c a b y f hc ha hb hy)) (hcy : c ≠ y) (hay : a ≠ y) (hby : b ≠ y) :
    V y = f (V c) (V a) (V b) := by
  obtain ⟨U, e⟩ := h
  rw [e, e, e, e]
  exact read3 Ref.ops_rising U k hk hcy hay hby

/-- What is left of one result of an operation of four operands. -/
theorem rd4 {a b c d y : Ref sig .tc} {f : a.ty.Contents (Elt Ideal) → b.ty.Contents (Elt Ideal) → c.ty.Contents (Elt Ideal) →
    d.ty.Contents (Elt Ideal) → y.ty.Contents (Elt Ideal)} {ha hb hc hd hy}
    (hk : Cert.Ref.ops[k]? = some (quaternary a b c d y f ha hb hc hd hy)) (hay : a ≠ y) (hby : b ≠ y) (hcy : c ≠ y) (hdy : d ≠ y) :
    V y = f (V a) (V b) (V c) (V d) := by
  obtain ⟨U, e⟩ := h
  rw [e, e, e, e, e]
  exact read4 Ref.ops_rising U k hk hay hby hcy hdy

/-- What is left of a reshape. -/
theorem rdR {x y : Ref sig .tc} {he hn hx hy} (hk : (Cert.Ref.ops (F := Ideal))[k]? = some (reshape x y he hn hx hy)) (hxy : x ≠ y) :
    V y = fun i => he ▸ shapeCast y.ty.shape (V x) hn i := by
  obtain ⟨U, e⟩ := h
  rw [e, e]
  exact readR Ref.ops_rising U k hk hxy

end Reads

/-- The bit's one-hot row in logarithms. -/
theorem bits (i : Fin 6400000) (k : Fin 2) : IsLog (V main_v2 (ix2 i k)) (hot (V main_arg1 (ix1 i)) (BitVec.ofNat 32 k.val)) :=
  Groups.log_one_hot (n := 6400000) (t := V main_arg1) (hb₁ := bcast_S6400000_S6400000x1_0) (hb₂ := bcast_S6400000x1_S6400000x2_0_1)
    (hb₃ := bcast_S1x2_S6400000x2_0_1) (hb₄ := bcast_S_S6400000x2) (hb₅ := bcast_S_S6400000x2)
    (rd1 h 0 rfl (by decide) :) (rd0 h 1 rfl :)
    (rd1 h 2 rfl (by decide) :) (rd1 h 3 rfl (by decide) :)
    (rd2 h 4 rfl (by decide) (by decide) :) (rd1 h 5 rfl (by decide) :)
    (rd0 h 6 rfl :) (rd0 h 7 rfl :)
    (rd1 h 8 rfl (by decide) :) (rd1 h 9 rfl (by decide) :)
    (rd2 h 10 rfl (by decide) (by decide) :) (rd1 h 11 rfl (by decide) :)
    (rd1 h 12 rfl (by decide) :) (rd2 h 13 rfl (by decide) (by decide) :)
    (rd1 h 14 rfl (by decide) :) i k

/-- Each row of logits, its greater entry. -/
theorem greatest : V main_call2_v0 = Host.reduce (α := EReal) (s := shape2 6400000 2) (u := shape0) (t := shape1 6400000)
    (FloatOps.maximumf (F := Ideal) (φ := .f32)) (V main_arg0) (V main_call2_cst) reducesTo_S6400000x2_S6400000_d1 h_S_ := by
  have e := (rd2 h 16 rfl (by decide) (by decide) :)
  simp -implicitDefEqProofs only [TRef.toBuf, TRef.ofBuf, cast_eq] at e
  exact e

/-- Each row of weights, its greater entry. -/
theorem greatest_weight : V main_call6_v0 = Host.reduce (α := EReal) (s := shape2 6400000 2) (u := shape0) (t := shape1 6400000)
    (FloatOps.maximumf (F := Ideal) (φ := .f32)) (V main_v138) (V main_call6_cst) reducesTo_S6400000x2_S6400000_d1 h_S_ := by
  have e := (rd2 h 194 rfl (by decide) (by decide) :)
  simp -implicitDefEqProofs only [TRef.toBuf, TRef.ofBuf, cast_eq] at e
  exact e

/-- The predicted classes' chances in logarithms. -/
theorem chances {i : Fin 6400000} {p q : ℝ} (hp : IsLog (V main_arg0 (ix2 i 0)) p) (hq : IsLog (V main_arg0 (ix2 i 1)) q) :
    IsLog (V main_v3 (ix2 i 0)) (p / (p + q)) ∧ IsLog (V main_v3 (ix2 i 1)) (q / (p + q)) :=
  Groups.log_softmax (n := 6400000) (hr := reducesTo_S6400000x2_S6400000_d1) (hr' := reducesTo_S6400000x2_S6400000_d1)
    (hu := h_S_) (hu' := h_S_) (hb₁ := bcast_S_S6400000) (hb₂ := bcast_S6400000_S6400000x1_0) (hb₃ := bcast_S6400000_S6400000x1_0)
    (hb₄ := bcast_S6400000x1_S6400000x2_0_1) (hb₅ := bcast_S6400000x1_S6400000x2_0_1)
    (rd0 h 15 rfl :) (greatest h)
    (rd0 h 17 rfl :) (rd1 h 18 rfl (by decide) :)
    (rd2 h 19 rfl (by decide) (by decide) :) (rd1 h 20 rfl (by decide) :)
    (rd1 h 21 rfl (by decide) :) (rd2 h 22 rfl (by decide) (by decide) :)
    (rd1 h 23 rfl (by decide) :) (rd0 h 24 rfl :)
    (rd2 h 25 rfl (by decide) (by decide) :) (rd1 h 26 rfl (by decide) :)
    (rd1 h 27 rfl (by decide) :) (rd1 h 28 rfl (by decide) :)
    (rd2 h 29 rfl (by decide) (by decide) :) hp hq

/-- The schedule's tables. -/
theorem tables : (∀ i : Fin 1000, IsLog (V main_v17 (ix1 i)) (alpha i.val)) ∧ (∀ i : Fin 1000, IsLog (V main_v24 (ix1 i)) (beta i.val)) ∧
    (∀ i : Fin 1000, i.val < 999 → IsLog (V main_v22 (ix1 i)) (cum i.val)) ∧
    ∀ i : Fin 1000, i.val < 999 → IsLog (V main_v27 (ix1 i)) (cumn i.val) :=
  Groups.schedule (hb := bcast_S_S1000) (hb' := bcast_S_S_) (hw := reduceWindows_S1000_S1000_w1000s1p999_0) (hu := h_S_)
    (rd0 h 30 rfl :) (rd0 h 31 rfl :)
    (rd1 h 32 rfl (by decide) :) (rd2 h 33 rfl (by decide) (by decide) :)
    (rd1 h 34 rfl (by decide) :) (rd0 h 35 rfl :)
    (rd1 h 36 rfl (by decide) :) (rd2 h 37 rfl (by decide) (by decide) :)
    (rd0 h 38 rfl :) (rd1 h 39 rfl (by decide) :)
    (rd2 h 40 rfl (by decide) (by decide) :) (rd0 h 41 rfl :)
    (rd1 h 42 rfl (by decide) :) (rd2 h 43 rfl (by decide) (by decide) :)
    (rd0 h 44 rfl :) (rd1 h 45 rfl (by decide) :)
    (rd2 h 46 rfl (by decide) (by decide) :) (rd0 h 47 rfl :)
    (rd0 h 48 rfl :) (rd1 h 49 rfl (by decide) :)
    (rd1 h 50 rfl (by decide) :) (rd2 h 51 rfl (by decide) (by decide) :)
    (rd1 h 52 rfl (by decide) :) (rd1 h 53 rfl (by decide) :)
    (rd2 h 54 rfl (by decide) (by decide) :) (rd1 h 55 rfl (by decide) :)
    (rd0 h 56 rfl :) (rd1 h 57 rfl (by decide) :)
    (rd2 h 58 rfl (by decide) (by decide) :) (rd0 h 59 rfl :)
    (rd1 h 60 rfl (by decide) :) (rd1 h 61 rfl (by decide) :)
    (rd1 h 62 rfl (by decide) :) (rd2 h 63 rfl (by decide) (by decide) :)
    (rd1 h 64 rfl (by decide) :) (rd1 h 65 rfl (by decide) :)
    (rd1 h 66 rfl (by decide) :) (rd1 h 67 rfl (by decide) :)
    (rd1 h 68 rfl (by decide) :)

section Edge

variable {i : Fin 6400000} {t : ℕ} (ht : t < 1000) (h2 : V main_arg2 (ix1 i) = BitVec.ofNat 32 t)
include ht h2

/-- The step before the edge's. -/
theorem before : V main_v35 (ix1 i) = BitVec.ofNat 32 (prev t) :=
  Groups.step_before (n := 6400000) (t := V main_arg2)
    (rd0 h 69 rfl :) (rd1 h 70 rfl (by decide) :)
    (rd2 h 71 rfl (by decide) (by decide) :) (rd0 h 72 rfl :)
    (rd1 h 73 rfl (by decide) :) (rd2 h 74 rfl (by decide) (by decide) :)
    (rd0 h 75 rfl :) (rd1 h 76 rfl (by decide) :)
    (rd0 h 77 rfl :) (rd1 h 78 rfl (by decide) :)
    (rd2 h 79 rfl (by decide) (by decide) :) (rd3 h 80 rfl (by decide) (by decide) (by decide) :) ht h2

/-- The chance the step keeps a bit. -/
theorem keep : IsLog (V main_v50 (ix1 i)) (alpha t) := by
  have e := Groups.take (n := 6400000) (t := V main_arg2) (D := gather_S1000_S6400000x1_S6400000_n_0_n_n_0_1_1) rfl rfl rfl rfl
    (rd0 h 89 rfl :) (rd1 h 90 rfl (by decide) :)
    (rd2 h 91 rfl (by decide) (by decide) :) (rd0 h 92 rfl :)
    (rd1 h 93 rfl (by decide) :) (rd2 h 94 rfl (by decide) (by decide) :)
    (rd3 h 95 rfl (by decide) (by decide) (by decide) :) (rd1 h 96 rfl (by decide) :)
    (rd2 h 97 rfl (by decide) (by decide) :) ht h2
  exact e.symm ▸ (tables h).1 ⟨_, ht⟩

/-- The chance the step replaces a bit. -/
theorem replace : IsLog (V main_v57 (ix1 i)) (beta t) := by
  have e := Groups.take (n := 6400000) (t := V main_arg2) (D := gather_S1000_S6400000x1_S6400000_n_0_n_n_0_1_1) rfl rfl rfl rfl
    (rd0 h 98 rfl :) (rd1 h 99 rfl (by decide) :)
    (rd2 h 100 rfl (by decide) (by decide) :) (rd0 h 101 rfl :)
    (rd1 h 102 rfl (by decide) :) (rd2 h 103 rfl (by decide) (by decide) :)
    (rd3 h 104 rfl (by decide) (by decide) (by decide) :) (rd1 h 105 rfl (by decide) :)
    (rd2 h 106 rfl (by decide) (by decide) :) ht h2
  exact e.symm ▸ (tables h).2.1 ⟨_, ht⟩

/-- The chance that no step up to the one before replaced a bit. -/
theorem kept : IsLog (V main_v64 (ix1 i)) (cum (prev t)) := by
  have e := Groups.take (n := 6400000) (t := V main_v35) (D := gather_S1000_S6400000x1_S6400000_n_0_n_n_0_1_1) rfl rfl rfl rfl
    (rd0 h 107 rfl :) (rd1 h 108 rfl (by decide) :)
    (rd2 h 109 rfl (by decide) (by decide) :) (rd0 h 110 rfl :)
    (rd1 h 111 rfl (by decide) :) (rd2 h 112 rfl (by decide) (by decide) :)
    (rd3 h 113 rfl (by decide) (by decide) (by decide) :) (rd1 h 114 rfl (by decide) :)
    (rd2 h 115 rfl (by decide) (by decide) :) ((prev_lt ht).trans (by norm_num)) (before h ht h2)
  exact e.symm ▸ (tables h).2.2.1 ⟨_, _⟩ (prev_lt ht)

/-- The chance that some step up to the one before replaced a bit. -/
theorem replaced : IsLog (V main_v71 (ix1 i)) (cumn (prev t)) := by
  have e := Groups.take (n := 6400000) (t := V main_v35) (D := gather_S1000_S6400000x1_S6400000_n_0_n_n_0_1_1) rfl rfl rfl rfl
    (rd0 h 116 rfl :) (rd1 h 117 rfl (by decide) :)
    (rd2 h 118 rfl (by decide) (by decide) :) (rd0 h 119 rfl :)
    (rd1 h 120 rfl (by decide) :) (rd2 h 121 rfl (by decide) (by decide) :)
    (rd3 h 122 rfl (by decide) (by decide) (by decide) :) (rd1 h 123 rfl (by decide) :)
    (rd2 h 124 rfl (by decide) (by decide) :) ((prev_lt ht).trans (by norm_num)) (before h ht h2)
  exact e.symm ▸ (tables h).2.2.2 ⟨_, _⟩ (prev_lt ht)

end Edge

/-- Class one's logarithmic chance. -/
theorem chance1 (i : Fin 6400000) : V main_v37 (ix1 i) = V main_v3 (ix2 i 1) :=
  Groups.column (n := 6400000) (k := 1) (rd1 h 81 rfl (by decide) :) (rdR h 82 rfl (by decide) :) i

/-- Class zero's logarithmic chance. -/
theorem chance0 (i : Fin 6400000) : V main_v39 (ix1 i) = V main_v3 (ix2 i 0) :=
  Groups.column (n := 6400000) (k := 0) (rd1 h 83 rfl (by decide) :) (rdR h 84 rfl (by decide) :) i

/-- The one-hot row at class one. -/
theorem bit1 (i : Fin 6400000) : V main_v41 (ix1 i) = V main_v2 (ix2 i 1) :=
  Groups.column (n := 6400000) (k := 1) (rd1 h 85 rfl (by decide) :) (rdR h 86 rfl (by decide) :) i

/-- The one-hot row at class zero. -/
theorem bit0 (i : Fin 6400000) : V main_v43 (ix1 i) = V main_v2 (ix2 i 0) :=
  Groups.column (n := 6400000) (k := 0) (rd1 h 87 rfl (by decide) :) (rdR h 88 rfl (by decide) :) i

section Edge

variable {i : Fin 6400000} {a b : ℝ} {t : ℕ} (ht : t < 1000) (ha : V main_arg0 (ix2 i 0) = (a : EReal)) (hb : V main_arg0 (ix2 i 1) = (b : EReal))
  (h2 : V main_arg2 (ix1 i) = BitVec.ofNat 32 t)
include ht ha hb h2

/-- The unnormalized posterior. -/
theorem weights : IsLog (V main_v134 (ix1 i)) (r0 a b (V main_arg1 (ix1 i)) t) ∧ IsLog (V main_v135 (ix1 i)) (r1 a b (V main_arg1 (ix1 i)) t) := by
  obtain ⟨s0, s1⟩ := chances h (i := i) (ha.symm ▸ IsLog.of_real a) (hb.symm ▸ IsLog.of_real b)
  rw [← chance0 h] at s0
  rw [← chance1 h] at s1
  have x1 : IsLog (V main_v41 (ix1 i)) _ := (bit1 h i).symm ▸ bits h i 1
  have x0 : IsLog (V main_v43 (ix1 i)) _ := (bit0 h i).symm ▸ bits h i 0
  have hk := keep h ht h2
  have hr := replace h ht h2
  have ck := kept h ht h2
  have cr := replaced h ht h2
  have n73 := Groups.noise (s := shape1 6400000) (rd0 h 125 rfl :) (rd1 h 126 rfl (by decide) :) (rd1 h 127 rfl (by decide) :) (ix1 i)
  have n86 := Groups.noise (s := shape1 6400000) (rd0 h 125 rfl :) (rd1 h 126 rfl (by decide) :) (rd1 h 140 rfl (by decide) :) (ix1 i)
  have n122 := Groups.noise (s := shape1 6400000) (rd0 h 125 rfl :) (rd1 h 126 rfl (by decide) :) (rd1 h 176 rfl (by decide) :) (ix1 i)
  have h74 := Groups.product (s := shape1 6400000) (rd2 h 128 rfl (by decide) (by decide) :) hr n73
  have h75 := Groups.product (s := shape1 6400000) (rd2 h 129 rfl (by decide) (by decide) :) h74 x1
  have h85 := Groups.logaddexp (s := shape1 6400000)
    (rd2 h 130 rfl (by decide) (by decide) :) (rd2 h 131 rfl (by decide) (by decide) :)
    (rd2 h 132 rfl (by decide) (by decide) :) (rd2 h 133 rfl (by decide) (by decide) :)
    (rd1 h 134 rfl (by decide) :) (rd1 h 135 rfl (by decide) :)
    (rd1 h 136 rfl (by decide) :) (rd1 h 137 rfl (by decide) :)
    (rd2 h 138 rfl (by decide) (by decide) :) (rd3 h 139 rfl (by decide) (by decide) (by decide) :) h75 x0
  have h87 := Groups.product (s := shape1 6400000) (rd2 h 141 rfl (by decide) (by decide) :) hr n86
  have h97 := Groups.logaddexp (s := shape1 6400000)
    (rd2 h 142 rfl (by decide) (by decide) :) (rd2 h 143 rfl (by decide) (by decide) :)
    (rd2 h 144 rfl (by decide) (by decide) :) (rd2 h 145 rfl (by decide) (by decide) :)
    (rd1 h 146 rfl (by decide) :) (rd1 h 147 rfl (by decide) :)
    (rd1 h 148 rfl (by decide) :) (rd1 h 149 rfl (by decide) :)
    (rd2 h 150 rfl (by decide) (by decide) :) (rd3 h 151 rfl (by decide) (by decide) (by decide) :) hk h87
  have h98 := Groups.product (s := shape1 6400000) (rd2 h 152 rfl (by decide) (by decide) :) h97 x1
  have h99 := Groups.product (s := shape1 6400000) (rd2 h 153 rfl (by decide) (by decide) :) hr x0
  have h109 := Groups.logaddexp (s := shape1 6400000)
    (rd2 h 154 rfl (by decide) (by decide) :) (rd2 h 155 rfl (by decide) (by decide) :)
    (rd2 h 156 rfl (by decide) (by decide) :) (rd2 h 157 rfl (by decide) (by decide) :)
    (rd1 h 158 rfl (by decide) :) (rd1 h 159 rfl (by decide) :)
    (rd1 h 160 rfl (by decide) :) (rd1 h 161 rfl (by decide) :)
    (rd2 h 162 rfl (by decide) (by decide) :) (rd3 h 163 rfl (by decide) (by decide) (by decide) :) h98 h99
  have h110 := Groups.product (s := shape1 6400000) (rd2 h 164 rfl (by decide) (by decide) :) ck s0
  have h120 := Groups.logaddexp (s := shape1 6400000)
    (rd2 h 165 rfl (by decide) (by decide) :) (rd2 h 166 rfl (by decide) (by decide) :)
    (rd2 h 167 rfl (by decide) (by decide) :) (rd2 h 168 rfl (by decide) (by decide) :)
    (rd1 h 169 rfl (by decide) :) (rd1 h 170 rfl (by decide) :)
    (rd1 h 171 rfl (by decide) :) (rd1 h 172 rfl (by decide) :)
    (rd2 h 173 rfl (by decide) (by decide) :) (rd3 h 174 rfl (by decide) (by decide) (by decide) :) cr h110
  have h121 := Groups.product (s := shape1 6400000) (rd2 h 175 rfl (by decide) (by decide) :) ck s1
  have h123 := Groups.product (s := shape1 6400000) (rd2 h 177 rfl (by decide) (by decide) :) cr n122
  have h133 := Groups.logaddexp (s := shape1 6400000)
    (rd2 h 178 rfl (by decide) (by decide) :) (rd2 h 179 rfl (by decide) (by decide) :)
    (rd2 h 180 rfl (by decide) (by decide) :) (rd2 h 181 rfl (by decide) (by decide) :)
    (rd1 h 182 rfl (by decide) :) (rd1 h 183 rfl (by decide) :)
    (rd1 h 184 rfl (by decide) :) (rd1 h 185 rfl (by decide) :)
    (rd2 h 186 rfl (by decide) (by decide) :) (rd3 h 187 rfl (by decide) (by decide) (by decide) :) h121 h123
  exact ⟨Groups.product (s := shape1 6400000) (rd2 h 188 rfl (by decide) (by decide) :) h85 h120, Groups.product (s := shape1 6400000) (rd2 h 189 rfl (by decide) (by decide) :) h109 h133⟩

/-- The posterior. -/
theorem posterior : IsLog (V main_v139 (ix2 i 0)) (r0 a b (V main_arg1 (ix1 i)) t / (r0 a b (V main_arg1 (ix1 i)) t + r1 a b (V main_arg1 (ix1 i)) t)) ∧
    IsLog (V main_v139 (ix2 i 1)) (r1 a b (V main_arg1 (ix1 i)) t / (r0 a b (V main_arg1 (ix1 i)) t + r1 a b (V main_arg1 (ix1 i)) t)) := by
  obtain ⟨h0, h1⟩ := weights h ht ha hb h2
  have hs := Groups.stack (n := 6400000) (rd1 h 190 rfl (by decide) :) (rd1 h 191 rfl (by decide) :) (rd2 h 192 rfl (by decide) (by decide) :) i
  exact Groups.log_softmax (n := 6400000) (hr := reducesTo_S6400000x2_S6400000_d1) (hr' := reducesTo_S6400000x2_S6400000_d1)
    (hu := h_S_) (hu' := h_S_) (hb₁ := bcast_S_S6400000) (hb₂ := bcast_S6400000_S6400000x1_0) (hb₃ := bcast_S6400000_S6400000x1_0)
    (hb₄ := bcast_S6400000x1_S6400000x2_0_1) (hb₅ := bcast_S6400000x1_S6400000x2_0_1)
    (rd0 h 193 rfl :) (greatest_weight h)
    (rd0 h 195 rfl :) (rd1 h 196 rfl (by decide) :)
    (rd2 h 197 rfl (by decide) (by decide) :) (rd1 h 198 rfl (by decide) :)
    (rd1 h 199 rfl (by decide) :) (rd2 h 200 rfl (by decide) (by decide) :)
    (rd1 h 201 rfl (by decide) :) (rd0 h 202 rfl :)
    (rd2 h 203 rfl (by decide) (by decide) :) (rd1 h 204 rfl (by decide) :)
    (rd1 h 205 rfl (by decide) :) (rd1 h 206 rfl (by decide) :)
    (rd2 h 207 rfl (by decide) (by decide) :) (hs.1.symm ▸ h0) (hs.2.symm ▸ h1)

end Edge

/-- The uniform draw lies in `[0, 1)`. -/
theorem uniform (j : (shape2 6400000 2).Idx) : ∃ u : ℝ, V main_v147 j = (u : EReal) ∧ 0 ≤ u ∧ u < 1 :=
  Draw.uniform (n := 6400000) (hb := bcast_S_S6400000x2) (hb₁ := bcast_S_S1x1) (hb₂ := bcast_S1x1_S6400000x2_0_1)
    (rd0 h 218 rfl :) (rd0 h 219 rfl :)
    (rd1 h 220 rfl (by decide) :) (rd1 h 221 rfl (by decide) :)
    (rd1 h 222 rfl (by decide) :) (rd1 h 223 rfl (by decide) :)
    (rd0 h 465 rfl :) (rd1 h 466 rfl (by decide) :)
    (rd2 h 467 rfl (by decide) (by decide) :) (rd0 h 468 rfl :)
    (rd1 h 469 rfl (by decide) :) (rd2 h 470 rfl (by decide) (by decide) :)
    (rd1 h 471 rfl (by decide) :) (rd0 h 472 rfl :)
    (rd1 h 473 rfl (by decide) :) (rd2 h 474 rfl (by decide) (by decide) :)
    (rd2 h 475 rfl (by decide) (by decide) :) (rd1 h 476 rfl (by decide) :)
    (rd2 h 477 rfl (by decide) (by decide) :) (rd1 h 478 rfl (by decide) :)
    (rd2 h 479 rfl (by decide) (by decide) :) (rd1 h 480 rfl (by decide) :)
    (rd2 h 481 rfl (by decide) (by decide) :) j

/-- The exponential variable is a positive real. -/
theorem exponential (j : (shape2 6400000 2).Idx) : ∃ v : ℝ, 0 < v ∧ V main_v153 j = (v : EReal) :=
  Draw.variable_pos (s := shape2 6400000 2) (u := V main_v147)
    (rd0 h 482 rfl :) (rd1 h 483 rfl (by decide) :)
    (rd2 h 484 rfl (by decide) (by decide) :) (rd1 h 485 rfl (by decide) :)
    (rd1 h 486 rfl (by decide) :) (rd0 h 487 rfl :)
    (rd1 h 488 rfl (by decide) :) (rd2 h 489 rfl (by decide) (by decide) :) j (uniform h j)

section Edge

variable {i : Fin 6400000} {a b v0 v1 : ℝ} {t : ℕ} (ht : t < 1000) (ha : V main_arg0 (ix2 i 0) = (a : EReal)) (hb : V main_arg0 (ix2 i 1) = (b : EReal))
  (h2 : V main_arg2 (ix1 i) = BitVec.ofNat 32 t) (h0 : 0 < v0) (h1 : 0 < v1) (e0 : V main_v153 (ix2 i 0) = (v0 : EReal))
  (e1 : V main_v153 (ix2 i 1) = (v1 : EReal))
include ht ha hb h2 h0 h1 e0 e1

/-- The class drawn. -/
theorem drawn : V main_v157 (ix1 i)
    = if 0 < r1 a b (V main_arg1 (ix1 i)) t * v0 - r0 a b (V main_arg1 (ix1 i)) t * v1 then 1#32 else 0#32 := by
  obtain ⟨p0, p1⟩ := posterior h ht ha hb h2
  obtain ⟨q0, q1⟩ := weights h ht ha hb h2
  have z0 := Draw.perturbed (s := shape2 6400000 2) (rd1 h 490 rfl (by decide) :) (rd1 h 491 rfl (by decide) :) (rd2 h 492 rfl (by decide) (by decide) :) h0 e0 p0
  have z1 := Draw.perturbed (s := shape2 6400000 2) (rd1 h 490 rfl (by decide) :) (rd1 h 491 rfl (by decide) :) (rd2 h 492 rfl (by decide) (by decide) :) h1 e1 p1
  rw [← if_congr (draw_iff q0.pos q1.pos h0 h1) rfl rfl]
  exact Draw.argmax_row (n := 6400000)
    (rd0 h 493 rfl :) (rd0 h 494 rfl :)
    (rd0 h 495 rfl :) (rd4 h 497 rfl (by decide) (by decide) (by decide) (by decide) :) z0 z1

/-- The floored one-hot row of the class drawn. -/
theorem sample (k : Fin 2) : IsLog (V main_v160 (ix2 i k))
    (hot (if 0 < r1 a b (V main_arg1 (ix1 i)) t * v0 - r0 a b (V main_arg1 (ix1 i)) t * v1 then 1#32 else 0#32) (BitVec.ofNat 32 k.val)) := by
  rw [← drawn h ht ha hb h2 h0 h1 e0 e1]
  exact Groups.log_one_hot (n := 6400000) (t := V main_v157) (hb₁ := bcast_S6400000_S6400000x1_0) (hb₂ := bcast_S6400000x1_S6400000x2_0_1)
    (hb₃ := bcast_S1x2_S6400000x2_0_1) (hb₄ := bcast_S_S6400000x2) (hb₅ := bcast_S_S6400000x2)
    (rd1 h 498 rfl (by decide) :) (rd0 h 499 rfl :)
    (rd1 h 500 rfl (by decide) :) (rd1 h 501 rfl (by decide) :)
    (rd2 h 502 rfl (by decide) (by decide) :) (rd1 h 503 rfl (by decide) :)
    (rd0 h 504 rfl :) (rd0 h 505 rfl :)
    (rd1 h 506 rfl (by decide) :) (rd1 h 507 rfl (by decide) :)
    (rd2 h 508 rfl (by decide) (by decide) :) (rd1 h 509 rfl (by decide) :)
    (rd1 h 510 rfl (by decide) :) (rd2 h 511 rfl (by decide) (by decide) :)
    (rd1 h 512 rfl (by decide) :) i k

end Edge

end Cert.RefValue

end
-- ==== Proof.KernelBlock.lean ====
module

public import proofs.«01_k».proof.Proof.RefValue
public import proofs.«01_k».proof.Proof.Gen.KernelIdeal.Frame
public import Idealize.ShloMosaic.Lib.MatmulPlain

/-! What the kernel's body computes in a block: an edge's two classes lie in neighbouring lanes, and the values stored there
are the logarithm of the normalized posterior and the floored one-hot row of the class drawn. -/

@[expose] public section

noncomputable section

namespace Cert.KernelBlock

open Cert.KernelIdeal Cert.KernelIdeal.Gen Idealize.ShloMosaic Idealize.ShloMosaic.TcCoe Idealize.SL.Sem
  Idealize.ShloMosaic.ValueIdx Cert.Posterior Cert.RefValue

/-- The lane of class `c` of the row's `q`-th edge. -/
def lane (q : Fin 128) (c : Fin 2) : Fin 256 := ⟨2 * q + c, by omega⟩

/-! ## Lanes -/

/-- A lane's last bit, as the body tests it. -/
theorem parity : ∀ b : Fin 256, IntOp.cmpi .eq (IntOp.andi (BitVec.ofNat 32 (0 * 256 + b.val)) 1#32) 0#32
    = if b.val % 2 = 0 then 1#1 else 0#1 := by decide +kernel

/-- Half a lane's number, as the body computes it. -/
theorem half : ∀ b : Fin 256, IntOp.shrsi .vector (BitVec.ofNat 32 (0 * 256 + b.val)) 1#32 = BitVec.ofNat 32 (b.val / 2) := by decide +kernel

/-- The mask is set on the lanes of class zero. -/
theorem mask0 (p : Fin 400) (q : Fin 128) : k0_pay8 (ix2 p (lane q 0)) = 1#1 := by
  show IntOp.cmpi .eq (IntOp.andi (BitVec.ofNat 32 (0 * 256 + (lane q 0).val)) 1#32) 0#32 = _
  rw [parity, if_pos (by show (2 * q.val + 0) % 2 = 0; omega)]

/-- The mask is clear on the lanes of class one. -/
theorem mask1 (p : Fin 400) (q : Fin 128) : k0_pay8 (ix2 p (lane q 1)) = 0#1 := by
  show IntOp.cmpi .eq (IntOp.andi (BitVec.ofNat 32 (0 * 256 + (lane q 1).val)) 1#32) 0#32 = _
  rw [parity, if_neg (by show ¬ (2 * q.val + 1) % 2 = 0; omega)]

/-- Rotating by 255 brings class one's entry to class zero's lane. -/
theorem rotate0 (x : FVec Ideal S400x256 .f32) (p : Fin 400) (q : Fin 128) :
    dynamicRotate 1 255#32 none x rotates_S400x256_d1 (ix2 p (lane q 0)) = x (ix2 p (lane q 1)) := by
  refine congrArg x (funext fun b => ?_)
  match b with
  | ⟨0, _⟩ => rfl
  | ⟨1, _⟩ =>
    refine Fin.ext ?_
    show ((2 * q.val + 0) + 256 - 255 % 256) % 256 = 2 * q.val + 1
    have := q.isLt
    omega

/-- Rotating by one brings class zero's entry to class one's lane. -/
theorem rotate1 (x : FVec Ideal S400x256 .f32) (p : Fin 400) (q : Fin 128) :
    dynamicRotate 1 1#32 none x rotates_S400x256_d1 (ix2 p (lane q 1)) = x (ix2 p (lane q 0)) := by
  refine congrArg x (funext fun b => ?_)
  match b with
  | ⟨0, _⟩ => rfl
  | ⟨1, _⟩ =>
    refine Fin.ext ?_
    show ((2 * q.val + 1) + 256 - 1 % 256) % 256 = 2 * q.val + 0
    have := q.isLt
    omega

/-- The matrix that spreads a row of edges over the lanes: entry `(k, b)` is one where `b` is a lane of edge `k`. -/
theorem spread (k : Fin 128) (b : Fin 256) : (k0_pay5 (F := Ideal)) (ix2 k b) = if k.val = b.val / 2 then 1 else 0 := by
  show ((((BitVec.setWidth 32 (IntOp.cmpi .eq (BitVec.ofNat 32 (0 * 128 + k.val)) (IntOp.shrsi .vector (BitVec.ofNat 32 (0 * 256 + b.val)) 1#32))).toInt : ℝ)) : EReal) = _
  rw [half]
  have e : IntOp.cmpi .eq (BitVec.ofNat 32 (0 * 128 + k.val)) (BitVec.ofNat 32 (b.val / 2)) = BitVec.ofBool (decide (k.val = b.val / 2)) := by
    show BitVec.ofBool (BitVec.ofNat 32 (0 * 128 + k.val) == BitVec.ofNat 32 (b.val / 2)) = _
    congr 1
    have := k.isLt
    have := b.isLt
    rw [beq_eq_decide, decide_eq_decide, ← BitVec.toNat_inj, BitVec.toNat_ofNat, BitVec.toNat_ofNat]
    omega
  rw [e]
  by_cases h : k.val = b.val / 2
  · rw [if_pos h, decide_eq_true h]
    show (((1 : ℤ) : ℝ) : EReal) = 1
    simp
  · rw [if_neg h, decide_eq_false h]
    show (((0 : ℤ) : ℝ) : EReal) = 0
    simp

/-- An integer of an edge, spread over its two lanes. -/
theorem pick (v : Vec Ideal S400x128 .i32) (p : Fin 400) (q : Fin 128) (c : Fin 2) :
    k0_pay6 (F := Ideal) v (ix2 p (lane q c)) = ((((v (ix2 p q) : BitVec 32).toInt : ℝ)) : EReal) := by
  have hd : dot_S400x128_S128x256_S400x256_1_0_0_1_n_n = DotDims.plain 400 128 256 := rfl
  unfold k0_pay6
  simp only [matmul, hd]
  have e := Ideal.matmul_plain_apply (φ₁ := .f32) (φ₂ := .f32) (some .fp32)
    (sitofp .f32 (shapeCast S400x128 v shapeCasts_S400x128_S400x128) : FVec Ideal S400x128 .f32) (k0_pay5 (F := Ideal))
    (constant S400x256 .f32 0x00000000#32) p (lane q c)
  refine e.trans ?_
  rw [show (constant S400x256 .f32 0x00000000#32 : FVec Ideal S400x256 .f32) (ix2 p (lane q c)) = 0 from Ideal.ofBits_zero_f32, zero_add,
    Finset.sum_eq_single q]
  · rw [spread, if_pos (by show q.val = (2 * q.val + c.val) / 2; omega), mul_one, shapeCast_self]
    rfl
  · intro k _ hk
    rw [spread, if_neg, mul_zero]
    intro h
    exact hk (Fin.ext (h.trans (by show (2 * q.val + c.val) / 2 = q.val; omega)))
  · exact fun h => absurd (Finset.mem_univ q) h

/-! ## The predicted chances -/

/-- The softmax of two logits does not depend on the number taken off first. -/
theorem soft {a b m : ℝ} : Ideal.div (Ideal.exp ((a : EReal) - (m : EReal))) (Ideal.exp ((a : EReal) - (m : EReal)) + Ideal.exp ((b : EReal) - (m : EReal)))
    = ((Real.exp a / (Real.exp a + Real.exp b) : ℝ) : EReal) := by
  have h := add_pos (Real.exp_pos (a - m)) (Real.exp_pos (b - m))
  rw [← EReal.coe_sub, ← EReal.coe_sub, Ideal.exp_coe, Ideal.exp_coe, ← EReal.coe_add, Ideal.div_coe h.ne', ← EReal.coe_mul]
  congr 1
  rw [Real.exp_sub, Real.exp_sub]
  have := Real.exp_pos a
  have := Real.exp_pos b
  have := Real.exp_pos m
  field_simp

/-- The entry of the other class of the same edge. -/
def partner (x : FVec Ideal S400x256 .f32) : FVec Ideal S400x256 .f32 :=
  select k0_pay8 (dynamicRotate 1 255#32 none x rotates_S400x256_d1) (dynamicRotate 1 1#32 none x rotates_S400x256_d1)

/-- Class zero's partner is class one. -/
theorem partner0 (x : FVec Ideal S400x256 .f32) (p : Fin 400) (q : Fin 128) : partner x (ix2 p (lane q 0)) = x (ix2 p (lane q 1)) := by
  rw [partner, select_apply, mask0, select_one, rotate0]

/-- Class one's partner is class zero. -/
theorem partner1 (x : FVec Ideal S400x256 .f32) (p : Fin 400) (q : Fin 128) : partner x (ix2 p (lane q 1)) = x (ix2 p (lane q 0)) := by
  rw [partner, select_apply, mask1, select_zero, rotate1]

/-- The exponentials of the logits, the edge's greater logit taken off first. -/
def lifted (x : FVec Ideal S400x256 .f32) : FVec Ideal S400x256 .f32 := exp (subf x (maximumf x (partner x)))

variable {x : Vec Ideal S400x256 .f32} {p : Fin 400} {q : Fin 128} {a b : ℝ}

/-- The predicted chances from the lifted exponentials. -/
theorem chance (x : Vec Ideal S400x256 .f32) (j : S400x256.Idx) :
    k0_pay9 (F := Ideal) x j = Ideal.div (lifted x j) (lifted x j + partner (lifted x) j) := by
  unfold k0_pay9
  simp only [shapeCast_self]
  rfl

/-- Class zero's lifted exponential. -/
theorem lifted0 (ha : x (ix2 p (lane q 0)) = (a : EReal)) (hb : x (ix2 p (lane q 1)) = (b : EReal)) :
    lifted x (ix2 p (lane q 0)) = Ideal.exp ((a : EReal) - ((max a b : ℝ) : EReal)) := by
  show Ideal.exp (x _ - max (x _) (partner x _)) = _
  rw [partner0, ha, hb, EReal.coe_strictMono.monotone.map_max]

/-- Class one's lifted exponential. -/
theorem lifted1 (ha : x (ix2 p (lane q 0)) = (a : EReal)) (hb : x (ix2 p (lane q 1)) = (b : EReal)) :
    lifted x (ix2 p (lane q 1)) = Ideal.exp ((b : EReal) - ((max a b : ℝ) : EReal)) := by
  show Ideal.exp (x _ - max (x _) (partner x _)) = _
  rw [partner1, ha, hb, EReal.coe_strictMono.monotone.map_max, max_comm]

/-- The chance of class zero. -/
theorem chance0 (ha : x (ix2 p (lane q 0)) = (a : EReal)) (hb : x (ix2 p (lane q 1)) = (b : EReal)) :
    k0_pay9 (F := Ideal) x (ix2 p (lane q 0)) = ((Real.exp a / (Real.exp a + Real.exp b) : ℝ) : EReal) := by
  rw [chance, partner0, lifted0 ha hb, lifted1 ha hb, soft]

/-- The chance of class one. -/
theorem chance1 (ha : x (ix2 p (lane q 0)) = (a : EReal)) (hb : x (ix2 p (lane q 1)) = (b : EReal)) :
    k0_pay9 (F := Ideal) x (ix2 p (lane q 1)) = ((Real.exp b / (Real.exp a + Real.exp b) : ℝ) : EReal) := by
  rw [chance, partner1, lifted0 ha hb, lifted1 ha hb, soft, add_comm]

/-! ## The weights -/

/-- The chance that the step replaces a bit. -/
theorem replaced {v : Vec Ideal S400x128 .i32} {j : S400x256.Idx} {t : ℕ} (ht : t < 1000) (h : k0_pay7 (F := Ideal) v j = ((t : ℝ) : EReal)) :
    k0_pay10 (F := Ideal) v j = ((beta t : ℝ) : EReal) := by
  unfold k0_pay10
  show Ideal.div (Ideal.ofBits .f32 0x3F800000#32) (Ideal.ofBits .f32 0x447A0000#32 - k0_pay7 (F := Ideal) v j) = _
  rw [h, ofBits_1000, Ideal.ofBits_one_f32, ← EReal.coe_sub, Ideal.div_coe (den_pos ht).ne', one_mul]
  rfl

/-- The name of a thousandth. -/
theorem thousandth : (Named.named κ "thousandth" 0x3A83126F#32 : Ideal .f32) = ((1 / 1000 : ℝ) : EReal) :=
  IdealRules.named_const.ideal_named_scalar _ _ _ _ rfl

/-- The name of the floor's logarithm. -/
theorem log_floor : (Named.named κ "log_floor" 0xC28A27B5#32 : Ideal .f32) = ((Real.log eps : ℝ) : EReal) :=
  IdealRules.named_const.ideal_named_scalar _ _ _ _ rfl

/-- The bits of a half. -/
theorem ofBits_half : Ideal.ofBits .f32 0x3F000000#32 = ((1 / 2 : ℝ) : EReal) := by
  simp [Ideal.ofBits, Ideal.ieee, -EReal.coe_mul]; norm_num

/-- A bit read as a number, tested against a half. -/
theorem bit {X : BitVec 32} (hX : X = 0#32 ∨ X = 1#32) :
    Ideal.cmp .ogt (((X.toInt : ℝ)) : EReal) (Ideal.ofBits .f32 0x3F000000#32) = BitVec.ofBool (decide (X = 1#32)) := by
  rw [ofBits_half]
  rcases hX with rfl | rfl
  · have e : ¬ ((1 / 2 : ℝ) : EReal) < (((0#32).toInt : ℝ) : EReal) := by
      rw [EReal.coe_lt_coe_iff]; norm_num
    simp only [Ideal.cmp]
    rw [decide_eq_false e]; rfl
  · have e : ((1 / 2 : ℝ) : EReal) < (((1#32).toInt : ℝ) : EReal) := by
      rw [EReal.coe_lt_coe_iff]
      show (1 / 2 : ℝ) < ((1 : ℤ) : ℝ)
      norm_num
    simp only [Ideal.cmp]
    rw [decide_eq_true e]; rfl

/-- The step before, as the body computes it. -/
theorem before (t : ℕ) : max (((t : ℝ) : EReal) - 1) 0 = ((prev t : ℝ) : EReal) := by
  rw [← EReal.coe_one, ← EReal.coe_sub, ← EReal.coe_zero, ← EReal.coe_strictMono.monotone.map_max, prev]
  congr 1
  rcases Nat.eq_zero_or_pos t with rfl | h
  · norm_num
  · rw [Nat.cast_sub h, Nat.cast_one, max_eq_left]
    have : (1 : ℝ) ≤ t := by exact_mod_cast h
    linarith

section Weights

variable {v14 v18 v34 v38 : FVec Ideal S400x256 .f32} {v23 : IVec S400x256 1} {j : S400x256.Idx} {X : BitVec 32} {t : ℕ} {s : ℝ}

/-- The schedule's accumulated chances, as the body computes them. -/
theorem accumulated (t : ℕ) : ((999 : ℝ) - (prev t : ℝ) : EReal) * ((1 / 1000 : ℝ) : EReal) = ((cum (prev t) : ℝ) : EReal)
    ∧ (((prev t : ℝ) : EReal) + 1) * ((1 / 1000 : ℝ) : EReal) = ((cumn (prev t) : ℝ) : EReal) := by
  constructor
  · rw [← EReal.coe_sub, ← EReal.coe_mul, cum]
    congr 1; ring
  · rw [← EReal.coe_one, ← EReal.coe_add, ← EReal.coe_mul, cumn]
    congr 1; ring

/-- The bit's one-hot row, as the body selects it. -/
theorem row (X : BitVec 32) (hX : X = 0#32 ∨ X = 1#32) :
    Scalar.select (BitVec.ofBool (decide (X = 1#32))) (1 : EReal) (eps : EReal) = ((hot X 1#32 : ℝ) : EReal)
    ∧ Scalar.select (BitVec.ofBool (decide (X = 1#32))) (eps : EReal) (1 : EReal) = ((hot X 0#32 : ℝ) : EReal) := by
  rcases hX with rfl | rfl <;> simp [Scalar.select, hot]

/-- The weight of either class, before the mask chooses between them. -/
theorem weight (hX : X = 0#32 ∨ X = 1#32) (h14 : v14 j = ((X.toInt : ℝ) : EReal)) (h18 : v18 j = ((t : ℝ) : EReal))
    (h34 : v34 j = (s : EReal)) (h38 : v38 j = ((beta t : ℝ) : EReal)) :
    k0_pay11 (F := Ideal) v14 v18 v23 v34 v38 (Scalar.ofBits .f32 0x3F800000#32) j
      = Scalar.select (v23 j) ((beta t * p1 * hot X 1#32 + hot X 0#32 : ℝ) : EReal) (((alpha t + beta t * p1) * hot X 1#32 + beta t * hot X 0#32 : ℝ) : EReal)
        * Scalar.select (v23 j) ((cumn (prev t) + cum (prev t) * s : ℝ) : EReal) ((cum (prev t) * s + cumn (prev t) * p1 : ℝ) : EReal) := by
  have e1 : (Scalar.ofBits .f32 0x3F800000#32 : Ideal .f32) = (1 : EReal) := Ideal.ofBits_one_f32
  have e2 : (Scalar.ofBits .f32 0x0DA24260#32 : Ideal .f32) = (eps : EReal) := ofBits_eps
  have e3 : (Scalar.ofBits .f32 0x2B8CBCCC#32 : Ideal .f32) = (p1 : EReal) := ofBits_p1
  have e4 : (Scalar.ofBits .f32 0x00000000#32 : Ideal .f32) = (0 : EReal) := Ideal.ofBits_zero_f32
  have e5 : (Scalar.ofBits .f32 0x4479C000#32 : Ideal .f32) = ((999 : ℝ) : EReal) := ofBits_999
  have e6 : FloatOps.cmpf (F := Ideal) (φ := .f32) .ogt ((X.toInt : ℝ) : EReal) (Scalar.ofBits .f32 0x3F000000#32) = BitVec.ofBool (decide (X = 1#32)) := bit hX
  have e7 : max ((1 : EReal) - ((beta t : ℝ) : EReal)) (eps : EReal) = ((alpha t : ℝ) : EReal) := by
    rw [alpha, EReal.coe_strictMono.monotone.map_max, EReal.coe_sub, EReal.coe_one]
  unfold k0_pay11
  simp only [ValueIdx.mulf_apply, ValueIdx.addf_apply, ValueIdx.subf_apply, ValueIdx.maximumf_apply, select_apply, cmpf_apply, broadcast_apply,
    h14, h18, h34, h38, thousandth, e1, e2, e3, e4, e5, e6, e7, before, (row X hX).1, (row X hX).2, (accumulated t).1, (accumulated t).2,
    EReal.coe_add, EReal.coe_mul]

/-- The weight of class zero. -/
theorem weight0 (hX : X = 0#32 ∨ X = 1#32) (h14 : v14 j = ((X.toInt : ℝ) : EReal)) (h18 : v18 j = ((t : ℝ) : EReal)) (h23 : v23 j = 1#1)
    (h34 : v34 j = (s : EReal)) (h38 : v38 j = ((beta t : ℝ) : EReal)) :
    k0_pay11 (F := Ideal) v14 v18 v23 v34 v38 (Scalar.ofBits .f32 0x3F800000#32) j = ((w0 t (hot X 1#32) (hot X 0#32) s : ℝ) : EReal) := by
  rw [weight hX h14 h18 h34 h38, h23, select_one, select_one, ← EReal.coe_mul, w0]

/-- The weight of class one. -/
theorem weight1 (hX : X = 0#32 ∨ X = 1#32) (h14 : v14 j = ((X.toInt : ℝ) : EReal)) (h18 : v18 j = ((t : ℝ) : EReal)) (h23 : v23 j = 0#1)
    (h34 : v34 j = (s : EReal)) (h38 : v38 j = ((beta t : ℝ) : EReal)) :
    k0_pay11 (F := Ideal) v14 v18 v23 v34 v38 (Scalar.ofBits .f32 0x3F800000#32) j = ((w1 t (hot X 1#32) (hot X 0#32) s : ℝ) : EReal) := by
  rw [weight hX h14 h18 h34 h38, h23, select_zero, select_zero, ← EReal.coe_mul, w1]

end Weights

/-! ## The stored values -/

/-- What a block of the four inputs holds at an edge: two logits, a bit, a step and two positive draws. -/
structure Edge (x v : Vec Ideal S400x256 .f32) (y z : Vec Ideal S400x128 .i32) (p : Fin 400) (q : Fin 128) (a b v0 v1 : ℝ) (X : BitVec 32) (t : ℕ) : Prop where
  a : x (ix2 p (lane q 0)) = (a : EReal)
  b : x (ix2 p (lane q 1)) = (b : EReal)
  v0 : v (ix2 p (lane q 0)) = (v0 : EReal)
  v1 : v (ix2 p (lane q 1)) = (v1 : EReal)
  bit : y (ix2 p q) = X
  step : (z (ix2 p q) : BitVec 32) = BitVec.ofNat 32 t
  bit_le : X = 0#32 ∨ X = 1#32
  step_lt : t < 1000

/-- The weights the body computes from a block. -/
def weights (x : Vec Ideal S400x256 .f32) (y z : Vec Ideal S400x128 .i32) : FVec Ideal S400x256 .f32 :=
  k0_pay11 (k0_pay6 y) (k0_pay7 z) k0_pay8 (k0_pay9 x) (k0_pay10 z) (Scalar.ofBits .f32 0x3F800000#32)

/-- The logarithms of the posterior the body computes from a block. -/
def logs (x : Vec Ideal S400x256 .f32) (y z : Vec Ideal S400x128 .i32) : FVec Ideal S400x256 .f32 :=
  k0_pay2 k0_pay8 (weights x y z) (k0_pay12 (k0_pay6 y) (k0_pay7 z) k0_pay8 (k0_pay9 x) (k0_pay10 z) (Scalar.ofBits .f32 0x3F800000#32))

/-- The drawn rows the body computes from a block. -/
def draws (x v : Vec Ideal S400x256 .f32) (y z : Vec Ideal S400x128 .i32) : FVec Ideal S400x256 .f32 :=
  k0_pay3 (k0_pay4 v) k0_pay8 (weights x y z) (k0_pay12 (k0_pay6 y) (k0_pay7 z) k0_pay8 (k0_pay9 x) (k0_pay10 z) (Scalar.ofBits .f32 0x3F800000#32))

section Stored

variable {x v : Vec Ideal S400x256 .f32} {y z : Vec Ideal S400x128 .i32} {p : Fin 400} {q : Fin 128} {a b v0 v1 : ℝ} {X : BitVec 32} {t : ℕ}
  (e : Edge x v y z p q a b v0 v1 X t)
include e

/-- The step of an edge on its lanes. -/
theorem Edge.lanes (c : Fin 2) : k0_pay7 (F := Ideal) z (ix2 p (lane q c)) = ((t : ℝ) : EReal) := by
  refine (pick z p q c).trans ?_
  rw [e.step]
  have h := e.step_lt
  have : (BitVec.ofNat 32 t).toInt = (t : ℤ) := by
    rw [BitVec.toInt_eq_toNat_of_lt] <;> rw [BitVec.toNat_ofNat, Nat.mod_eq_of_lt] <;> omega
  rw [this, Int.cast_natCast]

/-- Class zero's weight. -/
theorem Edge.weight0 : weights x y z (ix2 p (lane q 0)) = ((r0 a b X t : ℝ) : EReal) :=
  KernelBlock.weight0 e.bit_le ((pick y p q 0).trans (by rw [e.bit])) (e.lanes 0) (mask0 p q) (chance0 e.a e.b) (replaced e.step_lt (e.lanes 0))

/-- Class one's weight. -/
theorem Edge.weight1 : weights x y z (ix2 p (lane q 1)) = ((r1 a b X t : ℝ) : EReal) :=
  KernelBlock.weight1 e.bit_le ((pick y p q 1).trans (by rw [e.bit])) (e.lanes 1) (mask1 p q) (chance1 e.a e.b) (replaced e.step_lt (e.lanes 1))

/-- The weights are positive. -/
theorem Edge.pos : 0 < r0 a b X t ∧ 0 < r1 a b X t := by
  have h : ∀ k, 0 < hot X k := fun k => by
    unfold hot; split
    · exact one_pos
    · exact eps_pos
  have ha := Real.exp_pos a
  have hb := Real.exp_pos b
  exact ⟨w0_pos e.step_lt (h _) (h _) (by positivity), w1_pos e.step_lt (h _) (h _) (by positivity)⟩

/-- The stored logarithms of the posterior. -/
theorem Edge.logs : IsLog (logs x y z (ix2 p (lane q 0))) (r0 a b X t / (r0 a b X t + r1 a b X t))
    ∧ IsLog (KernelBlock.logs x y z (ix2 p (lane q 1))) (r1 a b X t / (r0 a b X t + r1 a b X t)) := by
  obtain ⟨h0, h1⟩ := e.pos
  have h := add_pos h0 h1
  have key : ∀ j, KernelBlock.logs x y z j = Ideal.log (Ideal.div (weights x y z j) (weights x y z j + partner (weights x y z) j)) := fun j => rfl
  constructor
  · rw [key, partner0, e.weight0, e.weight1, ← EReal.coe_add, Ideal.div_coe h.ne', ← EReal.coe_mul, mul_one_div]
    exact IsLog.of_log (div_pos h0 h)
  · rw [key, partner1, e.weight0, e.weight1, ← EReal.coe_add, add_comm (r1 a b X t), Ideal.div_coe h.ne', ← EReal.coe_mul, mul_one_div]
    exact IsLog.of_log (div_pos h1 h)

/-- The test the body makes for class one. -/
theorem Edge.test : Ideal.cmp .ogt (((r1 a b X t : ℝ) : EReal) * (v0 : EReal) - ((r0 a b X t : ℝ) : EReal) * (v1 : EReal)) 0
    = BitVec.ofBool (decide (0 < r1 a b X t * v0 - r0 a b X t * v1)) := by
  rw [← EReal.coe_mul, ← EReal.coe_mul, ← EReal.coe_sub]
  show BitVec.ofBool (decide ((0 : EReal) < _)) = _
  rw [← EReal.coe_zero]
  simp only [EReal.coe_lt_coe_iff]

/-- The stored row of the class drawn. -/
theorem Edge.draws (c : Fin 2) : IsLog (draws x v y z (ix2 p (lane q c)))
    (hot (if 0 < r1 a b X t * v0 - r0 a b X t * v1 then 1#32 else 0#32) (BitVec.ofNat 32 c.val)) := by
  have e0 : (Scalar.ofBits .f32 0x00000000#32 : Ideal .f32) = (0 : EReal) := Ideal.ofBits_zero_f32
  have key : ∀ j, KernelBlock.draws x v y z j = Scalar.select (k0_pay8 j)
      (Scalar.select (Ideal.cmp .ogt (Scalar.select (k0_pay8 j)
          (partner (weights x y z) j * v j - weights x y z j * partner v j) (weights x y z j * partner v j - partner (weights x y z) j * v j)) 0)
        ((Real.log eps : ℝ) : EReal) 0)
      (Scalar.select (Ideal.cmp .ogt (Scalar.select (k0_pay8 j)
          (partner (weights x y z) j * v j - weights x y z j * partner v j) (weights x y z j * partner v j - partner (weights x y z) j * v j)) 0)
        0 ((Real.log eps : ℝ) : EReal)) := fun j => by
    rw [← log_floor, ← e0]
    unfold KernelBlock.draws k0_pay4
    rw [shapeCast_self]
    rfl
  have l1 : IsLog 0 1 := ⟨one_pos, by simp⟩
  have l2 : IsLog ((Real.log eps : ℝ) : EReal) eps := ⟨eps_pos, rfl⟩
  rw [key]
  have hc : ∀ c : Fin 2, c = 0 ∨ c = 1 := by decide
  rcases hc c with rfl | rfl
  · rw [mask0, select_one, select_one, partner0, partner0, e.weight0, e.weight1, e.v0, e.v1, e.test]
    by_cases h : 0 < r1 a b X t * v0 - r0 a b X t * v1
    · rw [decide_eq_true h, if_pos h]
      exact l2
    · rw [decide_eq_false h, if_neg h]
      exact l1
  · rw [mask1, select_zero, select_zero, partner1, partner1, e.weight0, e.weight1, e.v0, e.v1, e.test]
    by_cases h : 0 < r1 a b X t * v0 - r0 a b X t * v1
    · rw [decide_eq_true h, if_pos h]
      exact l1
    · rw [decide_eq_false h, if_neg h]
      exact l2

end Stored

end Cert.KernelBlock

end
-- ==== Proof.Lockstep.lean ====
module

public import proofs.«01_k».proof.Proof.Straight

/-! Two straight lines that compute the same values at buffers whose numbers differ by a constant. -/

@[expose] public section

namespace Cert.Straight

open Idealize.ShloMosaic Idealize.ShloMosaic.StableHlo Idealize.ShloMosaic.TcCoe

variable {τ₁ τ₂ : Topo} {sig₁ sig₂ : RefSig} {Val : EltTy → Type}

/-- A buffer of the second line numbered from `lo` to below `hi`, and the first line's buffer numbered `d` higher. -/
abbrev Near (d lo hi : ℕ) (x : Ref sig₁ .tc) (x' : Ref sig₂ .tc) : Prop :=
  x.space = .hbm ∧ x'.space = .hbm ∧ x.idx.val = x'.idx.val + d ∧ lo ≤ x'.idx.val ∧ x'.idx.val < hi

/-- Corresponding buffers hold the same. -/
def Agree (V₁ : Valuation τ₁ sig₁ Val) (V₂ : Valuation τ₂ sig₂ Val) (d lo hi : ℕ) : Prop :=
  ∀ (x : Ref sig₁ .tc) (x' : Ref sig₂ .tc), Near d lo hi x x' → HEq (V₁ (Proc.devRef .tc x)) (V₂ (Proc.devRef .tc x'))

/-- What a valuation holds in the operation's buffers is what the operation leaves there. -/
def Sat {τ : Topo} {sig : RefSig} (V : Valuation τ sig Val) (op : HloOp τ sig Val) : Prop := ∃ U, ∀ b ∈ op.bufs, V b = op.result U b

/-- What a rising line leaves satisfies each of its operations. -/
theorem sat_after {τ : Topo} {sig : RefSig} {ops : List (HloOp τ sig Val)} {n : ℕ} (h : rising n ops = true) (V : Valuation τ sig Val) :
    ∀ op ∈ ops, Sat (after ops V) op := fun op hop => by
  obtain ⟨k, hk⟩ := List.mem_iff_getElem?.mp hop
  exact after_at ops n V k op h hk

/-- From agreement below `hi` the two lines lead to agreement below `n`. -/
def Follows (V₁ : Valuation τ₁ sig₁ Val) (V₂ : Valuation τ₂ sig₂ Val) (d lo hi : ℕ) (l₁ : List (HloOp τ₁ sig₁ Val))
    (l₂ : List (HloOp τ₂ sig₂ Val)) (n : ℕ) : Prop :=
  (∀ op ∈ l₁, Sat V₁ op) → (∀ op ∈ l₂, Sat V₂ op) → Agree V₁ V₂ d lo hi → Agree V₁ V₂ d lo n

/-- A buffer is determined by its space and its number. -/
theorem ref_ext {sig : RefSig} {x y : Ref sig .tc} (hs : x.space = y.space) (hi : x.idx.val = y.idx.val) : x = y := by
  obtain ⟨s, i, h⟩ := x
  obtain ⟨s', i', h'⟩ := y
  simp only at hs
  subst hs
  have : i = i' := Fin.ext hi
  subst this
  rfl

variable {V₁ : Valuation τ₁ sig₁ Val} {V₂ : Valuation τ₂ sig₂ Val} {d lo hi n : ℕ}

/-- One more pair of buffers that hold the same. -/
theorem agree_succ (h : Agree V₁ V₂ d lo hi) {y : Ref sig₁ .tc} {y' : Ref sig₂ .tc} (hn : Near d lo (hi + 1) y y') (hy : y'.idx.val = hi)
    (e : HEq (V₁ (Proc.devRef .tc y)) (V₂ (Proc.devRef .tc y'))) : Agree V₁ V₂ d lo (y'.idx.val + 1) := fun x x' hx => by
  rcases Nat.lt_succ_iff_lt_or_eq.mp hx.2.2.2.2 with hlt | heq
  · exact h x x' ⟨hx.1, hx.2.1, hx.2.2.1, hx.2.2.2.1, by omega⟩
  · obtain rfl := ref_ext (hx.2.1.trans hn.2.1.symm) heq
    obtain rfl := ref_ext (hx.1.trans hn.1.symm) (hx.2.2.1.trans hn.2.2.1.symm)
    exact e

/-- Equal functions of equal arguments give equal values, across equal types. -/
theorem heq_app {A A' B B' : Type} {f : A → B} {f' : A' → B'} {a : A} {a' : A'} (hA : A = A') (hB : B = B') (hf : HEq f f')
    (ha : HEq a a') : HEq (f a) (f' a') := by
  subst hA hB; cases hf; cases ha; rfl

/-- Equal functions of two equal arguments give equal values, across equal types. -/
theorem heq_app₂ {A A' C C' B B' : Type} {f : A → C → B} {f' : A' → C' → B'} {a : A} {a' : A'} {c : C} {c' : C'} (hA : A = A') (hC : C = C')
    (hB : B = B') (hf : HEq f f') (ha : HEq a a') (hc : HEq c c') : HEq (f a c) (f' a' c') := by
  subst hA hB hC; cases hf; cases ha; cases hc; rfl

/-- A reshape of the same value. -/
theorem heq_reshape {X X' Y Y' : BufTy} {v : X.Contents Val} {v' : X'.Contents Val} {he : X.elt = Y.elt} {he' : X'.elt = Y'.elt}
    {hn : X.shape.ShapeCasts Y.shape} {hn' : X'.shape.ShapeCasts Y'.shape} (hX : X = X') (hY : Y = Y') (hv : HEq v v') :
    HEq (fun i => (he ▸ shapeCast Y.shape v hn i : Val Y.elt)) (fun i => (he' ▸ shapeCast Y'.shape v' hn' i : Val Y'.elt)) := by
  subst hX hY; cases hv; rfl

variable {l₁ r₁ : List (HloOp τ₁ sig₁ Val)} {l₂ r₂ : List (HloOp τ₂ sig₂ Val)}

/-- One step of both lines. -/
theorem follows_step {o₁ : HloOp τ₁ sig₁ Val} {o₂ : HloOp τ₂ sig₂ Val} {y : Ref sig₁ .tc} {y' : Ref sig₂ .tc}
    (hy : y'.idx.val = hi) (hn : Near d lo (hi + 1) y y')
    (e : Sat V₁ o₁ → Sat V₂ o₂ → Agree V₁ V₂ d lo hi → HEq (V₁ (Proc.devRef .tc y)) (V₂ (Proc.devRef .tc y')))
    (t : Follows V₁ V₂ d lo (y'.idx.val + 1) (l₁ ++ r₁) (l₂ ++ r₂) n) :
    Follows V₁ V₂ d lo hi (o₁ :: l₁ ++ r₁) (o₂ :: l₂ ++ r₂) n := fun h₁ h₂ h =>
  t (fun op ho => h₁ op (List.mem_cons_of_mem _ ho)) (fun op ho => h₂ op (List.mem_cons_of_mem _ ho))
    (agree_succ h hn hy (e (h₁ _ List.mem_cons_self) (h₂ _ List.mem_cons_self) h))

/-- Both lines write the same constant. -/
theorem follows_nullary {y : Ref sig₁ .tc} {y' : Ref sig₂ .tc} {v : y.ty.Contents Val} {v' : y'.ty.Contents Val} {hy hy'}
    (h0 : y'.idx.val = hi) (hn : Near d lo (hi + 1) y y') (hv : HEq v v')
    (t : Follows V₁ V₂ d lo (y'.idx.val + 1) (l₁ ++ r₁) (l₂ ++ r₂) n) :
    Follows V₁ V₂ d lo hi (nullary y v hy :: l₁ ++ r₁) (nullary y' v' hy' :: l₂ ++ r₂) n :=
  follows_step h0 hn (fun ⟨U, hU⟩ ⟨U', hU'⟩ _ => by
    rw [hU _ (by rw [nullary_bufs]; simp), nullary_result, hU' _ (by rw [nullary_bufs]; simp), nullary_result]
    exact hv) t

/-- The equation of an operation of one operand. -/
theorem sat1 {τ : Topo} {sig : RefSig} {V : Valuation τ sig Val} {x y : Ref sig .tc} {f : x.ty.Contents Val → y.ty.Contents Val} {hx hy}
    (h : Sat V (unary x y f hx hy)) (hxy : x ≠ y) : V (Proc.devRef .tc y) = f (V (Proc.devRef .tc x)) := by
  obtain ⟨U, hU⟩ := h
  rw [hU _ (by rw [unary_bufs]; simp), unary_result, hU (Proc.devRef .tc x) (by rw [unary_bufs]; simp), unary_result_ne _ _ _ _ _ _ hxy]

/-- The equation of an operation of two operands. -/
theorem sat2 {τ : Topo} {sig : RefSig} {V : Valuation τ sig Val} {a b y : Ref sig .tc} {f : a.ty.Contents Val → b.ty.Contents Val → y.ty.Contents Val} {ha hb hy}
    (h : Sat V (binary a b y f ha hb hy)) (hay : a ≠ y) (hby : b ≠ y) :
    V (Proc.devRef .tc y) = f (V (Proc.devRef .tc a)) (V (Proc.devRef .tc b)) := by
  obtain ⟨U, hU⟩ := h
  rw [hU _ (by rw [binary_bufs]; simp), binary_result, hU (Proc.devRef .tc a) (by rw [binary_bufs]; simp),
    hU (Proc.devRef .tc b) (by rw [binary_bufs]; simp), binary_result_ne _ _ _ _ _ _ _ _ hay, binary_result_ne _ _ _ _ _ _ _ _ hby]

/-- The equation of a reshape. -/
theorem satR {τ : Topo} {sig : RefSig} {V : Valuation τ sig Val} {x y : Ref sig .tc} {he hn hx hy}
    (h : Sat V (reshape x y he hn hx hy)) (hxy : x ≠ y) :
    V (Proc.devRef .tc y) = fun i => he ▸ shapeCast y.ty.shape (V (Proc.devRef .tc x)) hn i := by
  obtain ⟨U, hU⟩ := h
  rw [hU _ (by rw [reshape_bufs]; simp), reshape_result, hU (Proc.devRef .tc x) (by rw [reshape_bufs]; simp),
    reshape_result_ne _ _ _ _ _ _ _ hxy]

/-- Buffers of different numbers are different. -/
theorem ne_of_idx {sig : RefSig} {x y : Ref sig .tc} (h : x.idx.val < y.idx.val) : x ≠ y := fun e => by subst e; omega

/-- Both lines apply the same function to one operand. -/
theorem follows_unary {x y : Ref sig₁ .tc} {x' y' : Ref sig₂ .tc} {f : x.ty.Contents Val → y.ty.Contents Val}
    {f' : x'.ty.Contents Val → y'.ty.Contents Val} {hx hy hx' hy'}
    (h0 : y'.idx.val = hi) (hn : Near d lo (hi + 1) y y') (ha : Near d lo hi x x') (hX : x.ty = x'.ty) (hY : y.ty = y'.ty) (hf : HEq f f')
    (t : Follows V₁ V₂ d lo (y'.idx.val + 1) (l₁ ++ r₁) (l₂ ++ r₂) n) :
    Follows V₁ V₂ d lo hi (unary x y f hx hy :: l₁ ++ r₁) (unary x' y' f' hx' hy' :: l₂ ++ r₂) n :=
  follows_step h0 hn (fun s₁ s₂ h => by
    rw [sat1 s₁ (ne_of_idx (by omega)), sat1 s₂ (ne_of_idx (by omega))]
    exact heq_app (congrArg (fun T : BufTy => T.Contents Val) hX) (congrArg (fun T : BufTy => T.Contents Val) hY) hf (h x x' ha)) t

/-- Both lines apply the same function to two operands. -/
theorem follows_binary {a b y : Ref sig₁ .tc} {a' b' y' : Ref sig₂ .tc} {f : a.ty.Contents Val → b.ty.Contents Val → y.ty.Contents Val}
    {f' : a'.ty.Contents Val → b'.ty.Contents Val → y'.ty.Contents Val} {ha hb hy ha' hb' hy'}
    (h0 : y'.idx.val = hi) (hn : Near d lo (hi + 1) y y') (na : Near d lo hi a a') (nb : Near d lo hi b b')
    (hA : a.ty = a'.ty) (hB : b.ty = b'.ty) (hY : y.ty = y'.ty) (hf : HEq f f')
    (t : Follows V₁ V₂ d lo (y'.idx.val + 1) (l₁ ++ r₁) (l₂ ++ r₂) n) :
    Follows V₁ V₂ d lo hi (binary a b y f ha hb hy :: l₁ ++ r₁) (binary a' b' y' f' ha' hb' hy' :: l₂ ++ r₂) n :=
  follows_step h0 hn (fun s₁ s₂ h => by
    rw [sat2 s₁ (ne_of_idx (by omega)) (ne_of_idx (by omega)), sat2 s₂ (ne_of_idx (by omega)) (ne_of_idx (by omega))]
    exact heq_app₂ (congrArg (fun T : BufTy => T.Contents Val) hA) (congrArg (fun T : BufTy => T.Contents Val) hB) (congrArg (fun T : BufTy => T.Contents Val) hY) hf (h a a' na) (h b b' nb)) t

/-- Both lines reshape the same operand. -/
theorem follows_reshape {x y : Ref sig₁ .tc} {x' y' : Ref sig₂ .tc} {he hm hx hy he' hm' hx' hy'}
    (h0 : y'.idx.val = hi) (hn : Near d lo (hi + 1) y y') (ha : Near d lo hi x x') (hX : x.ty = x'.ty) (hY : y.ty = y'.ty)
    (t : Follows V₁ V₂ d lo (y'.idx.val + 1) (l₁ ++ r₁) (l₂ ++ r₂) n) :
    Follows V₁ V₂ d lo hi (reshape x y he hm hx hy :: l₁ ++ r₁) (reshape x' y' he' hm' hx' hy' :: l₂ ++ r₂) n :=
  follows_step h0 hn (fun s₁ s₂ h => by
    rw [satR s₁ (ne_of_idx (by omega)), satR s₂ (ne_of_idx (by omega))]
    exact heq_reshape hX hY (h x x' ha)) t

/-- The first line may begin with operations that the second has not. -/
theorem follows_skip₁ {o : HloOp τ₁ sig₁ Val} (t : Follows V₁ V₂ d lo hi (l₁ ++ r₁) l₂ n) : Follows V₁ V₂ d lo hi (o :: l₁ ++ r₁) l₂ n :=
  fun h₁ => t fun op ho => h₁ op (List.mem_cons_of_mem _ ho)

/-- The second line may begin with operations that the first has not. -/
theorem follows_skip₂ {o : HloOp τ₂ sig₂ Val} (t : Follows V₁ V₂ d lo hi l₁ (l₂ ++ r₂) n) : Follows V₁ V₂ d lo hi l₁ (o :: l₂ ++ r₂) n :=
  fun h₁ h₂ => t h₁ fun op ho => h₂ op (List.mem_cons_of_mem _ ho)

/-- The first line may begin with a window that the second has not. -/
theorem follows_drop₁ (t : Follows V₁ V₂ d lo hi r₁ l₂ n) : Follows V₁ V₂ d lo hi (l₁ ++ r₁) l₂ n :=
  fun h₁ => t fun op ho => h₁ op (List.mem_append_right _ ho)

/-- The end of a window of the first line. -/
theorem follows_end₁ (t : Follows V₁ V₂ d lo hi r₁ l₂ n) : Follows V₁ V₂ d lo hi ([] ++ r₁) l₂ n := t

/-- The end of a window of the second line. -/
theorem follows_end₂ (t : Follows V₁ V₂ d lo hi l₁ r₂ n) : Follows V₁ V₂ d lo hi l₁ ([] ++ r₂) n := t

/-- The first line is followed window by window. -/
theorem follows_assoc₁ {a b : List (HloOp τ₁ sig₁ Val)} (t : Follows V₁ V₂ d lo hi (a ++ (b ++ r₁)) l₂ n) :
    Follows V₁ V₂ d lo hi (a ++ b ++ r₁) l₂ n := by
  rwa [List.append_assoc]

/-- The first line begins with nothing behind it. -/
theorem follows_start₁ (t : Follows V₁ V₂ d lo hi (l₁ ++ []) l₂ n) : Follows V₁ V₂ d lo hi l₁ l₂ n := by
  rwa [List.append_nil] at t

/-- Nothing more to do. -/
theorem follows_done (h : hi = n) : Follows V₁ V₂ d lo hi l₁ l₂ n := fun _ _ h' => h ▸ h'

/-- An empty range of buffers agrees. -/
theorem agree_empty : Agree V₁ V₂ d lo lo := fun _ _ h => absurd h.2.2.2 (by omega)

end Cert.Straight
-- ==== Proof.Draws.lean ====
module

public import proofs.«01_k».proof.Proof.RefRise
public import proofs.«01_k».proof.Proof.Lockstep
public import proofs.«01_k».proof.Proof.Gen.KernelIdeal.Frame

/-! The kernel's host code and the reference draw the same uniform numbers: both run the same generator from the same
key, operation by operation. -/

@[expose] public section

noncomputable section

namespace Cert.Draws

open Idealize.ShloMosaic Idealize.ShloMosaic.TcCoe Idealize.SL.Sem Idealize.ShloMosaic.StableHlo Straight

/-- The kernel's host operations before its launch. -/
abbrev kops : List (HloOp Cert.KernelIdeal.τ Cert.KernelIdeal.sig (Elt Ideal)) :=
  List.flatten [Cert.KernelIdeal.Gen.hostOps0, Cert.KernelIdeal.Gen.hostOps0_1, Cert.KernelIdeal.Gen.hostOps0_2]

/-- Three windows behind one another. -/
theorem flatten_three {α : Type*} {P : List α → Prop} {a b c : List α} (h : P (a ++ (b ++ (c ++ [])))) : P (List.flatten [a, b, c]) := by
  simpa using h

set_option maxRecDepth 16384 in
set_option maxHeartbeats 400000 in
/-- The kernel's host operations write their buffers in rising order. -/
theorem kops_rising : rising 3 kops = true := by
  with_reducible refine flatten_three (P := fun l => rising 3 l = true) ?_
  repeat (first
    | with_reducible refine rising_unary (by decide) (by decide) ?_
    | with_reducible refine rising_binary (by decide) (by decide) (by decide) ?_
    | with_reducible refine rising_nullary (by decide) ?_
    | with_reducible refine rising_reshape (by decide) (by decide) ?_
    | with_reducible refine rising_end ?_)
  rfl

set_option maxRecDepth 16384 in
set_option maxHeartbeats 4000000 in
/-- From the key on, the kernel's host code and the reference hold the same in corresponding buffers. -/
theorem agree (U₁ : Valuation Cert.ReferenceIdeal.τ Cert.ReferenceIdeal.sig (Elt Ideal))
    (U₂ : Valuation Cert.KernelIdeal.τ Cert.KernelIdeal.sig (Elt Ideal)) :
    Agree (after Ref.ops U₁) (after kops U₂) 205 6 288 := by
  have s₁ := sat_after Ref.ops_rising U₁
  have s₂ := sat_after kops_rising U₂
  refine (?_ : Follows (after Ref.ops U₁) (after kops U₂) 205 6 6 Ref.ops kops 288) s₁ s₂ agree_empty
  clear s₁ s₂
  generalize after Ref.ops U₁ = V₁
  generalize after kops U₂ = V₂
  refine flatten_three (P := fun l => Follows V₁ V₂ 205 6 6 Ref.ops l 288) ?_
  delta Ref.ops Ref.ops_part2
  refine follows_start₁ ?_
  iterate 2
    with_reducible refine follows_assoc₁ ?_
    with_reducible refine follows_drop₁ ?_
  with_reducible refine follows_assoc₁ ?_
  with_reducible refine follows_assoc₁ ?_
  with_reducible refine follows_drop₁ ?_
  with_reducible refine follows_assoc₁ ?_
  iterate 27 with_reducible refine follows_skip₁ ?_
  iterate 3 with_reducible refine follows_skip₂ ?_
  repeat (first
    | (with_reducible refine follows_unary (by decide) (by decide) (by decide) ?_ ?_ ?_ ?_);  exact rfl; exact rfl; exact HEq.rfl
    | (with_reducible refine follows_binary (by decide) (by decide) (by decide) (by decide) ?_ ?_ ?_ ?_ ?_);  exact rfl; exact rfl; exact rfl; exact HEq.rfl
    | (with_reducible refine follows_nullary (by decide) (by decide) ?_ ?_);  exact HEq.rfl
    | (with_reducible refine follows_reshape (by decide) (by decide) (by decide) ?_ ?_ ?_);  exact rfl; exact rfl
    | with_reducible refine follows_end₁ ?_
    | with_reducible refine follows_end₂ ?_
    | with_reducible refine follows_assoc₁ ?_)
  exact follows_done (by decide)

end Cert.Draws

end
-- ==== Proof.KernelArrays.lean ====
module

public import proofs.«01_k».proof.Proof.KernelBlock
public import proofs.«01_k».proof.Proof.Draws

/-! The arrays the kernel's launch reads, at one edge. -/

@[expose] public section

noncomputable section

namespace Cert.KernelArrays

open Cert.KernelIdeal Cert.KernelIdeal.Gen Idealize.ShloMosaic Idealize.ShloMosaic.TcCoe Idealize.SL.Sem Idealize.ShloMosaic.StableHlo
  Idealize.ShloMosaic.ValueIdx Idealize.ShloMosaic.Routing Cert.KernelBlock Straight

/-- The edge at place `q` of row `r`. -/
def edge (r : Fin 50000) (q : Fin 128) : Fin 6400000 := ⟨128 * r + q, by omega⟩

/-- An array of edges and classes, laid out in rows of 256. -/
theorem wide {α : Type} (x : (shape2 6400000 2).Idx → α) (h : (shape2 6400000 2).ShapeCasts (shape2 50000 256)) (r : Fin 50000) (q : Fin 128)
    (k : Fin 2) : shapeCast (shape2 50000 256) x h (ix2 r (lane q k)) = x (ix2 (edge r q) k) := by
  refine shapeCast_apply x h _ _ ?_
  rw [Shape.rowMajor_val_two, Shape.rowMajor_val_two]
  show (128 * r.val + q.val) * 2 + k.val = r.val * 256 + (2 * q.val + k.val)
  omega

/-- An array of edges, laid out in rows of 128. -/
theorem tall {α : Type} (x : (shape1 6400000).Idx → α) (h : (shape1 6400000).ShapeCasts (shape2 50000 128)) (r : Fin 50000) (q : Fin 128) :
    shapeCast (shape2 50000 128) x h (ix2 r q) = x (ix1 (edge r q)) :=
  cast12 x h r q (edge r q) (by show 128 * r.val + q.val = r.val * 128 + q.val; omega)

/-! ## The arrays at the launch -/

/-- What the kernel's host operations leave in its buffers. -/
def Entered (W : (b : Ref sig .tc) → b.ty.Contents (Elt Ideal)) : Prop :=
  ∃ U : Valuation τ sig (Elt Ideal), ∀ b, W b = after Draws.kops U (Proc.devRef .tc b)

section Arrays

variable {W : (b : Ref sig .tc) → b.ty.Contents (Elt Ideal)} (h : Entered W)
include h

/-- What is left of a reshape. -/
theorem rd (k : ℕ) {x y : Ref sig .tc} {he hn hx hy} (hk : Draws.kops[k]? = some (reshape x y he hn hx hy)) (hxy : x ≠ y) :
    W y = fun i => he ▸ shapeCast y.ty.shape (W x) hn i := by
  obtain ⟨U, e⟩ := h
  rw [e, e]
  exact readR Draws.kops_rising U k hk hxy

/-- The logits. -/
theorem logits (r : Fin 50000) (q : Fin 128) (k : Fin 2) : W main_v0 (ix2 r (lane q k)) = W main_arg0 (ix2 (edge r q) k) :=
  (congrFun (rd h 0 rfl (by decide) :) _).trans (wide (W main_arg0) shapeCasts_S6400000x2_S50000x256 r q k)

/-- The bits. -/
theorem bits (r : Fin 50000) (q : Fin 128) : W main_v1 (ix2 r q) = W main_arg1 (ix1 (edge r q)) :=
  (congrFun (rd h 1 rfl (by decide) :) _).trans (tall (W main_arg1) shapeCasts_S6400000_S50000x128 r q)

/-- The steps. -/
theorem steps (r : Fin 50000) (q : Fin 128) : W main_v2 (ix2 r q) = W main_arg2 (ix1 (edge r q)) :=
  (congrFun (rd h 2 rfl (by decide) :) _).trans (tall (W main_arg2) shapeCasts_S6400000_S50000x128 r q)

/-- The exponential variables. -/
theorem exponentials (r : Fin 50000) (q : Fin 128) (k : Fin 2) : W main_v17 (ix2 r (lane q k)) = W main_v16 (ix2 (edge r q) k) :=
  (congrFun (rd h 285 rfl (by decide) :) _).trans (wide (W main_v16) shapeCasts_S6400000x2_S50000x256 r q k)

/-- The variables are the reference's. -/
theorem same {V : (b : Ref Cert.ReferenceIdeal.sig .tc) → b.ty.Contents (Elt Ideal)} (hV : RefValue.Left V) :
    W main_v16 = V Cert.ReferenceIdeal.main_v153 := by
  obtain ⟨U₂, e₂⟩ := h
  obtain ⟨U₁, e₁⟩ := hV
  rw [e₁, e₂]
  exact (eq_of_heq (Draws.agree U₁ U₂ Cert.ReferenceIdeal.main_v153 main_v16 (by decide))).symm

end Arrays

end Cert.KernelArrays

end
-- ==== Proof.KernelValue.lean ====
module

public import proofs.«01_k».proof.Proof.KernelBlock
public import proofs.«01_k».proof.Proof.Gen.KernelIdeal.Value

/-! What the kernel's run leaves in its two results, at one edge: the blocks its points read, and the entries its points write back. -/

@[expose] public section

noncomputable section

namespace Cert.KernelValue

open Cert.KernelIdeal Cert.KernelIdeal.Gen Idealize.ShloMosaic Idealize.ShloMosaic.TcCoe Idealize.SL.Sem Idealize.ShloMosaic.StableHlo
  Idealize.ShloMosaic.ValueIdx Idealize.ShloMosaic.Routing Cert.KernelBlock Straight

/-! ## The blocks -/

variable (m : (ℓ : Loc nD τ sig) → Buf (Elt Ideal) ℓ) (c : Dev nD)

/-- Row `p` of block `t`. -/
def rowOf (t : Fin cfg0.N) (p : Fin 400) : Fin 50000 := ⟨400 * t + p, by
  have h : t.val < 125 := lt_of_lt_of_eq t.isLt N_0
  omega⟩

/-- Each window moves down 400 rows per point. -/
theorem index0 : ∀ t : Fin cfg0.N, win0_0.index t (0 : Fin 2) = t.val ∧ win0_0.index t (1 : Fin 2) = 0 := (by decide +kernel : ∀ t : Fin grid0.N, _)
/-- The variables' window. -/
theorem index1 : ∀ t : Fin cfg0.N, win0_1.index t (0 : Fin 2) = t.val ∧ win0_1.index t (1 : Fin 2) = 0 := (by decide +kernel : ∀ t : Fin grid0.N, _)
/-- The bits' window. -/
theorem index2 : ∀ t : Fin cfg0.N, win0_2.index t (0 : Fin 2) = t.val ∧ win0_2.index t (1 : Fin 2) = 0 := (by decide +kernel : ∀ t : Fin grid0.N, _)
/-- The steps' window. -/
theorem index3 : ∀ t : Fin cfg0.N, win0_3.index t (0 : Fin 2) = t.val ∧ win0_3.index t (1 : Fin 2) = 0 := (by decide +kernel : ∀ t : Fin grid0.N, _)
/-- The first result's window. -/
theorem index4 : ∀ t : Fin cfg0.N, win0_4.index t (0 : Fin 2) = t.val ∧ win0_4.index t (1 : Fin 2) = 0 := (by decide +kernel : ∀ t : Fin grid0.N, _)
/-- The second result's window. -/
theorem index5 : ∀ t : Fin cfg0.N, win0_5.index t (0 : Fin 2) = t.val ∧ win0_5.index t (1 : Fin 2) = 0 := (by decide +kernel : ∀ t : Fin grid0.N, _)

/-- A block of the logits. -/
theorem block0 (W : (b : Ref sig .tc) → b.ty.Contents (Elt Ideal)) (t : Fin cfg0.N) (p : Fin 400) (l : Fin 256) :
    ((cfg0.win 0).blk t).view.read (Elt Ideal) (W (Pipeline.arrRef spec0 0)) (ix2 p l) = W main_v0 (ix2 (rowOf t p) l) := by
  show W main_v0 (((cfg0.win 0).blk t).view.emb (ix2 p l)) = _
  refine congrArg (W main_v0) (funext fun a => Fin.ext ?_)
  match a with
  | ⟨0, _⟩ => show win0_0.index t (0 : Fin 2) * 400 + 1 * p.val = 400 * t.val + p.val; rw [(index0 t).1]; omega
  | ⟨1, _⟩ => show win0_0.index t (1 : Fin 2) * 256 + 1 * l.val = l.val; rw [(index0 t).2]; omega

/-- A block of the variables. -/
theorem block1 (W : (b : Ref sig .tc) → b.ty.Contents (Elt Ideal)) (t : Fin cfg0.N) (p : Fin 400) (l : Fin 256) :
    ((cfg0.win 1).blk t).view.read (Elt Ideal) (W (Pipeline.arrRef spec0 1)) (ix2 p l) = W main_v17 (ix2 (rowOf t p) l) := by
  show W main_v17 (((cfg0.win 1).blk t).view.emb (ix2 p l)) = _
  refine congrArg (W main_v17) (funext fun a => Fin.ext ?_)
  match a with
  | ⟨0, _⟩ => show win0_1.index t (0 : Fin 2) * 400 + 1 * p.val = 400 * t.val + p.val; rw [(index1 t).1]; omega
  | ⟨1, _⟩ => show win0_1.index t (1 : Fin 2) * 256 + 1 * l.val = l.val; rw [(index1 t).2]; omega

/-- A block of the bits. -/
theorem block2 (W : (b : Ref sig .tc) → b.ty.Contents (Elt Ideal)) (t : Fin cfg0.N) (p : Fin 400) (l : Fin 128) :
    ((cfg0.win 2).blk t).view.read (Elt Ideal) (W (Pipeline.arrRef spec0 2)) (ix2 p l) = W main_v1 (ix2 (rowOf t p) l) := by
  show W main_v1 (((cfg0.win 2).blk t).view.emb (ix2 p l)) = _
  refine congrArg (W main_v1) (funext fun a => Fin.ext ?_)
  match a with
  | ⟨0, _⟩ => show win0_2.index t (0 : Fin 2) * 400 + 1 * p.val = 400 * t.val + p.val; rw [(index2 t).1]; omega
  | ⟨1, _⟩ => show win0_2.index t (1 : Fin 2) * 128 + 1 * l.val = l.val; rw [(index2 t).2]; omega

/-- A block of the steps. -/
theorem block3 (W : (b : Ref sig .tc) → b.ty.Contents (Elt Ideal)) (t : Fin cfg0.N) (p : Fin 400) (l : Fin 128) :
    ((cfg0.win 3).blk t).view.read (Elt Ideal) (W (Pipeline.arrRef spec0 3)) (ix2 p l) = W main_v2 (ix2 (rowOf t p) l) := by
  show W main_v2 (((cfg0.win 3).blk t).view.emb (ix2 p l)) = _
  refine congrArg (W main_v2) (funext fun a => Fin.ext ?_)
  match a with
  | ⟨0, _⟩ => show win0_3.index t (0 : Fin 2) * 400 + 1 * p.val = 400 * t.val + p.val; rw [(index3 t).1]; omega
  | ⟨1, _⟩ => show win0_3.index t (1 : Fin 2) * 128 + 1 * l.val = l.val; rw [(index3 t).2]; omega

/-! ## The results -/

/-- A rectangle from the origin. -/
theorem origin : (![0, 0] : Fin 2 → Nat) = fun _ => 0 := funext fun a => by fin_cases a <;> rfl

/-- What the body leaves of the logarithms. -/
theorem out4 (x v : Vec Ideal S400x256 .f32) (y z : Vec Ideal S400x128 .i32) : out0_4 x v y z = logs x y z := by
  unfold out0_4 k0_pay19 k0_pay18 k0_pay17 k0_pay16 k0_pay15 k0_pay14 k0_pay13 logs weights
  rw [View.canon_unit_zero origin, View.ld_unit_zero origin, View.ld_unit_zero origin, View.ld_unit_zero origin]

/-- What the body leaves of the drawn rows. -/
theorem out5 (x v : Vec Ideal S400x256 .f32) (y z : Vec Ideal S400x128 .i32) : out0_5 x v y z = draws x v y z := by
  unfold out0_5 k0_pay19 k0_pay18 k0_pay17 k0_pay16 k0_pay15 k0_pay14 k0_pay13 draws weights
  rw [View.canon_unit_zero origin, View.ld_unit_zero origin, View.ld_unit_zero origin, View.ld_unit_zero origin, View.ld_unit_zero origin]

/-- Where a block of the first result lies. -/
theorem place4 (t : Fin cfg0.N) (p : Fin 400) (l : Fin 256) : ((cfg0.win 4).blk t).view.emb (ix2 p l) = ix2 (rowOf t p) l := by
  refine funext fun a => Fin.ext ?_
  match a with
  | ⟨0, _⟩ => show win0_4.index t (0 : Fin 2) * 400 + 1 * p.val = 400 * t.val + p.val; rw [(index4 t).1]; omega
  | ⟨1, _⟩ => show win0_4.index t (1 : Fin 2) * 256 + 1 * l.val = l.val; rw [(index4 t).2]; omega

/-- Where a block of the second result lies. -/
theorem place5 (t : Fin cfg0.N) (p : Fin 400) (l : Fin 256) : ((cfg0.win 5).blk t).view.emb (ix2 p l) = ix2 (rowOf t p) l := by
  refine funext fun a => Fin.ext ?_
  match a with
  | ⟨0, _⟩ => show win0_5.index t (0 : Fin 2) * 400 + 1 * p.val = 400 * t.val + p.val; rw [(index5 t).1]; omega
  | ⟨1, _⟩ => show win0_5.index t (1 : Fin 2) * 256 + 1 * l.val = l.val; rw [(index5 t).2]; omega

/-- A block of the first result, read back. -/
theorem read4 (A : Vec Ideal S50000x256 .f32) (t : Fin cfg0.N) (p : Fin 400) (l : Fin 256) :
    ((cfg0.win 4).blk t).view.read (Elt Ideal) A (ix2 p l) = A (ix2 (rowOf t p) l) :=
  congrArg A (place4 t p l)

/-- Nothing is cut from a block of the first result. -/
theorem cut4 (O : Vec Ideal S400x256 .f32) (t : Fin cfg0.N) (p : Fin 400) (l : Fin 256) :
    (cfg0.win 4).cut (grid0.coords t) O (ix2 p l) = O (ix2 p l) := rfl

/-- The first result at a row of a block. -/
theorem result4 (t : Fin cfg0.N) (p : Fin 400) (l : Fin 256) :
    (dats m 0 c).arrAt 4 cfg0.N (ix2 (rowOf t p) l) = logs (iblk m c 0 t) (iblk m c 2 t) (iblk m c 3 t) (ix2 p l) :=
  (read4 ((dats m 0 c).arrAt 4 cfg0.N) t p l).symm.trans ((congrFun (Value.blocks4 m c t (flush0_4 t)) (ix2 p l)).trans
    ((congrFun (Value.flushed4 m c t) (ix2 p l)).trans ((cut4 _ t p l).trans
      (congrFun (out4 (iblk m c 0 t) (iblk m c 1 t) (iblk m c 2 t) (iblk m c 3 t)) (ix2 p l)))))

/-- A block of the second result, read back. -/
theorem read5 (A : Vec Ideal S50000x256 .f32) (t : Fin cfg0.N) (p : Fin 400) (l : Fin 256) :
    ((cfg0.win 5).blk t).view.read (Elt Ideal) A (ix2 p l) = A (ix2 (rowOf t p) l) :=
  congrArg A (place5 t p l)

/-- Nothing is cut from a block of the second result. -/
theorem cut5 (O : Vec Ideal S400x256 .f32) (t : Fin cfg0.N) (p : Fin 400) (l : Fin 256) :
    (cfg0.win 5).cut (grid0.coords t) O (ix2 p l) = O (ix2 p l) := rfl

/-- The second result at a row of a block. -/
theorem result5 (t : Fin cfg0.N) (p : Fin 400) (l : Fin 256) :
    (dats m 0 c).arrAt 5 cfg0.N (ix2 (rowOf t p) l) = draws (iblk m c 0 t) (iblk m c 1 t) (iblk m c 2 t) (iblk m c 3 t) (ix2 p l) :=
  (read5 ((dats m 0 c).arrAt 5 cfg0.N) t p l).symm.trans ((congrFun (Value.blocks5 m c t (flush0_5 t)) (ix2 p l)).trans
    ((congrFun (Value.flushed5 m c t) (ix2 p l)).trans ((cut5 _ t p l).trans
      (congrFun (out5 (iblk m c 0 t) (iblk m c 1 t) (iblk m c 2 t) (iblk m c 3 t)) (ix2 p l)))))

end Cert.KernelValue

end
-- ==== Proof.Equal.lean ====
module

public import proofs.«01_k».proof.Proof.KernelArrays
public import proofs.«01_k».proof.Proof.KernelValue

/-! On the same inputs the entries the kernel's points write back are the reference's. -/

@[expose] public section

noncomputable section

namespace Cert.Equal

open Cert.KernelIdeal Cert.KernelIdeal.Gen Idealize.ShloMosaic Idealize.ShloMosaic.TcCoe Idealize.SL.Sem Idealize.ShloMosaic.StableHlo
  Idealize.ShloMosaic.ValueIdx Idealize.ShloMosaic.Routing Cert.Posterior Cert.KernelBlock Cert.KernelArrays Cert.KernelValue Cert.RefValue

/-- The kernel's buffers at its launch and the reference's at its end, on the same drawn inputs. -/
structure Same (W : (b : Ref sig .tc) → b.ty.Contents (Elt Ideal)) (V : (b : Ref Cert.ReferenceIdeal.sig .tc) → b.ty.Contents (Elt Ideal)) : Prop where
  entered : Entered W
  left : Left V
  logits : ∀ j, W main_arg0 j = V Cert.ReferenceIdeal.main_arg0 j
  bits : ∀ j, W main_arg1 j = V Cert.ReferenceIdeal.main_arg1 j
  steps : ∀ j, W main_arg2 j = V Cert.ReferenceIdeal.main_arg2 j
  real : ∀ j, ∃ a : ℝ, V Cert.ReferenceIdeal.main_arg0 j = (a : EReal)
  bit : ∀ j, V Cert.ReferenceIdeal.main_arg1 j = 0#32 ∨ V Cert.ReferenceIdeal.main_arg1 j = 1#32
  step : ∀ j, ∃ t < 1000, V Cert.ReferenceIdeal.main_arg2 j = BitVec.ofNat 32 t

variable {W : (b : Ref sig .tc) → b.ty.Contents (Elt Ideal)} {V : (b : Ref Cert.ReferenceIdeal.sig .tc) → b.ty.Contents (Elt Ideal)} (s : Same W V)
include s

/-- The reference's first result in rows of 256. -/
theorem Same.first (r : Fin 50000) (q : Fin 128) (k : Fin 2) :
    V Cert.ReferenceIdeal.main_v161 (ix2 r (lane q k)) = V Cert.ReferenceIdeal.main_v139 (ix2 (edge r q) k) :=
  (congrFun (rdR s.left 513 rfl (by decide) :) _).trans
    (wide (V Cert.ReferenceIdeal.main_v139) Cert.ReferenceIdeal.Gen.shapeCasts_S6400000x2_S50000x256 r q k)

/-- The reference's second result in rows of 256. -/
theorem Same.second (r : Fin 50000) (q : Fin 128) (k : Fin 2) :
    V Cert.ReferenceIdeal.main_v162 (ix2 r (lane q k)) = V Cert.ReferenceIdeal.main_v160 (ix2 (edge r q) k) :=
  (congrFun (rdR s.left 514 rfl (by decide) :) _).trans
    (wide (V Cert.ReferenceIdeal.main_v160) Cert.ReferenceIdeal.Gen.shapeCasts_S6400000x2_S50000x256 r q k)

section Block

variable {x v : Vec Ideal S400x256 .f32} {y z : Vec Ideal S400x128 .i32} (t : Fin cfg0.N)
  (hx : ∀ p l, x (ix2 p l) = W main_v0 (ix2 (rowOf t p) l)) (hv : ∀ p l, v (ix2 p l) = W main_v17 (ix2 (rowOf t p) l))
  (hy : ∀ p l, y (ix2 p l) = W main_v1 (ix2 (rowOf t p) l)) (hz : ∀ p l, z (ix2 p l) = W main_v2 (ix2 (rowOf t p) l))
  (p : Fin 400) (q : Fin 128)
include hx hv hy hz

/-- Both results at an edge. -/
theorem Same.both (k : Fin 2) : logs x y z (ix2 p (lane q k)) = V Cert.ReferenceIdeal.main_v161 (ix2 (rowOf t p) (lane q k))
    ∧ draws x v y z (ix2 p (lane q k)) = V Cert.ReferenceIdeal.main_v162 (ix2 (rowOf t p) (lane q k)) := by
  obtain ⟨a, ha⟩ := s.real (ix2 (edge (rowOf t p) q) (0 : Fin 2))
  obtain ⟨b, hb⟩ := s.real (ix2 (edge (rowOf t p) q) (1 : Fin 2))
  obtain ⟨n, hn, h2⟩ := s.step (ix1 (edge (rowOf t p) q))
  obtain ⟨v0, h0, e0⟩ := exponential s.left (ix2 (edge (rowOf t p) q) (0 : Fin 2))
  obtain ⟨v1, h1, e1⟩ := exponential s.left (ix2 (edge (rowOf t p) q) (1 : Fin 2))
  have e : Edge x v y z p q a b v0 v1 (V Cert.ReferenceIdeal.main_arg1 (ix1 (edge (rowOf t p) q))) n :=
    { a := (hx p (lane q 0)).trans ((KernelArrays.logits s.entered (rowOf t p) q 0).trans ((s.logits _).trans ha))
      b := (hx p (lane q 1)).trans ((KernelArrays.logits s.entered (rowOf t p) q 1).trans ((s.logits _).trans hb))
      v0 := (hv p (lane q 0)).trans ((exponentials s.entered (rowOf t p) q 0).trans ((congrFun (same s.entered s.left) _).trans e0))
      v1 := (hv p (lane q 1)).trans ((exponentials s.entered (rowOf t p) q 1).trans ((congrFun (same s.entered s.left) _).trans e1))
      bit := (hy p q).trans ((KernelArrays.bits s.entered (rowOf t p) q).trans (s.bits _))
      step := (hz p q).trans ((KernelArrays.steps s.entered (rowOf t p) q).trans ((s.steps _).trans h2))
      bit_le := s.bit _
      step_lt := hn }
  obtain ⟨l0, l1⟩ := e.logs
  obtain ⟨p0, p1⟩ := posterior s.left hn ha hb h2
  have d := e.draws k
  have w := sample s.left hn ha hb h2 h0 h1 e0 e1 k
  refine ⟨?_, ?_⟩
  · rw [s.first]
    have hk : ∀ k : Fin 2, k = 0 ∨ k = 1 := by decide
    rcases hk k with rfl | rfl
    · exact l0.eq.trans p0.eq.symm
    · exact l1.eq.trans p1.eq.symm
  · rw [s.second]
    exact d.eq.trans w.eq.symm

end Block

end Cert.Equal

end
-- ==== Proof.Inputs.lean ====
module

public import proofs.«01_k».proof.Proof.Posterior
public import proofs.«01_k».proof.Proof.Gen.Pre_drawn
public import Idealize.ShloMosaic.Lib.ValueIdx

/-! What the precondition says of the inputs: the logits are reals, the bits are zero or one, the steps lie below a thousand. -/

@[expose] public section

noncomputable section

namespace Cert.Inputs

open Idealize.ShloMosaic Idealize.ShloMosaic.ValueIdx Cert.Posterior Cert.Pre_drawn Cert.Pre_drawn.Gen

/-- Both of two tests hold where their conjunction is set. -/
theorem both {x y : Bool} (h : IntOp.andi (BitVec.ofBool x) (BitVec.ofBool y) = 1#1) : x = true ∧ y = true := by
  revert h; revert x y; decide

/-- The bits of plus infinity. -/
theorem ofBits_inf : Ideal.ofBits .f32 0x7F800000#32 = ⊤ := by
  simp [Ideal.ofBits, Ideal.ieee]

/-- An integer that passes both tests lies in the range. -/
theorem range {X : BitVec 32} {n : ℕ} (hn : n < 2 ^ 31)
    (h : IntOp.andi (IntOp.cmpi .sge X 0#32) (IntOp.cmpi .slt X (BitVec.ofNat 32 n)) = 1#1) : ∃ k < n, X = BitVec.ofNat 32 k := by
  obtain ⟨h0, h1⟩ := both h
  have e0 : (0#32).toInt ≤ X.toInt := by simpa [BitVec.sle] using h0
  have e1 : X.toInt < (BitVec.ofNat 32 n).toInt := by simpa [BitVec.slt] using h1
  have z : (0#32).toInt = 0 := rfl
  have e2 : (BitVec.ofNat 32 n).toInt = n := by
    rw [BitVec.toInt_eq_toNat_of_lt] <;> rw [BitVec.toNat_ofNat, Nat.mod_eq_of_lt] <;> omega
  rw [z] at e0
  rw [e2] at e1
  refine ⟨X.toNat, ?_, by simp⟩
  have := BitVec.toInt_eq_toNat_cond X
  have := X.isLt
  split at * <;> omega

variable {a0 : FVec Ideal S6400000x2 .f32} {a1 a2 : IVec S6400000 32}

/-- The logits are reals. -/
theorem real (h : (fn (F := Ideal) a0 a1 a2).1 = fun _ => 1#1) (j : S6400000x2.Idx) : ∃ a : ℝ, a0 j = (a : EReal) := by
  have e : IntOp.andi (Ideal.cmp .ogt (a0 j) (Ideal.ofBits .f32 0xFF800000#32)) (Ideal.cmp .olt (a0 j) (Ideal.ofBits .f32 0x7F800000#32)) = 1#1 :=
    congrFun h j
  rw [ofBits_neg_inf, ofBits_inf] at e
  obtain ⟨h0, h1⟩ := both e
  exact ⟨(a0 j).toReal, (EReal.coe_toReal (of_decide_eq_true h1).ne (of_decide_eq_true h0).ne').symm⟩

/-- The bits are zero or one. -/
theorem bit (h : (fn (F := Ideal) a0 a1 a2).2.1 = fun _ => 1#1) (j : S6400000.Idx) : a1 j = 0#32 ∨ a1 j = 1#32 := by
  obtain ⟨k, hk, e⟩ := range (X := a1 j) (n := 2) (by norm_num) (congrFun h j)
  have : k = 0 ∨ k = 1 := by omega
  rcases this with rfl | rfl
  · exact .inl e
  · exact .inr e

/-- The steps lie below a thousand. -/
theorem step (h : (fn (F := Ideal) a0 a1 a2).2.2 = fun _ => 1#1) (j : S6400000.Idx) : ∃ t < 1000, a2 j = BitVec.ofNat 32 t :=
  range (X := a2 j) (n := 1000) (by norm_num) (congrFun h j)

end Cert.Inputs

end
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.Pre_drawn
public import proofs.«01_k».proof.Proof.RefRise
public import Idealize.ShloMosaic.Lib.Quiescent
public import Idealize.ShloMosaic.Lib.Claim

/-! The three programs run to their ends and leave their arguments alone, and the two named constants are what
the kernel's table says. -/

@[expose] public section

noncomputable section

namespace Cert.Frames

open Idealize.ShloMosaic Idealize.ShloMosaic.TcCoe Idealize.SL.Sem Idealize.ShloMosaic.StableHlo

/-- The reference leaves its three arguments as they were. -/
theorem ref_args (m : (ℓ : Loc Cert.ReferenceIdeal.nD Cert.ReferenceIdeal.τ Cert.ReferenceIdeal.sig) → Buf (Elt Ideal) ℓ)
    (c : Dev Cert.ReferenceIdeal.nD) (b : Ref Cert.ReferenceIdeal.sig .tc) (h : b.idx.val < 3) :
    Ref.fin m c (Proc.devRef .tc b) = m ((c.tc : Thread Cert.ReferenceIdeal.nD Cert.ReferenceIdeal.τ).loc b) :=
  Straight.after_low Ref.ops 3 (launchContents m c) (Proc.devRef .tc b) Ref.ops_rising h

/-- The printed kernel's frame. -/
theorem kernel : Cert.quiescent_Kernel (hKernel := Cert.Kernel.Gen.facts) := fun m ρ _ => Cert.Kernel.Gen.frame m ρ

/-- The idealized kernel's frame. -/
theorem kernelIdeal : Cert.quiescent_KernelIdeal (hKernelIdeal := Cert.KernelIdeal.Gen.facts) :=
  fun m ρ _ => Cert.KernelIdeal.Gen.frame m ρ

/-- The idealized kernel's frame, on drawn inputs. -/
theorem kernelIdeal_drawn : Cert.quiescent_KernelIdeal_pre_drawn (hKernelIdeal := Cert.KernelIdeal.Gen.facts)
    (hPre_drawn := Cert.Pre_drawn.Gen.facts) :=
  fun m ρ _ => Cert.KernelIdeal.Gen.frame m ρ

/-- The reference's frame. -/
theorem reference : Cert.quiescent_ReferenceIdeal (hReferenceIdeal := Cert.ReferenceIdeal.Gen.facts) := fun m ρ _ =>
  (θ_run Cert.ReferenceIdeal.defs _ _).mono (fun r h => ⟨fun c => ⟨(h c _).trans (ref_args m c _ (by decide)),
      (h c _).trans (ref_args m c _ (by decide)), (h c _).trans (ref_args m c _ (by decide))⟩,
      Idealize.ShloMosaic.sem_eq_zero_of_no_sems (by decide) r.2⟩)
    (Ref.run m ρ)

/-- The reference's frame, on drawn inputs. -/
theorem reference_drawn : Cert.quiescent_ReferenceIdeal_pre_drawn (hReferenceIdeal := Cert.ReferenceIdeal.Gen.facts)
    (hPre_drawn := Cert.Pre_drawn.Gen.facts) := fun m ρ _ => reference m ρ trivial

/-- The kernel's table gives the two names their values. -/
theorem preserves : Cert.preserves_Kernel_KernelIdeal :=
  ⟨IdealRules.named_const.statement Cert.KernelIdeal.κ "thousandth" .f32 0x3A83126F#32 ((1 / 1000 : ℝ) : EReal) rfl,
    IdealRules.named_const.statement Cert.KernelIdeal.κ "log_floor" .f32 0xC28A27B5#32
      ((Real.log (332307 / 332306998946228968225951765070086144) : ℝ) : EReal) rfl⟩

end Cert.Frames

end
-- ==== Proof.Algebraic.lean ====
module

public import proofs.«01_k».proof.Defs
public import proofs.«01_k».proof.Proof.Equal
public import proofs.«01_k».proof.Proof.Inputs
public import proofs.«01_k».proof.Proof.Frames

/-! The kernel computes the reference's two results. -/

@[expose] public section

noncomputable section

namespace Cert.Algebraic

open Idealize.ShloMosaic Idealize.ShloMosaic.TcCoe Idealize.SL.Sem Idealize.ShloMosaic.StableHlo Idealize.ShloMosaic.ValueIdx
  Cert.KernelBlock Cert.KernelValue

/-- The kernel's memory at launch. -/
abbrev KMem := (ℓ : Loc Cert.KernelIdeal.nD Cert.KernelIdeal.τ Cert.KernelIdeal.sig) → Buf (Elt Ideal) ℓ
/-- The reference's memory at its start. -/
abbrev RMem := (ℓ : Loc Cert.ReferenceIdeal.nD Cert.ReferenceIdeal.τ Cert.ReferenceIdeal.sig) → Buf (Elt Ideal) ℓ

/-- What the reference leaves in a core's buffers. -/
abbrev out (m' : RMem) (c : Dev Cert.ReferenceIdeal.nD) (b : Ref Cert.ReferenceIdeal.sig .tc) : b.ty.Contents (Elt Ideal) :=
  Ref.fin m' c (Proc.devRef .tc b)

variable {m : KMem} {m' : RMem} (c : Dev Cert.KernelIdeal.nD)
  (hp : Cert.Pre_KernelIdeal_drawn (hPre_drawn := Cert.Pre_drawn.Gen.facts) m)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
include hp h0 h1 h2

/-- The two runs of a core are on the same drawn inputs. -/
theorem same : Equal.Same (Cert.KernelIdeal.Gen.V m c) (out m' c) := by
  have a0 : out m' c Cert.ReferenceIdeal.main_arg0 = _ := (Frames.ref_args m' c Cert.ReferenceIdeal.main_arg0 (by decide)).trans h0
  have a1 : out m' c Cert.ReferenceIdeal.main_arg1 = _ := (Frames.ref_args m' c Cert.ReferenceIdeal.main_arg1 (by decide)).trans h1
  have a2 : out m' c Cert.ReferenceIdeal.main_arg2 = _ := (Frames.ref_args m' c Cert.ReferenceIdeal.main_arg2 (by decide)).trans h2
  obtain ⟨p0, p1, p2⟩ := hp c
  exact
    { entered := ⟨fun b => m (c, b), fun _ => rfl⟩
      left := ⟨launchContents m' c, fun _ => rfl⟩
      logits := fun j => congrFun ((Cert.KernelIdeal.Gen.V_main_arg0 m c).trans a0.symm) j
      bits := fun j => congrFun ((Cert.KernelIdeal.Gen.V_main_arg1 m c).trans a1.symm) j
      steps := fun j => congrFun ((Cert.KernelIdeal.Gen.V_main_arg2 m c).trans a2.symm) j
      real := fun j => (Inputs.real p0 j).imp fun _ e => (congrFun a0 j).trans e
      bit := fun j => (Inputs.bit p1 j).imp (fun e => (congrFun a1 j).trans e) fun e => (congrFun a1 j).trans e
      step := fun j => (Inputs.step p2 j).imp fun _ e => ⟨e.1, (congrFun a2 j).trans e.2⟩ }

/-- The kernel's two results are the reference's, at every entry. -/
theorem entries (r : Fin 50000) (l : Fin 256) :
    (Cert.KernelIdeal.Gen.dats m 0 c).arrAt 4 Cert.KernelIdeal.cfg0.N (ix2 r l) = out m' c Cert.ReferenceIdeal.main_v161 (ix2 r l)
    ∧ (Cert.KernelIdeal.Gen.dats m 0 c).arrAt 5 Cert.KernelIdeal.cfg0.N (ix2 r l) = out m' c Cert.ReferenceIdeal.main_v162 (ix2 r l) := by
  have hr := r.isLt
  have hl := l.isLt
  have ht : r.val / 400 < Cert.KernelIdeal.cfg0.N := lt_of_lt_of_eq (b := 125) (by omega) Cert.KernelIdeal.Gen.N_0.symm
  have er : r = rowOf ⟨r.val / 400, ht⟩ ⟨r.val % 400, by omega⟩ := Fin.ext (by show r.val = 400 * (r.val / 400) + r.val % 400; omega)
  have el : l = lane ⟨l.val / 2, by omega⟩ ⟨l.val % 2, by omega⟩ := Fin.ext (by show l.val = 2 * (l.val / 2) + l.val % 2; omega)
  rw [er, el]
  generalize (⟨r.val / 400, ht⟩ : Fin Cert.KernelIdeal.cfg0.N) = t
  have b := (same c hp h0 h1 h2).both t (block0 (Cert.KernelIdeal.Gen.V m c) t) (block1 (Cert.KernelIdeal.Gen.V m c) t)
    (block2 (Cert.KernelIdeal.Gen.V m c) t) (block3 (Cert.KernelIdeal.Gen.V m c) t) ⟨r.val % 400, by omega⟩ ⟨l.val / 2, by omega⟩ ⟨l.val % 2, by omega⟩
  exact ⟨(result4 m c t _ _).trans b.1, (result5 m c t _ _).trans b.2⟩

omit hp h0 h1 h2 in
/-- The claim. -/
theorem algebraic : Cert.algebraic_KernelIdeal_ReferenceIdeal_pre_drawn (hKernelIdeal := Cert.KernelIdeal.Gen.facts)
    (hReferenceIdeal := Cert.ReferenceIdeal.Gen.facts) (hPre_drawn := Cert.Pre_drawn.Gen.facts) := by
  intro m g m' g' hp ha
  refine ⟨fun c => (Cert.KernelIdeal.Gen.dats m 0 c).arrAt 4 Cert.KernelIdeal.cfg0.N, fun c => (Cert.KernelIdeal.Gen.dats m 0 c).arrAt 5 Cert.KernelIdeal.cfg0.N,
    Cert.KernelIdeal.Value.run_blocks m g, ?_⟩
  refine (θ_run Cert.ReferenceIdeal.defs _ _).mono (fun r h c => ?_) (Ref.run m' g')
  have e := entries c hp (ha c).1 (ha c).2.1 (ha c).2.2
  refine ⟨(h c _).trans (funext fun j => ?_), (h c _).trans (funext fun j => ?_), (h c _).trans (Frames.ref_args m' c _ (by decide)),
    (h c _).trans (Frames.ref_args m' c _ (by decide)), (h c _).trans (Frames.ref_args m' c _ (by decide))⟩
  · rw [eq_ix2 j]
    exact (e _ _).1.symm
  · rw [eq_ix2 j]
    exact (e _ _).2.symm

end Cert.Algebraic

end
-- ==== Proof.lean ====
module

public import proofs.«01_k».proof.Proof.Algebraic

@[expose] public section

/-- Everything the certificate claims. -/
theorem Cert.Proof.claim : Cert.Claim :=
  ⟨Cert.Kernel.Gen.facts, Cert.KernelIdeal.Gen.facts, Cert.ReferenceIdeal.Gen.facts, Cert.Pre_drawn.Gen.facts, Cert.Frames.kernel,
    Cert.Frames.kernelIdeal, Cert.Frames.kernelIdeal_drawn, Cert.Frames.reference, Cert.Frames.reference_drawn, Cert.Frames.preserves,
    Cert.Algebraic.algebraic⟩
